-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tables [hPre_finite_tables : Cert.Pre_finite_tables.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tables [hPre_finite_tables : Cert.Pre_finite_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_tables [hKernelIdeal : Cert.KernelIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_tables [hReferenceIdeal : Cert.ReferenceIdeal.Facts] [hPre_finite_tables : Cert.Pre_finite_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_tables [hKernelIdeal : Cert.KernelIdeal.Facts] [hReferenceIdeal : Cert.ReferenceIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v304)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v304) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_v67) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_v31) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_tables : Cert.Pre_finite_tables.Facts),
    quiescent_Kernel (hKernel := hKernel)
    ∧ quiescent_KernelIdeal (hKernelIdeal := hKernelIdeal)
    ∧ quiescent_KernelIdeal_pre_finite_tables (hKernelIdeal := hKernelIdeal) (hPre_finite_tables := hPre_finite_tables)
    ∧ quiescent_ReferenceIdeal (hReferenceIdeal := hReferenceIdeal)
    ∧ quiescent_ReferenceIdeal_pre_finite_tables (hReferenceIdeal := hReferenceIdeal) (hPre_finite_tables := hPre_finite_tables)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_tables (hKernelIdeal := hKernelIdeal) (hReferenceIdeal := hReferenceIdeal) (hPre_finite_tables := hPre_finite_tables)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_tables.lean ====
abbrev S33280x14336 : Shape := ⟨2, ![33280, 14336]⟩
abbrev S4x15x31 : Shape := ⟨3, ![4, 15, 31]⟩
abbrev S128 : Shape := ⟨1, ![128]⟩
abbrev S_ : Shape := ⟨0, ![]⟩

class Facts : Prop where
  bcast_S_S4x15x31 : S_.BroadcastsInDim S4x15x31 (![] : Fin 0 → Fin S4x15x31.rank)
  bcast_S_S128 : S_.BroadcastsInDim S128 (![] : Fin 0 → Fin S128.rank)

variable [Facts]

def fn {F : FTy → Type} [FloatOps F] (main_arg0 : FVec F S33280x14336 .f32) (main_arg1 : FVec F S4x15x31 .f32) (main_arg2 : FVec F S128 .f32) (main_arg3 : FVec F S128 .f32) : IVec S4x15x31 1 × IVec S128 1 × IVec S128 1 :=
  let main_v0 : FVec F S4x15x31 .f32 := Host.absf main_arg1
  let main_cst : FVec F S_ .f32 := constant S_ .f32 0x7F800000#32
  let main_v1 : FVec F S4x15x31 .f32 := broadcastInDim S4x15x31 ![] bcast_S_S4x15x31 main_cst
  let main_v2 : IVec S4x15x31 1 := cmpf .olt main_v0 main_v1
  let main_v3 : FVec F S128 .f32 := Host.absf main_arg2
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : FVec F S128 .f32 := Host.absf main_arg3
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  (main_v2, main_v5, main_v8)
-- ==== Kernel.lean ====
abbrev S33280x14336 : Shape := ⟨2, ![33280, 14336]⟩
abbrev S4x15x31 : Shape := ⟨3, ![4, 15, 31]⟩
abbrev S128 : Shape := ⟨1, ![128]⟩
abbrev S256x768 : Shape := ⟨2, ![256, 768]⟩
abbrev S_ : Shape := ⟨0, ![]⟩
abbrev S4x15x127 : Shape := ⟨3, ![4, 15, 127]⟩
abbrev S4x15x64 : Shape := ⟨3, ![4, 15, 64]⟩
abbrev S4x15x1x64 : Shape := ⟨4, ![4, 15, 1, 64]⟩
abbrev S4x15x16x64 : Shape := ⟨4, ![4, 15, 16, 64]⟩
abbrev S4x15x64x64 : Shape := ⟨4, ![4, 15, 64, 64]⟩
abbrev S4x1x64x64 : Shape := ⟨4, ![4, 1, 64, 64]⟩
abbrev S4x64x64 : Shape := ⟨3, ![4, 64, 64]⟩
abbrev S4x64x1x64 : Shape := ⟨4, ![4, 64, 1, 64]⟩
abbrev S4x64x12x64 : Shape := ⟨4, ![4, 64, 12, 64]⟩
abbrev S4x1x64x12x64 : Shape := ⟨5, ![4, 1, 64, 12, 64]⟩
abbrev S4x4x64x12x64 : Shape := ⟨5, ![4, 4, 64, 12, 64]⟩
abbrev S4x256x768 : Shape := ⟨3, ![4, 256, 768]⟩
abbrev S1x256x768 : Shape := ⟨3, ![1, 256, 768]⟩
abbrev S1x128 : Shape := ⟨2, ![1, 128]⟩
abbrev S33280x512 : Shape := ⟨2, ![33280, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S768x128 : Shape := ⟨2, ![768, 128]⟩
abbrev S768 : Shape := ⟨1, ![768]⟩
abbrev S768x1 : Shape := ⟨2, ![768, 1]⟩
abbrev S256x256 : Shape := ⟨2, ![256, 256]⟩

abbrev nBuf : Space → Nat
  | .hbm => 366
  | .vmem => 23
  | .smem => 0
  | _ => 0

abbrev hbmTy0_0 (i : Nat) : BufTy := match i % 128 with
  | 0 => ⟨S33280x14336, .f32⟩
  | 1 => ⟨S4x15x31, .f32⟩
  | 2 => ⟨S128, .f32⟩
  | 3 => ⟨S128, .f32⟩
  | 4 => ⟨S256x768, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S256x768, .i32⟩
  | 12 => ⟨S256x768, .i32⟩
  | 13 => ⟨S_, .i32⟩
  | 14 => ⟨S256x768, .i32⟩
  | 15 => ⟨S256x768, .i1⟩
  | 16 => ⟨S_, .i32⟩
  | 17 => ⟨S256x768, .i32⟩
  | 18 => ⟨S256x768, .i1⟩
  | 19 => ⟨S_, .i32⟩
  | 20 => ⟨S_, .i1⟩
  | 21 => ⟨S256x768, .i1⟩
  | 22 => ⟨S256x768, .i1⟩
  | 23 => ⟨S256x768, .i1⟩
  | 24 => ⟨S256x768, .i32⟩
  | 25 => ⟨S256x768, .i32⟩
  | 26 => ⟨S256x768, .i32⟩
  | 27 => ⟨S256x768, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S256x768, .i32⟩
  | 35 => ⟨S256x768, .i32⟩
  | 36 => ⟨S_, .i32⟩
  | 37 => ⟨S256x768, .i32⟩
  | 38 => ⟨S256x768, .i1⟩
  | 39 => ⟨S_, .i32⟩
  | 40 => ⟨S256x768, .i32⟩
  | 41 => ⟨S256x768, .i1⟩
  | 42 => ⟨S_, .i32⟩
  | 43 => ⟨S_, .i1⟩
  | 44 => ⟨S256x768, .i1⟩
  | 45 => ⟨S256x768, .i1⟩
  | 46 => ⟨S256x768, .i1⟩
  | 47 => ⟨S256x768, .i32⟩
  | 48 => ⟨S256x768, .i32⟩
  | 49 => ⟨S256x768, .i32⟩
  | 50 => ⟨S_, .i32⟩
  | 51 => ⟨S256x768, .i32⟩
  | 52 => ⟨S256x768, .i32⟩
  | 53 => ⟨S_, .i32⟩
  | 54 => ⟨S_, .i32⟩
  | 55 => ⟨S_, .i32⟩
  | 56 => ⟨S256x768, .i32⟩
  | 57 => ⟨S256x768, .i32⟩
  | 58 => ⟨S_, .i32⟩
  | 59 => ⟨S256x768, .i32⟩
  | 60 => ⟨S256x768, .i32⟩
  | 61 => ⟨S256x768, .i1⟩
  | 62 => ⟨S_, .i32⟩
  | 63 => ⟨S256x768, .i32⟩
  | 64 => ⟨S256x768, .i32⟩
  | 65 => ⟨S256x768, .i1⟩
  | 66 => ⟨S256x768, .i1⟩
  | 67 => ⟨S_, .i32⟩
  | 68 => ⟨S_, .f32⟩
  | 69 => ⟨S4x15x127, .f32⟩
  | 70 => ⟨S4x15x64, .f32⟩
  | 71 => ⟨S4x15x64, .f32⟩
  | 72 => ⟨S4x15x64, .f32⟩
  | 73 => ⟨S4x15x64, .f32⟩
  | 74 => ⟨S4x15x64, .f32⟩
  | 75 => ⟨S4x15x64, .f32⟩
  | 76 => ⟨S4x15x64, .f32⟩
  | 77 => ⟨S4x15x64, .f32⟩
  | 78 => ⟨S4x15x64, .f32⟩
  | 79 => ⟨S4x15x64, .f32⟩
  | 80 => ⟨S4x15x64, .f32⟩
  | 81 => ⟨S4x15x64, .f32⟩
  | 82 => ⟨S4x15x64, .f32⟩
  | 83 => ⟨S4x15x64, .f32⟩
  | 84 => ⟨S4x15x64, .f32⟩
  | 85 => ⟨S4x15x64, .f32⟩
  | 86 => ⟨S4x15x64, .f32⟩
  | 87 => ⟨S4x15x64, .f32⟩
  | 88 => ⟨S4x15x64, .f32⟩
  | 89 => ⟨S4x15x64, .f32⟩
  | 90 => ⟨S4x15x64, .f32⟩
  | 91 => ⟨S4x15x64, .f32⟩
  | 92 => ⟨S4x15x64, .f32⟩
  | 93 => ⟨S4x15x64, .f32⟩
  | 94 => ⟨S4x15x64, .f32⟩
  | 95 => ⟨S4x15x64, .f32⟩
  | 96 => ⟨S4x15x64, .f32⟩
  | 97 => ⟨S4x15x64, .f32⟩
  | 98 => ⟨S4x15x64, .f32⟩
  | 99 => ⟨S4x15x64, .f32⟩
  | 100 => ⟨S4x15x64, .f32⟩
  | 101 => ⟨S4x15x64, .f32⟩
  | 102 => ⟨S4x15x64, .f32⟩
  | 103 => ⟨S4x15x64, .f32⟩
  | 104 => ⟨S4x15x64, .f32⟩
  | 105 => ⟨S4x15x64, .f32⟩
  | 106 => ⟨S4x15x64, .f32⟩
  | 107 => ⟨S4x15x64, .f32⟩
  | 108 => ⟨S4x15x64, .f32⟩
  | 109 => ⟨S4x15x64, .f32⟩
  | 110 => ⟨S4x15x64, .f32⟩
  | 111 => ⟨S4x15x64, .f32⟩
  | 112 => ⟨S4x15x64, .f32⟩
  | 113 => ⟨S4x15x64, .f32⟩
  | 114 => ⟨S4x15x64, .f32⟩
  | 115 => ⟨S4x15x64, .f32⟩
  | 116 => ⟨S4x15x64, .f32⟩
  | 117 => ⟨S4x15x64, .f32⟩
  | 118 => ⟨S4x15x64, .f32⟩
  | 119 => ⟨S4x15x64, .f32⟩
  | 120 => ⟨S4x15x64, .f32⟩
  | 121 => ⟨S4x15x64, .f32⟩
  | 122 => ⟨S4x15x64, .f32⟩
  | 123 => ⟨S4x15x64, .f32⟩
  | 124 => ⟨S4x15x64, .f32⟩
  | 125 => ⟨S4x15x64, .f32⟩
  | 126 => ⟨S4x15x64, .f32⟩
  | 127 => ⟨S4x15x64, .f32⟩
  | _ => ⟨S33280x14336, .f32⟩

abbrev hbmTy0_1 (i : Nat) : BufTy := match i % 128 with
  | 0 => ⟨S4x15x64, .f32⟩
  | 1 => ⟨S4x15x64, .f32⟩
  | 2 => ⟨S4x15x64, .f32⟩
  | 3 => ⟨S4x15x64, .f32⟩
  | 4 => ⟨S4x15x64, .f32⟩
  | 5 => ⟨S4x15x64, .f32⟩
  | 6 => ⟨S4x15x1x64, .f32⟩
  | 7 => ⟨S4x15x1x64, .f32⟩
  | 8 => ⟨S4x15x1x64, .f32⟩
  | 9 => ⟨S4x15x1x64, .f32⟩
  | 10 => ⟨S4x15x1x64, .f32⟩
  | 11 => ⟨S4x15x1x64, .f32⟩
  | 12 => ⟨S4x15x1x64, .f32⟩
  | 13 => ⟨S4x15x1x64, .f32⟩
  | 14 => ⟨S4x15x1x64, .f32⟩
  | 15 => ⟨S4x15x1x64, .f32⟩
  | 16 => ⟨S4x15x1x64, .f32⟩
  | 17 => ⟨S4x15x1x64, .f32⟩
  | 18 => ⟨S4x15x1x64, .f32⟩
  | 19 => ⟨S4x15x1x64, .f32⟩
  | 20 => ⟨S4x15x1x64, .f32⟩
  | 21 => ⟨S4x15x1x64, .f32⟩
  | 22 => ⟨S4x15x1x64, .f32⟩
  | 23 => ⟨S4x15x1x64, .f32⟩
  | 24 => ⟨S4x15x1x64, .f32⟩
  | 25 => ⟨S4x15x1x64, .f32⟩
  | 26 => ⟨S4x15x1x64, .f32⟩
  | 27 => ⟨S4x15x1x64, .f32⟩
  | 28 => ⟨S4x15x1x64, .f32⟩
  | 29 => ⟨S4x15x1x64, .f32⟩
  | 30 => ⟨S4x15x1x64, .f32⟩
  | 31 => ⟨S4x15x1x64, .f32⟩
  | 32 => ⟨S4x15x1x64, .f32⟩
  | 33 => ⟨S4x15x1x64, .f32⟩
  | 34 => ⟨S4x15x1x64, .f32⟩
  | 35 => ⟨S4x15x1x64, .f32⟩
  | 36 => ⟨S4x15x1x64, .f32⟩
  | 37 => ⟨S4x15x1x64, .f32⟩
  | 38 => ⟨S4x15x1x64, .f32⟩
  | 39 => ⟨S4x15x1x64, .f32⟩
  | 40 => ⟨S4x15x1x64, .f32⟩
  | 41 => ⟨S4x15x1x64, .f32⟩
  | 42 => ⟨S4x15x1x64, .f32⟩
  | 43 => ⟨S4x15x1x64, .f32⟩
  | 44 => ⟨S4x15x1x64, .f32⟩
  | 45 => ⟨S4x15x1x64, .f32⟩
  | 46 => ⟨S4x15x1x64, .f32⟩
  | 47 => ⟨S4x15x1x64, .f32⟩
  | 48 => ⟨S4x15x1x64, .f32⟩
  | 49 => ⟨S4x15x1x64, .f32⟩
  | 50 => ⟨S4x15x1x64, .f32⟩
  | 51 => ⟨S4x15x1x64, .f32⟩
  | 52 => ⟨S4x15x1x64, .f32⟩
  | 53 => ⟨S4x15x1x64, .f32⟩
  | 54 => ⟨S4x15x1x64, .f32⟩
  | 55 => ⟨S4x15x1x64, .f32⟩
  | 56 => ⟨S4x15x1x64, .f32⟩
  | 57 => ⟨S4x15x1x64, .f32⟩
  | 58 => ⟨S4x15x1x64, .f32⟩
  | 59 => ⟨S4x15x1x64, .f32⟩
  | 60 => ⟨S4x15x1x64, .f32⟩
  | 61 => ⟨S4x15x1x64, .f32⟩
  | 62 => ⟨S4x15x1x64, .f32⟩
  | 63 => ⟨S4x15x1x64, .f32⟩
  | 64 => ⟨S4x15x1x64, .f32⟩
  | 65 => ⟨S4x15x1x64, .f32⟩
  | 66 => ⟨S4x15x1x64, .f32⟩
  | 67 => ⟨S4x15x1x64, .f32⟩
  | 68 => ⟨S4x15x1x64, .f32⟩
  | 69 => ⟨S4x15x1x64, .f32⟩
  | 70 => ⟨S4x15x16x64, .f32⟩
  | 71 => ⟨S4x15x16x64, .f32⟩
  | 72 => ⟨S4x15x16x64, .f32⟩
  | 73 => ⟨S4x15x16x64, .f32⟩
  | 74 => ⟨S4x15x64x64, .f32⟩
  | 75 => ⟨S4x1x64x64, .f32⟩
  | 76 => ⟨S4x64x64, .f32⟩
  | 77 => ⟨S4x1x64x64, .f32⟩
  | 78 => ⟨S4x64x64, .f32⟩
  | 79 => ⟨S4x1x64x64, .f32⟩
  | 80 => ⟨S4x64x64, .f32⟩
  | 81 => ⟨S4x1x64x64, .f32⟩
  | 82 => ⟨S4x64x64, .f32⟩
  | 83 => ⟨S4x1x64x64, .f32⟩
  | 84 => ⟨S4x64x64, .f32⟩
  | 85 => ⟨S4x1x64x64, .f32⟩
  | 86 => ⟨S4x64x64, .f32⟩
  | 87 => ⟨S4x1x64x64, .f32⟩
  | 88 => ⟨S4x64x64, .f32⟩
  | 89 => ⟨S4x1x64x64, .f32⟩
  | 90 => ⟨S4x64x64, .f32⟩
  | 91 => ⟨S4x1x64x64, .f32⟩
  | 92 => ⟨S4x64x64, .f32⟩
  | 93 => ⟨S4x1x64x64, .f32⟩
  | 94 => ⟨S4x64x64, .f32⟩
  | 95 => ⟨S4x1x64x64, .f32⟩
  | 96 => ⟨S4x64x64, .f32⟩
  | 97 => ⟨S4x1x64x64, .f32⟩
  | 98 => ⟨S4x64x64, .f32⟩
  | 99 => ⟨S4x64x1x64, .f32⟩
  | 100 => ⟨S4x64x1x64, .f32⟩
  | 101 => ⟨S4x64x1x64, .f32⟩
  | 102 => ⟨S4x64x1x64, .f32⟩
  | 103 => ⟨S4x64x1x64, .f32⟩
  | 104 => ⟨S4x64x1x64, .f32⟩
  | 105 => ⟨S4x64x1x64, .f32⟩
  | 106 => ⟨S4x64x1x64, .f32⟩
  | 107 => ⟨S4x64x1x64, .f32⟩
  | 108 => ⟨S4x64x1x64, .f32⟩
  | 109 => ⟨S4x64x1x64, .f32⟩
  | 110 => ⟨S4x64x1x64, .f32⟩
  | 111 => ⟨S4x64x12x64, .f32⟩
  | 112 => ⟨S4x1x64x64, .f32⟩
  | 113 => ⟨S4x64x64, .f32⟩
  | 114 => ⟨S4x1x64x64, .f32⟩
  | 115 => ⟨S4x64x64, .f32⟩
  | 116 => ⟨S4x1x64x64, .f32⟩
  | 117 => ⟨S4x64x64, .f32⟩
  | 118 => ⟨S4x1x64x64, .f32⟩
  | 119 => ⟨S4x64x64, .f32⟩
  | 120 => ⟨S4x1x64x64, .f32⟩
  | 121 => ⟨S4x64x64, .f32⟩
  | 122 => ⟨S4x1x64x64, .f32⟩
  | 123 => ⟨S4x64x64, .f32⟩
  | 124 => ⟨S4x1x64x64, .f32⟩
  | 125 => ⟨S4x64x64, .f32⟩
  | 126 => ⟨S4x1x64x64, .f32⟩
  | 127 => ⟨S4x64x64, .f32⟩
  | _ => ⟨S33280x14336, .f32⟩

abbrev hbmTy0_2 (i : Nat) : BufTy := match i % 128 with
  | 0 => ⟨S4x1x64x64, .f32⟩
  | 1 => ⟨S4x64x64, .f32⟩
  | 2 => ⟨S4x1x64x64, .f32⟩
  | 3 => ⟨S4x64x64, .f32⟩
  | 4 => ⟨S4x1x64x64, .f32⟩
  | 5 => ⟨S4x64x64, .f32⟩
  | 6 => ⟨S4x1x64x64, .f32⟩
  | 7 => ⟨S4x64x64, .f32⟩
  | 8 => ⟨S4x64x1x64, .f32⟩
  | 9 => ⟨S4x64x1x64, .f32⟩
  | 10 => ⟨S4x64x1x64, .f32⟩
  | 11 => ⟨S4x64x1x64, .f32⟩
  | 12 => ⟨S4x64x1x64, .f32⟩
  | 13 => ⟨S4x64x1x64, .f32⟩
  | 14 => ⟨S4x64x1x64, .f32⟩
  | 15 => ⟨S4x64x1x64, .f32⟩
  | 16 => ⟨S4x64x1x64, .f32⟩
  | 17 => ⟨S4x64x1x64, .f32⟩
  | 18 => ⟨S4x64x1x64, .f32⟩
  | 19 => ⟨S4x64x1x64, .f32⟩
  | 20 => ⟨S4x64x12x64, .f32⟩
  | 21 => ⟨S4x1x64x64, .f32⟩
  | 22 => ⟨S4x64x64, .f32⟩
  | 23 => ⟨S4x1x64x64, .f32⟩
  | 24 => ⟨S4x64x64, .f32⟩
  | 25 => ⟨S4x1x64x64, .f32⟩
  | 26 => ⟨S4x64x64, .f32⟩
  | 27 => ⟨S4x1x64x64, .f32⟩
  | 28 => ⟨S4x64x64, .f32⟩
  | 29 => ⟨S4x1x64x64, .f32⟩
  | 30 => ⟨S4x64x64, .f32⟩
  | 31 => ⟨S4x1x64x64, .f32⟩
  | 32 => ⟨S4x64x64, .f32⟩
  | 33 => ⟨S4x1x64x64, .f32⟩
  | 34 => ⟨S4x64x64, .f32⟩
  | 35 => ⟨S4x1x64x64, .f32⟩
  | 36 => ⟨S4x64x64, .f32⟩
  | 37 => ⟨S4x1x64x64, .f32⟩
  | 38 => ⟨S4x64x64, .f32⟩
  | 39 => ⟨S4x1x64x64, .f32⟩
  | 40 => ⟨S4x64x64, .f32⟩
  | 41 => ⟨S4x1x64x64, .f32⟩
  | 42 => ⟨S4x64x64, .f32⟩
  | 43 => ⟨S4x1x64x64, .f32⟩
  | 44 => ⟨S4x64x64, .f32⟩
  | 45 => ⟨S4x64x1x64, .f32⟩
  | 46 => ⟨S4x64x1x64, .f32⟩
  | 47 => ⟨S4x64x1x64, .f32⟩
  | 48 => ⟨S4x64x1x64, .f32⟩
  | 49 => ⟨S4x64x1x64, .f32⟩
  | 50 => ⟨S4x64x1x64, .f32⟩
  | 51 => ⟨S4x64x1x64, .f32⟩
  | 52 => ⟨S4x64x1x64, .f32⟩
  | 53 => ⟨S4x64x1x64, .f32⟩
  | 54 => ⟨S4x64x1x64, .f32⟩
  | 55 => ⟨S4x64x1x64, .f32⟩
  | 56 => ⟨S4x64x1x64, .f32⟩
  | 57 => ⟨S4x64x12x64, .f32⟩
  | 58 => ⟨S4x1x64x64, .f32⟩
  | 59 => ⟨S4x64x64, .f32⟩
  | 60 => ⟨S4x1x64x64, .f32⟩
  | 61 => ⟨S4x64x64, .f32⟩
  | 62 => ⟨S4x1x64x64, .f32⟩
  | 63 => ⟨S4x64x64, .f32⟩
  | 64 => ⟨S4x1x64x64, .f32⟩
  | 65 => ⟨S4x64x64, .f32⟩
  | 66 => ⟨S4x1x64x64, .f32⟩
  | 67 => ⟨S4x64x64, .f32⟩
  | 68 => ⟨S4x1x64x64, .f32⟩
  | 69 => ⟨S4x64x64, .f32⟩
  | 70 => ⟨S4x1x64x64, .f32⟩
  | 71 => ⟨S4x64x64, .f32⟩
  | 72 => ⟨S4x1x64x64, .f32⟩
  | 73 => ⟨S4x64x64, .f32⟩
  | 74 => ⟨S4x1x64x64, .f32⟩
  | 75 => ⟨S4x64x64, .f32⟩
  | 76 => ⟨S4x1x64x64, .f32⟩
  | 77 => ⟨S4x64x64, .f32⟩
  | 78 => ⟨S4x1x64x64, .f32⟩
  | 79 => ⟨S4x64x64, .f32⟩
  | 80 => ⟨S4x1x64x64, .f32⟩
  | 81 => ⟨S4x64x64, .f32⟩
  | 82 => ⟨S4x64x1x64, .f32⟩
  | 83 => ⟨S4x64x1x64, .f32⟩
  | 84 => ⟨S4x64x1x64, .f32⟩
  | 85 => ⟨S4x64x1x64, .f32⟩
  | 86 => ⟨S4x64x1x64, .f32⟩
  | 87 => ⟨S4x64x1x64, .f32⟩
  | 88 => ⟨S4x64x1x64, .f32⟩
  | 89 => ⟨S4x64x1x64, .f32⟩
  | 90 => ⟨S4x64x1x64, .f32⟩
  | 91 => ⟨S4x64x1x64, .f32⟩
  | 92 => ⟨S4x64x1x64, .f32⟩
  | 93 => ⟨S4x64x1x64, .f32⟩
  | 94 => ⟨S4x64x12x64, .f32⟩
  | 95 => ⟨S4x1x64x12x64, .f32⟩
  | 96 => ⟨S4x1x64x12x64, .f32⟩
  | 97 => ⟨S4x1x64x12x64, .f32⟩
  | 98 => ⟨S4x1x64x12x64, .f32⟩
  | 99 => ⟨S4x4x64x12x64, .f32⟩
  | 100 => ⟨S4x256x768, .f32⟩
  | 101 => ⟨S1x256x768, .i1⟩
  | 102 => ⟨S_, .f32⟩
  | 103 => ⟨S_, .f32⟩
  | 104 => ⟨S4x256x768, .i1⟩
  | 105 => ⟨S4x256x768, .f32⟩
  | 106 => ⟨S4x256x768, .f32⟩
  | 107 => ⟨S1x128, .f32⟩
  | 108 => ⟨S1x128, .f32⟩
  | 109 => ⟨S33280x512, .f32⟩
  | _ => ⟨S33280x14336, .f32⟩

abbrev hbmTy (i : Nat) : BufTy := match i / 128 with
  | 0 => hbmTy0_0 i
  | 1 => hbmTy0_1 i
  | 2 => hbmTy0_2 i
  | _ => ⟨S33280x14336, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S4x256x768, .f32⟩
  | .local _ .vmem, ⟨19, _⟩ => ⟨S1x128, .f32⟩
  | .local _ .vmem, ⟨20, _⟩ => ⟨S1x128, .f32⟩
  | .local _ .vmem, ⟨21, _⟩ => ⟨S256x512, .f32⟩
  | .local _ .vmem, ⟨22, _⟩ => ⟨S256x512, .f32⟩
  | _, _ => ⟨S33280x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v3 : Ref sig .tc := ⟨.hbm, 49, rfl⟩
abbrev main_c_1 : Ref sig .tc := ⟨.hbm, 50, rfl⟩
abbrev main_v4 : Ref sig .tc := ⟨.hbm, 51, rfl⟩
abbrev main_v5 : Ref sig .tc := ⟨.hbm, 52, rfl⟩
abbrev main_c_2 : Ref sig .tc := ⟨.hbm, 53, rfl⟩
abbrev main_c_3 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v6 : Ref sig .tc := ⟨.hbm, 60, rfl⟩
abbrev main_v7 : Ref sig .tc := ⟨.hbm, 61, rfl⟩
abbrev main_c_4 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_c_5 : Ref sig .tc := ⟨.hbm, 67, rfl⟩
abbrev main_call3_v0 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩
abbrev main_v281 : Ref sig .tc := ⟨.hbm, 338, rfl⟩
abbrev main_v282 : Ref sig .tc := ⟨.hbm, 339, rfl⟩
abbrev main_v283 : Ref sig .tc := ⟨.hbm, 340, rfl⟩
abbrev main_v284 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_v296 : Ref sig .tc := ⟨.hbm, 353, rfl⟩
abbrev main_v297 : Ref sig .tc := ⟨.hbm, 354, rfl⟩
abbrev main_v298 : Ref sig .tc := ⟨.hbm, 355, rfl⟩
abbrev main_v299 : Ref sig .tc := ⟨.hbm, 356, rfl⟩
abbrev main_v300 : Ref sig .tc := ⟨.hbm, 357, rfl⟩
abbrev main_cst : Ref sig .tc := ⟨.hbm, 358, rfl⟩
abbrev main_call4_v0 : Ref sig .tc := ⟨.hbm, 359, rfl⟩
abbrev main_call4_v1 : Ref sig .tc := ⟨.hbm, 360, rfl⟩
abbrev main_call4_v2 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![2, 65], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c64_i32 : BitVec 32 := 64#32
  let v1 : BitVec 32 := Scalar.muli arg0 c64_i32
  let c2_i32 : BitVec 32 := 2#32
  let v2 : BitVec 32 := Scalar.addi c2_i32 v1
  let v3 : BitVec 32 := Scalar.addi v2 arg1
  let c1_i32 : BitVec 32 := 1#32
  let v4 : BitVec 32 := Scalar.subi v3 c1_i32
  let v5 : BitVec 32 := Scalar.select v0 arg0 v4
  let c0_i32_0 : BitVec 32 := 0#32
  let c0_i32_1 : BitVec 32 := 0#32
  ![v5.toNat, c0_i32_0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.addi c2_i32 v0
  let c1_i32 : BitVec 32 := 1#32
  let v2 : BitVec 32 := Scalar.subi arg1 c1_i32
  let c_m1_i32 : BitVec 32 := 4294967295#32
  let v3 : BitVec 32 := Scalar.addi v2 c_m1_i32
  let c0_i32 : BitVec 32 := 0#32
  let c63_i32 : BitVec 32 := 63#32
  let v4 : BitVec 32 := Scalar.maxsi c0_i32 v3
  let v5 : BitVec 32 := Scalar.minsi c63_i32 v4
  let v6 : BitVec 32 := Scalar.addi v1 v5
  let c1_i32_0 : BitVec 32 := 1#32
  let c0_i32_1 : BitVec 32 := 0#32
  ![v6.toNat, c1_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.addi c2_i32 v0
  let c1_i32 : BitVec 32 := 1#32
  let v2 : BitVec 32 := Scalar.subi arg1 c1_i32
  let c0_i32 : BitVec 32 := 0#32
  let v3 : BitVec 32 := Scalar.addi v2 c0_i32
  let c0_i32_0 : BitVec 32 := 0#32
  let c63_i32 : BitVec 32 := 63#32
  let v4 : BitVec 32 := Scalar.maxsi c0_i32_0 v3
  let v5 : BitVec 32 := Scalar.minsi c63_i32 v4
  let v6 : BitVec 32 := Scalar.addi v1 v5
  let c1_i32_1 : BitVec 32 := 1#32
  let c0_i32_2 : BitVec 32 := 0#32
  ![v6.toNat, c1_i32_1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.addi c2_i32 v0
  let c1_i32 : BitVec 32 := 1#32
  let v2 : BitVec 32 := Scalar.subi arg1 c1_i32
  let c1_i32_0 : BitVec 32 := 1#32
  let v3 : BitVec 32 := Scalar.addi v2 c1_i32_0
  let c0_i32 : BitVec 32 := 0#32
  let c63_i32 : BitVec 32 := 63#32
  let v4 : BitVec 32 := Scalar.maxsi c0_i32 v3
  let v5 : BitVec 32 := Scalar.minsi c63_i32 v4
  let v6 : BitVec 32 := Scalar.addi v1 v5
  let c1_i32_1 : BitVec 32 := 1#32
  let c0_i32_2 : BitVec 32 := 0#32
  ![v6.toNat, c1_i32_1.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.addi c2_i32 v0
  let c1_i32 : BitVec 32 := 1#32
  let v2 : BitVec 32 := Scalar.subi arg1 c1_i32
  let c_m1_i32 : BitVec 32 := 4294967295#32
  let v3 : BitVec 32 := Scalar.addi v2 c_m1_i32
  let c0_i32 : BitVec 32 := 0#32
  let c63_i32 : BitVec 32 := 63#32
  let v4 : BitVec 32 := Scalar.maxsi c0_i32 v3
  let v5 : BitVec 32 := Scalar.minsi c63_i32 v4
  let v6 : BitVec 32 := Scalar.addi v1 v5
  let c2_i32_0 : BitVec 32 := 2#32
  let c0_i32_1 : BitVec 32 := 0#32
  ![v6.toNat, c2_i32_0.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.addi c2_i32 v0
  let c1_i32 : BitVec 32 := 1#32
  let v2 : BitVec 32 := Scalar.subi arg1 c1_i32
  let c0_i32 : BitVec 32 := 0#32
  let v3 : BitVec 32 := Scalar.addi v2 c0_i32
  let c0_i32_0 : BitVec 32 := 0#32
  let c63_i32 : BitVec 32 := 63#32
  let v4 : BitVec 32 := Scalar.maxsi c0_i32_0 v3
  let v5 : BitVec 32 := Scalar.minsi c63_i32 v4
  let v6 : BitVec 32 := Scalar.addi v1 v5
  let c2_i32_1 : BitVec 32 := 2#32
  let c0_i32_2 : BitVec 32 := 0#32
  ![v6.toNat, c2_i32_1.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c2_i32 : BitVec 32 := 2#32
  let v1 : BitVec 32 := Scalar.addi c2_i32 v0
  let c1_i32 : BitVec 32 := 1#32
  let v2 : BitVec 32 := Scalar.subi arg1 c1_i32
  let c1_i32_0 : BitVec 32 := 1#32
  let v3 : BitVec 32 := Scalar.addi v2 c1_i32_0
  let c0_i32 : BitVec 32 := 0#32
  let c63_i32 : BitVec 32 := 63#32
  let v4 : BitVec 32 := Scalar.maxsi c0_i32 v3
  let v5 : BitVec 32 := Scalar.minsi c63_i32 v4
  let v6 : BitVec 32 := Scalar.addi v1 v5
  let c2_i32_1 : BitVec 32 := 2#32
  let c0_i32_2 : BitVec 32 := 0#32
  ![v6.toNat, c2_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c64_i32 : BitVec 32 := 64#32
  let v1 : BitVec 32 := Scalar.muli arg0 c64_i32
  let c2_i32 : BitVec 32 := 2#32
  let v2 : BitVec 32 := Scalar.addi c2_i32 v1
  let v3 : BitVec 32 := Scalar.addi v2 arg1
  let c1_i32 : BitVec 32 := 1#32
  let v4 : BitVec 32 := Scalar.subi v3 c1_i32
  let v5 : BitVec 32 := Scalar.select v0 arg0 v4
  let c0_i32_0 : BitVec 32 := 0#32
  let c0_i32_1 : BitVec 32 := 0#32
  ![v5.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S4x256x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S33280x14336 : Shape := ⟨2, ![33280, 14336]⟩
abbrev S4x15x31 : Shape := ⟨3, ![4, 15, 31]⟩
abbrev S128 : Shape := ⟨1, ![128]⟩
abbrev S512x1536 : Shape := ⟨2, ![512, 1536]⟩
abbrev S2x256x1536 : Shape := ⟨3, ![2, 256, 1536]⟩
abbrev S32768x1536 : Shape := ⟨2, ![32768, 1536]⟩
abbrev S2x16384x1536 : Shape := ⟨3, ![2, 16384, 1536]⟩
abbrev S2x256x512 : Shape := ⟨3, ![2, 256, 512]⟩
abbrev S2x256x4x128 : Shape := ⟨4, ![2, 256, 4, 128]⟩
abbrev S2x4x256x128 : Shape := ⟨4, ![2, 4, 256, 128]⟩
abbrev S_ : Shape := ⟨0, ![]⟩
abbrev S2x4x256 : Shape := ⟨3, ![2, 4, 256]⟩
abbrev S2x4x256x1 : Shape := ⟨4, ![2, 4, 256, 1]⟩
abbrev S1x1x1x128 : Shape := ⟨4, ![1, 1, 1, 128]⟩
abbrev S2x16384x512 : Shape := ⟨3, ![2, 16384, 512]⟩
abbrev S2x16384x4x128 : Shape := ⟨4, ![2, 16384, 4, 128]⟩
abbrev S2x4x16384x128 : Shape := ⟨4, ![2, 4, 16384, 128]⟩
abbrev S2x4x16384 : Shape := ⟨3, ![2, 4, 16384]⟩
abbrev S2x4x16384x1 : Shape := ⟨4, ![2, 4, 16384, 1]⟩
abbrev S2x4x256x64x128 : Shape := ⟨5, ![2, 4, 256, 64, 128]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S64x16x1 : Shape := ⟨3, ![64, 16, 1]⟩
abbrev S4x15x64x16 : Shape := ⟨4, ![4, 15, 64, 16]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x8x1 : Shape := ⟨3, ![256, 8, 1]⟩
abbrev S2x4x256x8x64x128 : Shape := ⟨6, ![2, 4, 256, 8, 64, 128]⟩
abbrev S2x4x256x8x64x16x128 : Shape := ⟨7, ![2, 4, 256, 8, 64, 16, 128]⟩
abbrev S4x256x8x64x16 : Shape := ⟨5, ![4, 256, 8, 64, 16]⟩
abbrev S2x4x256x64x8x16 : Shape := ⟨6, ![2, 4, 256, 64, 8, 16]⟩
abbrev S4x256x64x8x16 : Shape := ⟨5, ![4, 256, 64, 8, 16]⟩
abbrev S1x4x256x64x8x16 : Shape := ⟨6, ![1, 4, 256, 64, 8, 16]⟩
abbrev S2x4x256x64x256 : Shape := ⟨5, ![2, 4, 256, 64, 256]⟩
abbrev S2x4x256x64x384 : Shape := ⟨5, ![2, 4, 256, 64, 384]⟩
abbrev S2x4x256x64 : Shape := ⟨4, ![2, 4, 256, 64]⟩
abbrev S2x4x256x64x1 : Shape := ⟨5, ![2, 4, 256, 64, 1]⟩
abbrev S2x4x256x256 : Shape := ⟨4, ![2, 4, 256, 256]⟩
abbrev S512x512 : Shape := ⟨2, ![512, 512]⟩
abbrev S32768x512 : Shape := ⟨2, ![32768, 512]⟩
abbrev S33280x512 : Shape := ⟨2, ![33280, 512]⟩

abbrev nBuf : Space → Nat
  | .hbm => 211
  | .vmem => 0
  | .smem => 0
  | _ => 0

abbrev hbmTy0_0 (i : Nat) : BufTy := match i % 128 with
  | 0 => ⟨S33280x14336, .f32⟩
  | 1 => ⟨S4x15x31, .f32⟩
  | 2 => ⟨S128, .f32⟩
  | 3 => ⟨S128, .f32⟩
  | 4 => ⟨S512x1536, .f32⟩
  | 5 => ⟨S2x256x1536, .f32⟩
  | 6 => ⟨S32768x1536, .f32⟩
  | 7 => ⟨S2x16384x1536, .f32⟩
  | 8 => ⟨S2x256x512, .f32⟩
  | 9 => ⟨S2x256x512, .f32⟩
  | 10 => ⟨S2x256x512, .f32⟩
  | 11 => ⟨S2x256x4x128, .f32⟩
  | 12 => ⟨S2x4x256x128, .f32⟩
  | 13 => ⟨S2x4x256x128, .f32⟩
  | 14 => ⟨S_, .f32⟩
  | 15 => ⟨S2x4x256, .f32⟩
  | 16 => ⟨S2x4x256x1, .f32⟩
  | 17 => ⟨S_, .f32⟩
  | 18 => ⟨S2x4x256x1, .f32⟩
  | 19 => ⟨S2x4x256x1, .f32⟩
  | 20 => ⟨S_, .f32⟩
  | 21 => ⟨S2x4x256x1, .f32⟩
  | 22 => ⟨S2x4x256x1, .f32⟩
  | 23 => ⟨S2x4x256x1, .f32⟩
  | 24 => ⟨S2x4x256x128, .f32⟩
  | 25 => ⟨S2x4x256x128, .f32⟩
  | 26 => ⟨S1x1x1x128, .f32⟩
  | 27 => ⟨S2x4x256x128, .f32⟩
  | 28 => ⟨S2x4x256x128, .f32⟩
  | 29 => ⟨S_, .f32⟩
  | 30 => ⟨S2x4x256x128, .f32⟩
  | 31 => ⟨S2x4x256x128, .f32⟩
  | 32 => ⟨S2x256x4x128, .f32⟩
  | 33 => ⟨S2x4x256x128, .f32⟩
  | 34 => ⟨S2x4x256x128, .f32⟩
  | 35 => ⟨S_, .f32⟩
  | 36 => ⟨S2x4x256, .f32⟩
  | 37 => ⟨S2x4x256x1, .f32⟩
  | 38 => ⟨S_, .f32⟩
  | 39 => ⟨S2x4x256x1, .f32⟩
  | 40 => ⟨S2x4x256x1, .f32⟩
  | 41 => ⟨S_, .f32⟩
  | 42 => ⟨S2x4x256x1, .f32⟩
  | 43 => ⟨S2x4x256x1, .f32⟩
  | 44 => ⟨S2x4x256x1, .f32⟩
  | 45 => ⟨S2x4x256x128, .f32⟩
  | 46 => ⟨S2x4x256x128, .f32⟩
  | 47 => ⟨S1x1x1x128, .f32⟩
  | 48 => ⟨S2x4x256x128, .f32⟩
  | 49 => ⟨S2x4x256x128, .f32⟩
  | 50 => ⟨S2x256x4x128, .f32⟩
  | 51 => ⟨S2x4x256x128, .f32⟩
  | 52 => ⟨S2x16384x512, .f32⟩
  | 53 => ⟨S2x16384x512, .f32⟩
  | 54 => ⟨S2x16384x512, .f32⟩
  | 55 => ⟨S2x16384x4x128, .f32⟩
  | 56 => ⟨S2x4x16384x128, .f32⟩
  | 57 => ⟨S2x4x16384x128, .f32⟩
  | 58 => ⟨S_, .f32⟩
  | 59 => ⟨S2x4x16384, .f32⟩
  | 60 => ⟨S2x4x16384x1, .f32⟩
  | 61 => ⟨S_, .f32⟩
  | 62 => ⟨S2x4x16384x1, .f32⟩
  | 63 => ⟨S2x4x16384x1, .f32⟩
  | 64 => ⟨S_, .f32⟩
  | 65 => ⟨S2x4x16384x1, .f32⟩
  | 66 => ⟨S2x4x16384x1, .f32⟩
  | 67 => ⟨S2x4x16384x1, .f32⟩
  | 68 => ⟨S2x4x16384x128, .f32⟩
  | 69 => ⟨S2x4x16384x128, .f32⟩
  | 70 => ⟨S1x1x1x128, .f32⟩
  | 71 => ⟨S2x4x16384x128, .f32⟩
  | 72 => ⟨S2x4x16384x128, .f32⟩
  | 73 => ⟨S_, .f32⟩
  | 74 => ⟨S2x4x16384x128, .f32⟩
  | 75 => ⟨S2x4x16384x128, .f32⟩
  | 76 => ⟨S2x16384x4x128, .f32⟩
  | 77 => ⟨S2x4x16384x128, .f32⟩
  | 78 => ⟨S2x4x16384x128, .f32⟩
  | 79 => ⟨S_, .f32⟩
  | 80 => ⟨S2x4x16384, .f32⟩
  | 81 => ⟨S2x4x16384x1, .f32⟩
  | 82 => ⟨S_, .f32⟩
  | 83 => ⟨S2x4x16384x1, .f32⟩
  | 84 => ⟨S2x4x16384x1, .f32⟩
  | 85 => ⟨S_, .f32⟩
  | 86 => ⟨S2x4x16384x1, .f32⟩
  | 87 => ⟨S2x4x16384x1, .f32⟩
  | 88 => ⟨S2x4x16384x1, .f32⟩
  | 89 => ⟨S2x4x16384x128, .f32⟩
  | 90 => ⟨S2x4x16384x128, .f32⟩
  | 91 => ⟨S1x1x1x128, .f32⟩
  | 92 => ⟨S2x4x16384x128, .f32⟩
  | 93 => ⟨S2x4x16384x128, .f32⟩
  | 94 => ⟨S2x16384x4x128, .f32⟩
  | 95 => ⟨S2x4x16384x128, .f32⟩
  | 96 => ⟨S2x4x256x64x128, .f32⟩
  | 97 => ⟨S2x4x256x64x128, .f32⟩
  | 98 => ⟨S2x4x256x64x128, .f32⟩
  | 99 => ⟨S64, .i32⟩
  | 100 => ⟨S_, .i32⟩
  | 101 => ⟨S64, .i32⟩
  | 102 => ⟨S64, .i32⟩
  | 103 => ⟨S_, .i32⟩
  | 104 => ⟨S_, .i32⟩
  | 105 => ⟨S_, .i32⟩
  | 106 => ⟨S64, .i32⟩
  | 107 => ⟨S64, .i32⟩
  | 108 => ⟨S_, .i32⟩
  | 109 => ⟨S64, .i32⟩
  | 110 => ⟨S64, .i32⟩
  | 111 => ⟨S64x1, .i32⟩
  | 112 => ⟨S16, .i32⟩
  | 113 => ⟨S1x16, .i32⟩
  | 114 => ⟨S64x16, .i32⟩
  | 115 => ⟨S64x16, .i32⟩
  | 116 => ⟨S64x16, .i32⟩
  | 117 => ⟨S64x1, .i32⟩
  | 118 => ⟨S64x16, .i32⟩
  | 119 => ⟨S64x16, .i32⟩
  | 120 => ⟨S_, .i32⟩
  | 121 => ⟨S64x16, .i32⟩
  | 122 => ⟨S64x16, .i32⟩
  | 123 => ⟨S_, .i32⟩
  | 124 => ⟨S64x16, .i32⟩
  | 125 => ⟨S64x16, .i32⟩
  | 126 => ⟨S64x16x1, .i32⟩
  | 127 => ⟨S4x15x64x16, .f32⟩
  | _ => ⟨S33280x14336, .f32⟩

abbrev hbmTy0_1 (i : Nat) : BufTy := match i % 128 with
  | 0 => ⟨S256, .i32⟩
  | 1 => ⟨S_, .i32⟩
  | 2 => ⟨S256, .i32⟩
  | 3 => ⟨S256, .i32⟩
  | 4 => ⟨S_, .i32⟩
  | 5 => ⟨S_, .i32⟩
  | 6 => ⟨S_, .i32⟩
  | 7 => ⟨S256, .i32⟩
  | 8 => ⟨S256, .i32⟩
  | 9 => ⟨S_, .i32⟩
  | 10 => ⟨S256, .i32⟩
  | 11 => ⟨S256, .i32⟩
  | 12 => ⟨S256x1, .i32⟩
  | 13 => ⟨S8, .i32⟩
  | 14 => ⟨S1x8, .i32⟩
  | 15 => ⟨S256x8, .i32⟩
  | 16 => ⟨S256x8, .i32⟩
  | 17 => ⟨S256x8, .i32⟩
  | 18 => ⟨S256x8x1, .i32⟩
  | 19 => ⟨S2x4x256x8x64x128, .f32⟩
  | 20 => ⟨S64x16x1, .i32⟩
  | 21 => ⟨S2x4x256x8x64x16x128, .f32⟩
  | 22 => ⟨S256x8x1, .i32⟩
  | 23 => ⟨S2x4x256x8x64x128, .f32⟩
  | 24 => ⟨S64x16x1, .i32⟩
  | 25 => ⟨S2x4x256x8x64x16x128, .f32⟩
  | 26 => ⟨S256x1, .i32⟩
  | 27 => ⟨S256x8, .i32⟩
  | 28 => ⟨S256x8, .i32⟩
  | 29 => ⟨S_, .i32⟩
  | 30 => ⟨S256x8, .i32⟩
  | 31 => ⟨S256x8, .i32⟩
  | 32 => ⟨S_, .i32⟩
  | 33 => ⟨S256x8, .i32⟩
  | 34 => ⟨S256x8, .i32⟩
  | 35 => ⟨S256x8x1, .i32⟩
  | 36 => ⟨S4x256x8x64x16, .f32⟩
  | 37 => ⟨S2x4x256x64x8x16, .f32⟩
  | 38 => ⟨S4x256x64x8x16, .f32⟩
  | 39 => ⟨S1x4x256x64x8x16, .f32⟩
  | 40 => ⟨S2x4x256x64x8x16, .f32⟩
  | 41 => ⟨S2x4x256x64x8x16, .f32⟩
  | 42 => ⟨S2x4x256x64x256, .f32⟩
  | 43 => ⟨S2x4x256x64x128, .f32⟩
  | 44 => ⟨S2x4x256x64x384, .f32⟩
  | 45 => ⟨S_, .f32⟩
  | 46 => ⟨S2x4x256x64, .f32⟩
  | 47 => ⟨S2x4x256x64x1, .f32⟩
  | 48 => ⟨S2x4x256x64x384, .f32⟩
  | 49 => ⟨S2x4x256x64x384, .f32⟩
  | 50 => ⟨S2x4x256x64x384, .f32⟩
  | 51 => ⟨S_, .f32⟩
  | 52 => ⟨S2x4x256x64, .f32⟩
  | 53 => ⟨S2x4x256x64x1, .f32⟩
  | 54 => ⟨S2x4x256x64x384, .f32⟩
  | 55 => ⟨S2x4x256x64x384, .f32⟩
  | 56 => ⟨S2x4x256x64x128, .f32⟩
  | 57 => ⟨S2x4x256x64x8x16, .f32⟩
  | 58 => ⟨S2x4x256x64x128, .f32⟩
  | 59 => ⟨S2x4x256x64x256, .f32⟩
  | 60 => ⟨S2x4x256x64x128, .f32⟩
  | 61 => ⟨S2x4x256x64x128, .f32⟩
  | 62 => ⟨S2x4x16384x128, .f32⟩
  | 63 => ⟨S2x16384x4x128, .f32⟩
  | 64 => ⟨S2x16384x512, .f32⟩
  | 65 => ⟨S2x4x256x256, .f32⟩
  | 66 => ⟨S_, .f32⟩
  | 67 => ⟨S2x4x256, .f32⟩
  | 68 => ⟨S2x4x256x1, .f32⟩
  | 69 => ⟨S2x4x256x256, .f32⟩
  | 70 => ⟨S2x4x256x256, .f32⟩
  | 71 => ⟨S2x4x256x256, .f32⟩
  | 72 => ⟨S_, .f32⟩
  | 73 => ⟨S2x4x256, .f32⟩
  | 74 => ⟨S2x4x256x1, .f32⟩
  | 75 => ⟨S2x4x256x256, .f32⟩
  | 76 => ⟨S2x4x256x256, .f32⟩
  | 77 => ⟨S2x4x256x128, .f32⟩
  | 78 => ⟨S2x256x4x128, .f32⟩
  | 79 => ⟨S2x256x512, .f32⟩
  | 80 => ⟨S512x512, .f32⟩
  | 81 => ⟨S32768x512, .f32⟩
  | 82 => ⟨S33280x512, .f32⟩
  | _ => ⟨S33280x14336, .f32⟩

abbrev hbmTy (i : Nat) : BufTy := match i / 128 with
  | 0 => hbmTy0_0 i
  | 1 => hbmTy0_1 i
  | _ => ⟨S33280x14336, .f32⟩

abbrev bufTy : (tb : Table) → Fin (tcTables nBuf tb) → BufTy
  | .hbm, ⟨i, _⟩ => hbmTy i
  | _, _ => ⟨S33280x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_10 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_cst_12 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_c : Ref sig .tc := ⟨.hbm, 100, rfl⟩
abbrev main_v82 : Ref sig .tc := ⟨.hbm, 101, rfl⟩
abbrev main_v83 : Ref sig .tc := ⟨.hbm, 102, rfl⟩
abbrev main_c_13 : Ref sig .tc := ⟨.hbm, 103, rfl⟩
abbrev main_c_14 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_c_15 : Ref sig .tc := ⟨.hbm, 120, rfl⟩
abbrev main_v94 : Ref sig .tc := ⟨.hbm, 121, rfl⟩
abbrev main_v95 : Ref sig .tc := ⟨.hbm, 122, rfl⟩
abbrev main_c_16 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_c_17 : Ref sig .tc := ⟨.hbm, 129, rfl⟩
abbrev main_v101 : Ref sig .tc := ⟨.hbm, 130, rfl⟩
abbrev main_v102 : Ref sig .tc := ⟨.hbm, 131, rfl⟩
abbrev main_c_18 : Ref sig .tc := ⟨.hbm, 132, rfl⟩
abbrev main_c_19 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_c_20 : Ref sig .tc := ⟨.hbm, 157, rfl⟩
abbrev main_v121 : Ref sig .tc := ⟨.hbm, 158, rfl⟩
abbrev main_v122 : Ref sig .tc := ⟨.hbm, 159, rfl⟩
abbrev main_c_21 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_22 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_23 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_24 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_cst_25 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩

abbrev nD : Nat := 1
abbrev τ : Topo := Topo.v7x

variable {F : FTy → Type} [FloatOps F]
-- ==== Kernel2.lean ====
abbrev S2x16384x2048 : Shape := ⟨3, ![2, 16384, 2048]⟩
abbrev S2x2048 : Shape := ⟨2, ![2, 2048]⟩
abbrev S2x256x2048 : Shape := ⟨3, ![2, 256, 2048]⟩
abbrev S2048 : Shape := ⟨1, ![2048]⟩
abbrev S2048x12288 : Shape := ⟨2, ![2048, 12288]⟩
abbrev S12288 : Shape := ⟨1, ![12288]⟩
abbrev S2048x14352 : Shape := ⟨2, ![2048, 14352]⟩
abbrev S512x2048 : Shape := ⟨2, ![512, 2048]⟩
abbrev S32768x2048 : Shape := ⟨2, ![32768, 2048]⟩
abbrev S33280x2048 : Shape := ⟨2, ![33280, 2048]⟩
abbrev S1x2048 : Shape := ⟨2, ![1, 2048]⟩
abbrev S3x2048 : Shape := ⟨2, ![3, 2048]⟩
abbrev S_ : Shape := ⟨0, ![]⟩
abbrev S3x12288 : Shape := ⟨2, ![3, 12288]⟩
abbrev S1x12288 : Shape := ⟨2, ![1, 12288]⟩
abbrev S3x6x2048 : Shape := ⟨3, ![3, 6, 2048]⟩
abbrev S3x2x2048 : Shape := ⟨3, ![3, 2, 2048]⟩
abbrev S2048x3584 : Shape := ⟨2, ![2048, 3584]⟩
abbrev S2048x10752 : Shape := ⟨2, ![2048, 10752]⟩
abbrev S2048x14336 : Shape := ⟨2, ![2048, 14336]⟩
abbrev S33280x14336 : Shape := ⟨2, ![33280, 14336]⟩
abbrev S1x2x2048 : Shape := ⟨3, ![1, 2, 2048]⟩
abbrev S2048x1024 : Shape := ⟨2, ![2048, 1024]⟩
abbrev S512x1024 : Shape := ⟨2, ![512, 1024]⟩
abbrev S1x1x2048 : Shape := ⟨3, ![1, 1, 2048]⟩
abbrev S512 : Shape := ⟨1, ![512]⟩
abbrev S512x1 : Shape := ⟨2, ![512, 1]⟩

abbrev nBuf : Space → Nat
  | .hbm => 34
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S2x256x2048, .f32⟩
  | .hbm, ⟨3, _⟩ => ⟨S2048, .f32⟩
  | .hbm, ⟨4, _⟩ => ⟨S2048, .f32⟩
  | .hbm, ⟨5, _⟩ => ⟨S2048x12288, .f32⟩
  | .hbm, ⟨6, _⟩ => ⟨S12288, .f32⟩
  | .hbm, ⟨7, _⟩ => ⟨S2048x14352, .f32⟩
  | .hbm, ⟨8, _⟩ => ⟨S512x2048, .f32⟩
  | .hbm, ⟨9, _⟩ => ⟨S32768x2048, .f32⟩
  | .hbm, ⟨10, _⟩ => ⟨S33280x2048, .f32⟩
  | .hbm, ⟨11, _⟩ => ⟨S1x2048, .f32⟩
  | .hbm, ⟨12, _⟩ => ⟨S3x2048, .f32⟩
  | .hbm, ⟨13, _⟩ => ⟨S3x2048, .f32⟩
  | .hbm, ⟨14, _⟩ => ⟨S3x2048, .f32⟩
  | .hbm, ⟨15, _⟩ => ⟨S_, .f32⟩
  | .hbm, ⟨16, _⟩ => ⟨S3x2048, .f32⟩
  | .hbm, ⟨17, _⟩ => ⟨S3x2048, .f32⟩
  | .hbm, ⟨18, _⟩ => ⟨S_, .f32⟩
  | .hbm, ⟨19, _⟩ => ⟨S3x2048, .f32⟩
  | .hbm, ⟨20, _⟩ => ⟨S3x2048, .f32⟩
  | .hbm, ⟨21, _⟩ => ⟨S3x2048, .f32⟩
  | .hbm, ⟨22, _⟩ => ⟨S3x12288, .f32⟩
  | .hbm, ⟨23, _⟩ => ⟨S1x12288, .f32⟩
  | .hbm, ⟨24, _⟩ => ⟨S3x12288, .f32⟩
  | .hbm, ⟨25, _⟩ => ⟨S3x12288, .f32⟩
  | .hbm, ⟨26, _⟩ => ⟨S3x6x2048, .f32⟩
  | .hbm, ⟨27, _⟩ => ⟨S3x2x2048, .f32⟩
  | .hbm, ⟨28, _⟩ => ⟨S2048x3584, .f32⟩
  | .hbm, ⟨29, _⟩ => ⟨S2048x10752, .f32⟩
  | .hbm, ⟨30, _⟩ => ⟨S2048x14336, .f32⟩
  | .hbm, ⟨31, _⟩ => ⟨S2048x14336, .bf16⟩
  | .hbm, ⟨32, _⟩ => ⟨S1x2048, .f32⟩
  | .hbm, ⟨33, _⟩ => ⟨S33280x14336, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2x2048, .f32⟩
  | .local _ .vmem, ⟨4, _⟩ => ⟨S1x2x2048, .f32⟩
  | .local _ .vmem, ⟨5, _⟩ => ⟨S2048x1024, .bf16⟩
  | .local _ .vmem, ⟨6, _⟩ => ⟨S2048x1024, .bf16⟩
  | .local _ .vmem, ⟨7, _⟩ => ⟨S512x1024, .f32⟩
  | .local _ .vmem, ⟨8, _⟩ => ⟨S512x1024, .f32⟩
  | .local _ .vmem, ⟨9, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![65, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 32 := Scalar.subi arg0 c1_i32_0
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2x16384x2048 : Shape := ⟨3, ![2, 16384, 2048]⟩
abbrev S2x2048 : Shape := ⟨2, ![2, 2048]⟩
abbrev S2x256x2048 : Shape := ⟨3, ![2, 256, 2048]⟩
abbrev S2048 : Shape := ⟨1, ![2048]⟩
abbrev S2048x12288 : Shape := ⟨2, ![2048, 12288]⟩
abbrev S12288 : Shape := ⟨1, ![12288]⟩
abbrev S2048x14352 : Shape := ⟨2, ![2048, 14352]⟩
abbrev S_ : Shape := ⟨0, ![]⟩
abbrev S2x12288 : Shape := ⟨2, ![2, 12288]⟩
abbrev S1x12288 : Shape := ⟨2, ![1, 12288]⟩
abbrev S2x1x12288 : Shape := ⟨3, ![2, 1, 12288]⟩
abbrev S2x1x2048 : Shape := ⟨3, ![2, 1, 2048]⟩
abbrev S2x16384 : Shape := ⟨2, ![2, 16384]⟩
abbrev S2x16384x1 : Shape := ⟨3, ![2, 16384, 1]⟩
abbrev S1x1x2048 : Shape := ⟨3, ![1, 1, 2048]⟩
abbrev S2x256 : Shape := ⟨2, ![2, 256]⟩
abbrev S2x256x1 : Shape := ⟨3, ![2, 256, 1]⟩
abbrev S2x256x14352 : Shape := ⟨3, ![2, 256, 14352]⟩
abbrev S512x14352 : Shape := ⟨2, ![512, 14352]⟩
abbrev S2x16384x14352 : Shape := ⟨3, ![2, 16384, 14352]⟩
abbrev S32768x14352 : Shape := ⟨2, ![32768, 14352]⟩
abbrev S33280x14352 : Shape := ⟨2, ![33280, 14352]⟩
abbrev S33280x3584 : Shape := ⟨2, ![33280, 3584]⟩
abbrev S33280x10752 : Shape := ⟨2, ![33280, 10752]⟩
abbrev S33280x14336 : Shape := ⟨2, ![33280, 14336]⟩

abbrev nBuf : Space → Nat
  | .hbm => 101
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S2x256x2048, .f32⟩
  | .hbm, ⟨3, _⟩ => ⟨S2048, .f32⟩
  | .hbm, ⟨4, _⟩ => ⟨S2048, .f32⟩
  | .hbm, ⟨5, _⟩ => ⟨S2048x12288, .f32⟩
  | .hbm, ⟨6, _⟩ => ⟨S12288, .f32⟩
  | .hbm, ⟨7, _⟩ => ⟨S2048x14352, .f32⟩
  | .hbm, ⟨8, _⟩ => ⟨S2x2048, .f32⟩
  | .hbm, ⟨9, _⟩ => ⟨S2x2048, .f32⟩
  | .hbm, ⟨10, _⟩ => ⟨S_, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2x2048, .f32⟩
  | .hbm, ⟨15, _⟩ => ⟨S2x2048, .f32⟩
  | .hbm, ⟨16, _⟩ => ⟨S2x2048, .f32⟩
  | .hbm, ⟨17, _⟩ => ⟨S2x12288, .f32⟩
  | .hbm, ⟨18, _⟩ => ⟨S1x12288, .f32⟩
  | .hbm, ⟨19, _⟩ => ⟨S2x12288, .f32⟩
  | .hbm, ⟨20, _⟩ => ⟨S2x12288, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S12288, .f32⟩
  | .hbm, ⟨31, _⟩ => ⟨S12288, .f32⟩
  | .hbm, ⟨32, _⟩ => ⟨S2x1x12288, .f32⟩
  | .hbm, ⟨33, _⟩ => ⟨S2x1x2048, .f32⟩
  | .hbm, ⟨34, _⟩ => ⟨S2x1x2048, .f32⟩
  | .hbm, ⟨35, _⟩ => ⟨S2x1x2048, .f32⟩
  | .hbm, ⟨36, _⟩ => ⟨S2x1x2048, .f32⟩
  | .hbm, ⟨37, _⟩ => ⟨S2x1x2048, .f32⟩
  | .hbm, ⟨38, _⟩ => ⟨S2x1x2048, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2x16384x2048, .f32⟩
  | .hbm, ⟨46, _⟩ => ⟨S_, .f32⟩
  | .hbm, ⟨47, _⟩ => ⟨S2x16384, .f32⟩
  | .hbm, ⟨48, _⟩ => ⟨S2x16384x1, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S2x16384x1, .f32⟩
  | .hbm, ⟨56, _⟩ => ⟨S2x16384x2048, .f32⟩
  | .hbm, ⟨57, _⟩ => ⟨S2x16384x2048, .f32⟩
  | .hbm, ⟨58, _⟩ => ⟨S1x1x2048, .f32⟩
  | .hbm, ⟨59, _⟩ => ⟨S2x16384x2048, .f32⟩
  | .hbm, ⟨60, _⟩ => ⟨S2x16384x2048, .f32⟩
  | .hbm, ⟨61, _⟩ => ⟨S_, .f32⟩
  | .hbm, ⟨62, _⟩ => ⟨S2x1x2048, .f32⟩
  | .hbm, ⟨63, _⟩ => ⟨S2x1x2048, .f32⟩
  | .hbm, ⟨64, _⟩ => ⟨S2x16384x2048, .f32⟩
  | .hbm, ⟨65, _⟩ => ⟨S2x16384x2048, .f32⟩
  | .hbm, ⟨66, _⟩ => ⟨S2x16384x2048, .f32⟩
  | .hbm, ⟨67, _⟩ => ⟨S2x16384x2048, .f32⟩
  | .hbm, ⟨68, _⟩ => ⟨S2x256x2048, .f32⟩
  | .hbm, ⟨69, _⟩ => ⟨S_, .f32⟩
  | .hbm, ⟨70, _⟩ => ⟨S2x256, .f32⟩
  | .hbm, ⟨71, _⟩ => ⟨S2x256x1, .f32⟩
  | .hbm, ⟨72, _⟩ => ⟨S_, .f32⟩
  | .hbm, ⟨73, _⟩ => ⟨S2x256x1, .f32⟩
  | .hbm, ⟨74, _⟩ => ⟨S2x256x1, .f32⟩
  | .hbm, ⟨75, _⟩ => ⟨S_, .f32⟩
  | .hbm, ⟨76, _⟩ => ⟨S2x256x1, .f32⟩
  | .hbm, ⟨77, _⟩ => ⟨S2x256x1, .f32⟩
  | .hbm, ⟨78, _⟩ => ⟨S2x256x1, .f32⟩
  | .hbm, ⟨79, _⟩ => ⟨S2x256x2048, .f32⟩
  | .hbm, ⟨80, _⟩ => ⟨S2x256x2048, .f32⟩
  | .hbm, ⟨81, _⟩ => ⟨S1x1x2048, .f32⟩
  | .hbm, ⟨82, _⟩ => ⟨S2x256x2048, .f32⟩
  | .hbm, ⟨83, _⟩ => ⟨S2x256x2048, .f32⟩
  | .hbm, ⟨84, _⟩ => ⟨S_, .f32⟩
  | .hbm, ⟨85, _⟩ => ⟨S2048, .f32⟩
  | .hbm, ⟨86, _⟩ => ⟨S2048, .f32⟩
  | .hbm, ⟨87, _⟩ => ⟨S1x1x2048, .f32⟩
  | .hbm, ⟨88, _⟩ => ⟨S2x256x2048, .f32⟩
  | .hbm, ⟨89, _⟩ => ⟨S2x256x2048, .f32⟩
  | .hbm, ⟨90, _⟩ => ⟨S1x1x2048, .f32⟩
  | .hbm, ⟨91, _⟩ => ⟨S2x256x2048, .f32⟩
  | .hbm, ⟨92, _⟩ => ⟨S2x256x2048, .f32⟩
  | .hbm, ⟨93, _⟩ => ⟨S2x256x14352, .f32⟩
  | .hbm, ⟨94, _⟩ => ⟨S512x14352, .f32⟩
  | .hbm, ⟨95, _⟩ => ⟨S2x16384x14352, .f32⟩
  | .hbm, ⟨96, _⟩ => ⟨S32768x14352, .f32⟩
  | .hbm, ⟨97, _⟩ => ⟨S33280x14352, .f32⟩
  | .hbm, ⟨98, _⟩ => ⟨S33280x3584, .f32⟩
  | .hbm, ⟨99, _⟩ => ⟨S33280x10752, .f32⟩
  | .hbm, ⟨100, _⟩ => ⟨S33280x14336, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_v42 : Ref sig .tc := ⟨.hbm, 71, rfl⟩
abbrev main_cst_4 : Ref sig .tc := ⟨.hbm, 72, rfl⟩
abbrev main_v43 : Ref sig .tc := ⟨.hbm, 73, rfl⟩
abbrev main_v44 : Ref sig .tc := ⟨.hbm, 74, rfl⟩
abbrev main_cst_5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_6 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== Kernel3.lean ====
abbrev S33280x512 : Shape := ⟨2, ![33280, 512]⟩
abbrev S33280x14336 : Shape := ⟨2, ![33280, 14336]⟩
abbrev S4x2048 : Shape := ⟨2, ![4, 2048]⟩
abbrev S4x512x2048 : Shape := ⟨3, ![4, 512, 2048]⟩
abbrev S2048x2048 : Shape := ⟨2, ![2048, 2048]⟩
abbrev S33280x2048 : Shape := ⟨2, ![33280, 2048]⟩
abbrev S3x1x2048 : Shape := ⟨3, ![3, 1, 2048]⟩
abbrev S512x512 : Shape := ⟨2, ![512, 512]⟩
abbrev S4x512 : Shape := ⟨2, ![4, 512]⟩
abbrev S4x512x512 : Shape := ⟨3, ![4, 512, 512]⟩
abbrev S512x2048 : Shape := ⟨2, ![512, 2048]⟩
abbrev S1x1x2048 : Shape := ⟨3, ![1, 1, 2048]⟩
abbrev S1x512x512 : Shape := ⟨3, ![1, 512, 512]⟩
abbrev S1x512 : Shape := ⟨2, ![1, 512]⟩
abbrev S1x2048 : Shape := ⟨2, ![1, 2048]⟩

abbrev nBuf : Space → Nat
  | .hbm => 13
  | .vmem => 29
  | .smem => 0
  | _ => 0

abbrev bufTy : (tb : Table) → Fin (tcTables nBuf tb) → BufTy
  | .hbm, ⟨0, _⟩ => ⟨S33280x512, .f32⟩
  | .hbm, ⟨1, _⟩ => ⟨S33280x512, .f32⟩
  | .hbm, ⟨2, _⟩ => ⟨S33280x512, .f32⟩
  | .hbm, ⟨3, _⟩ => ⟨S33280x512, .f32⟩
  | .hbm, ⟨4, _⟩ => ⟨S33280x14336, .f32⟩
  | .hbm, ⟨5, _⟩ => ⟨S4x2048, .f32⟩
  | .hbm, ⟨6, _⟩ => ⟨S4x512x2048, .f32⟩
  | .hbm, ⟨7, _⟩ => ⟨S2048x2048, .f32⟩
  | .hbm, ⟨8, _⟩ => ⟨S33280x2048, .f32⟩
  | .hbm, ⟨9, _⟩ => ⟨S3x1x2048, .f32⟩
  | .hbm, ⟨10, _⟩ => ⟨S4x512x2048, .bf16⟩
  | .hbm, ⟨11, _⟩ => ⟨S2048x2048, .bf16⟩
  | .hbm, ⟨12, _⟩ => ⟨S33280x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S4x512, .f32⟩
  | .local _ .vmem, ⟨17, _⟩ => ⟨S4x512, .f32⟩
  | .local _ .vmem, ⟨18, _⟩ => ⟨S4x512x512, .bf16⟩
  | .local _ .vmem, ⟨19, _⟩ => ⟨S4x512x512, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .f32⟩
  | .local _ .vmem, ⟨23, _⟩ => ⟨S512x2048, .f32⟩
  | .local _ .vmem, ⟨24, _⟩ => ⟨S1x1x2048, .f32⟩
  | .local _ .vmem, ⟨25, _⟩ => ⟨S1x1x2048, .f32⟩
  | .local _ .vmem, ⟨26, _⟩ => ⟨S512x2048, .f32⟩
  | .local _ .vmem, ⟨27, _⟩ => ⟨S512x2048, .f32⟩
  | .local _ .vmem, ⟨28, _⟩ => ⟨S512x2048, .f32⟩
  | _, _ => ⟨S33280x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![65, 4], ![false, false]⟩

def k0_cond3 (i : grid0.Coords) : BitVec 1 :=
  let arg1 : BitVec 32 := BitVec.ofNat 32 (i 1).val
  let c3_i32 : BitVec 32 := 3#32
  let v57 : BitVec 1 := Scalar.cmpi .eq arg1 c3_i32
  let v58 : BitVec 32 := Scalar.extui v57
  let c0_i32_41 : BitVec 32 := 0#32
  let v59 : BitVec 1 := Scalar.cmpi .ne v58 c0_i32_41
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 32 := Scalar.subi arg0 c1_i32_0
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference3Ideal.lean ====
abbrev S33280x512 : Shape := ⟨2, ![33280, 512]⟩
abbrev S33280x14336 : Shape := ⟨2, ![33280, 14336]⟩
abbrev S4x2048 : Shape := ⟨2, ![4, 2048]⟩
abbrev S4x512x2048 : Shape := ⟨3, ![4, 512, 2048]⟩
abbrev S2048x2048 : Shape := ⟨2, ![2048, 2048]⟩
abbrev S33280x2048 : Shape := ⟨2, ![33280, 2048]⟩
abbrev S3x1x2048 : Shape := ⟨3, ![3, 1, 2048]⟩
abbrev S33280x8192 : Shape := ⟨2, ![33280, 8192]⟩
abbrev S33280x4x2048 : Shape := ⟨3, ![33280, 4, 2048]⟩
abbrev S1x4x2048 : Shape := ⟨3, ![1, 4, 2048]⟩
abbrev S_ : Shape := ⟨0, ![]⟩
abbrev S33280x1x2048 : Shape := ⟨3, ![33280, 1, 2048]⟩
abbrev S1x512x2048 : Shape := ⟨3, ![1, 512, 2048]⟩
abbrev S512x2048 : Shape := ⟨2, ![512, 2048]⟩
abbrev S1x1x2048 : Shape := ⟨3, ![1, 1, 2048]⟩
abbrev S1x2048 : Shape := ⟨2, ![1, 2048]⟩
abbrev S32768x2048 : Shape := ⟨2, ![32768, 2048]⟩
abbrev S2x16384x2048 : Shape := ⟨3, ![2, 16384, 2048]⟩
abbrev S2x1x2048 : Shape := ⟨3, ![2, 1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S33280x512, .f32⟩
  | .hbm, ⟨1, _⟩ => ⟨S33280x512, .f32⟩
  | .hbm, ⟨2, _⟩ => ⟨S33280x512, .f32⟩
  | .hbm, ⟨3, _⟩ => ⟨S33280x512, .f32⟩
  | .hbm, ⟨4, _⟩ => ⟨S33280x14336, .f32⟩
  | .hbm, ⟨5, _⟩ => ⟨S4x2048, .f32⟩
  | .hbm, ⟨6, _⟩ => ⟨S4x512x2048, .f32⟩
  | .hbm, ⟨7, _⟩ => ⟨S2048x2048, .f32⟩
  | .hbm, ⟨8, _⟩ => ⟨S33280x2048, .f32⟩
  | .hbm, ⟨9, _⟩ => ⟨S3x1x2048, .f32⟩
  | .hbm, ⟨10, _⟩ => ⟨S33280x8192, .f32⟩
  | .hbm, ⟨11, _⟩ => ⟨S33280x4x2048, .f32⟩
  | .hbm, ⟨12, _⟩ => ⟨S1x4x2048, .f32⟩
  | .hbm, ⟨13, _⟩ => ⟨S33280x4x2048, .f32⟩
  | .hbm, ⟨14, _⟩ => ⟨S33280x4x2048, .f32⟩
  | .hbm, ⟨15, _⟩ => ⟨S33280x4x2048, .f32⟩
  | .hbm, ⟨16, _⟩ => ⟨S33280x4x2048, .f32⟩
  | .hbm, ⟨17, _⟩ => ⟨S_, .f32⟩
  | .hbm, ⟨18, _⟩ => ⟨S33280x4x2048, .f32⟩
  | .hbm, ⟨19, _⟩ => ⟨S33280x4x2048, .f32⟩
  | .hbm, ⟨20, _⟩ => ⟨S_, .f32⟩
  | .hbm, ⟨21, _⟩ => ⟨S33280x4x2048, .f32⟩
  | .hbm, ⟨22, _⟩ => ⟨S33280x4x2048, .f32⟩
  | .hbm, ⟨23, _⟩ => ⟨S33280x1x2048, .f32⟩
  | .hbm, ⟨24, _⟩ => ⟨S33280x2048, .f32⟩
  | .hbm, ⟨25, _⟩ => ⟨S1x512x2048, .f32⟩
  | .hbm, ⟨26, _⟩ => ⟨S512x2048, .f32⟩
  | .hbm, ⟨27, _⟩ => ⟨S33280x2048, .f32⟩
  | .hbm, ⟨28, _⟩ => ⟨S33280x2048, .f32⟩
  | .hbm, ⟨29, _⟩ => ⟨S_, .f32⟩
  | .hbm, ⟨30, _⟩ => ⟨S33280x2048, .f32⟩
  | .hbm, ⟨31, _⟩ => ⟨S33280x2048, .f32⟩
  | .hbm, ⟨32, _⟩ => ⟨S33280x1x2048, .f32⟩
  | .hbm, ⟨33, _⟩ => ⟨S33280x2048, .f32⟩
  | .hbm, ⟨34, _⟩ => ⟨S1x512x2048, .f32⟩
  | .hbm, ⟨35, _⟩ => ⟨S512x2048, .f32⟩
  | .hbm, ⟨36, _⟩ => ⟨S33280x2048, .f32⟩
  | .hbm, ⟨37, _⟩ => ⟨S33280x2048, .f32⟩
  | .hbm, ⟨38, _⟩ => ⟨S33280x2048, .f32⟩
  | .hbm, ⟨39, _⟩ => ⟨S33280x1x2048, .f32⟩
  | .hbm, ⟨40, _⟩ => ⟨S33280x2048, .f32⟩
  | .hbm, ⟨41, _⟩ => ⟨S1x512x2048, .f32⟩
  | .hbm, ⟨42, _⟩ => ⟨S512x2048, .f32⟩
  | .hbm, ⟨43, _⟩ => ⟨S33280x2048, .f32⟩
  | .hbm, ⟨44, _⟩ => ⟨S33280x2048, .f32⟩
  | .hbm, ⟨45, _⟩ => ⟨S33280x2048, .f32⟩
  | .hbm, ⟨46, _⟩ => ⟨S33280x1x2048, .f32⟩
  | .hbm, ⟨47, _⟩ => ⟨S33280x2048, .f32⟩
  | .hbm, ⟨48, _⟩ => ⟨S1x512x2048, .f32⟩
  | .hbm, ⟨49, _⟩ => ⟨S512x2048, .f32⟩
  | .hbm, ⟨50, _⟩ => ⟨S33280x2048, .f32⟩
  | .hbm, ⟨51, _⟩ => ⟨S33280x2048, .f32⟩
  | .hbm, ⟨52, _⟩ => ⟨S33280x2048, .f32⟩
  | .hbm, ⟨53, _⟩ => ⟨S33280x2048, .f32⟩
  | .hbm, ⟨54, _⟩ => ⟨S512x2048, .f32⟩
  | .hbm, ⟨55, _⟩ => ⟨S1x1x2048, .f32⟩
  | .hbm, ⟨56, _⟩ => ⟨S1x2048, .f32⟩
  | .hbm, ⟨57, _⟩ => ⟨S512x2048, .f32⟩
  | .hbm, ⟨58, _⟩ => ⟨S512x2048, .f32⟩
  | .hbm, ⟨59, _⟩ => ⟨S512x2048, .f32⟩
  | .hbm, ⟨60, _⟩ => ⟨S512x2048, .f32⟩
  | .hbm, ⟨61, _⟩ => ⟨S32768x2048, .f32⟩
  | .hbm, ⟨62, _⟩ => ⟨S2x16384x2048, .f32⟩
  | .hbm, ⟨63, _⟩ => ⟨S2x1x2048, .f32⟩
  | .hbm, ⟨64, _⟩ => ⟨S32768x2048, .f32⟩
  | .hbm, ⟨65, _⟩ => ⟨S2x16384x2048, .f32⟩
  | .hbm, ⟨66, _⟩ => ⟨S2x16384x2048, .f32⟩
  | .hbm, ⟨67, _⟩ => ⟨S2x16384x2048, .f32⟩
  | .hbm, ⟨68, _⟩ => ⟨S2x16384x2048, .f32⟩
  | .hbm, ⟨69, _⟩ => ⟨S32768x2048, .f32⟩
  | .hbm, ⟨70, _⟩ => ⟨S33280x2048, .f32⟩
  | _, _ => ⟨S33280x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Kernel4.lean ====
abbrev S2x16384x2048 : Shape := ⟨3, ![2, 16384, 2048]⟩
abbrev S2x2048 : Shape := ⟨2, ![2, 2048]⟩
abbrev S2x256x2048 : Shape := ⟨3, ![2, 256, 2048]⟩
abbrev S2048 : Shape := ⟨1, ![2048]⟩
abbrev S2048x12288 : Shape := ⟨2, ![2048, 12288]⟩
abbrev S12288 : Shape := ⟨1, ![12288]⟩
abbrev S2048x14352 : Shape := ⟨2, ![2048, 14352]⟩
abbrev S512x2048 : Shape := ⟨2, ![512, 2048]⟩
abbrev S32768x2048 : Shape := ⟨2, ![32768, 2048]⟩
abbrev S33280x2048 : Shape := ⟨2, ![33280, 2048]⟩
abbrev S1x2048 : Shape := ⟨2, ![1, 2048]⟩
abbrev S3x2048 : Shape := ⟨2, ![3, 2048]⟩
abbrev S_ : Shape := ⟨0, ![]⟩
abbrev S3x12288 : Shape := ⟨2, ![3, 12288]⟩
abbrev S1x12288 : Shape := ⟨2, ![1, 12288]⟩
abbrev S3x6x2048 : Shape := ⟨3, ![3, 6, 2048]⟩
abbrev S3x2x2048 : Shape := ⟨3, ![3, 2, 2048]⟩
abbrev S2048x16 : Shape := ⟨2, ![2048, 16]⟩
abbrev S2048x128 : Shape := ⟨2, ![2048, 128]⟩
abbrev S33280x128 : Shape := ⟨2, ![33280, 128]⟩
abbrev S1x2x2048 : Shape := ⟨3, ![1, 2, 2048]⟩
abbrev S512x128 : Shape := ⟨2, ![512, 128]⟩
abbrev S1x1x2048 : Shape := ⟨3, ![1, 1, 2048]⟩
abbrev S512 : Shape := ⟨1, ![512]⟩
abbrev S512x1 : Shape := ⟨2, ![512, 1]⟩

abbrev nBuf : Space → Nat
  | .hbm => 34
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S2x256x2048, .f32⟩
  | .hbm, ⟨3, _⟩ => ⟨S2048, .f32⟩
  | .hbm, ⟨4, _⟩ => ⟨S2048, .f32⟩
  | .hbm, ⟨5, _⟩ => ⟨S2048x12288, .f32⟩
  | .hbm, ⟨6, _⟩ => ⟨S12288, .f32⟩
  | .hbm, ⟨7, _⟩ => ⟨S2048x14352, .f32⟩
  | .hbm, ⟨8, _⟩ => ⟨S512x2048, .f32⟩
  | .hbm, ⟨9, _⟩ => ⟨S32768x2048, .f32⟩
  | .hbm, ⟨10, _⟩ => ⟨S33280x2048, .f32⟩
  | .hbm, ⟨11, _⟩ => ⟨S1x2048, .f32⟩
  | .hbm, ⟨12, _⟩ => ⟨S3x2048, .f32⟩
  | .hbm, ⟨13, _⟩ => ⟨S3x2048, .f32⟩
  | .hbm, ⟨14, _⟩ => ⟨S3x2048, .f32⟩
  | .hbm, ⟨15, _⟩ => ⟨S_, .f32⟩
  | .hbm, ⟨16, _⟩ => ⟨S3x2048, .f32⟩
  | .hbm, ⟨17, _⟩ => ⟨S3x2048, .f32⟩
  | .hbm, ⟨18, _⟩ => ⟨S_, .f32⟩
  | .hbm, ⟨19, _⟩ => ⟨S3x2048, .f32⟩
  | .hbm, ⟨20, _⟩ => ⟨S3x2048, .f32⟩
  | .hbm, ⟨21, _⟩ => ⟨S3x2048, .f32⟩
  | .hbm, ⟨22, _⟩ => ⟨S3x12288, .f32⟩
  | .hbm, ⟨23, _⟩ => ⟨S1x12288, .f32⟩
  | .hbm, ⟨24, _⟩ => ⟨S3x12288, .f32⟩
  | .hbm, ⟨25, _⟩ => ⟨S3x12288, .f32⟩
  | .hbm, ⟨26, _⟩ => ⟨S3x6x2048, .f32⟩
  | .hbm, ⟨27, _⟩ => ⟨S3x2x2048, .f32⟩
  | .hbm, ⟨28, _⟩ => ⟨S2048x16, .f32⟩
  | .hbm, ⟨29, _⟩ => ⟨S_, .i32⟩
  | .hbm, ⟨30, _⟩ => ⟨S_, .f32⟩
  | .hbm, ⟨31, _⟩ => ⟨S2048x128, .f32⟩
  | .hbm, ⟨32, _⟩ => ⟨S1x2048, .f32⟩
  | .hbm, ⟨33, _⟩ => ⟨S33280x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2x2048, .f32⟩
  | .local _ .vmem, ⟨4, _⟩ => ⟨S1x2x2048, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .slt arg0 c1_i32
  let c1_i32_0 : BitVec 32 := 1#32
  let v1 : BitVec 32 := Scalar.subi arg0 c1_i32_0
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2x16384x2048 : Shape := ⟨3, ![2, 16384, 2048]⟩
abbrev S2x2048 : Shape := ⟨2, ![2, 2048]⟩
abbrev S2x256x2048 : Shape := ⟨3, ![2, 256, 2048]⟩
abbrev S2048 : Shape := ⟨1, ![2048]⟩
abbrev S2048x12288 : Shape := ⟨2, ![2048, 12288]⟩
abbrev S12288 : Shape := ⟨1, ![12288]⟩
abbrev S2048x14352 : Shape := ⟨2, ![2048, 14352]⟩
abbrev S_ : Shape := ⟨0, ![]⟩
abbrev S2x12288 : Shape := ⟨2, ![2, 12288]⟩
abbrev S1x12288 : Shape := ⟨2, ![1, 12288]⟩
abbrev S2x1x12288 : Shape := ⟨3, ![2, 1, 12288]⟩
abbrev S2x1x2048 : Shape := ⟨3, ![2, 1, 2048]⟩
abbrev S2x16384 : Shape := ⟨2, ![2, 16384]⟩
abbrev S2x16384x1 : Shape := ⟨3, ![2, 16384, 1]⟩
abbrev S1x1x2048 : Shape := ⟨3, ![1, 1, 2048]⟩
abbrev S2x256 : Shape := ⟨2, ![2, 256]⟩
abbrev S2x256x1 : Shape := ⟨3, ![2, 256, 1]⟩
abbrev S2x256x14352 : Shape := ⟨3, ![2, 256, 14352]⟩
abbrev S512x14352 : Shape := ⟨2, ![512, 14352]⟩
abbrev S2x16384x14352 : Shape := ⟨3, ![2, 16384, 14352]⟩
abbrev S32768x14352 : Shape := ⟨2, ![32768, 14352]⟩
abbrev S33280x14352 : Shape := ⟨2, ![33280, 14352]⟩
abbrev S33280x16 : Shape := ⟨2, ![33280, 16]⟩
abbrev S33280x128 : Shape := ⟨2, ![33280, 128]⟩

abbrev nBuf : Space → Nat
  | .hbm => 102
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S2x256x2048, .f32⟩
  | .hbm, ⟨3, _⟩ => ⟨S2048, .f32⟩
  | .hbm, ⟨4, _⟩ => ⟨S2048, .f32⟩
  | .hbm, ⟨5, _⟩ => ⟨S2048x12288, .f32⟩
  | .hbm, ⟨6, _⟩ => ⟨S12288, .f32⟩
  | .hbm, ⟨7, _⟩ => ⟨S2048x14352, .f32⟩
  | .hbm, ⟨8, _⟩ => ⟨S2x2048, .f32⟩
  | .hbm, ⟨9, _⟩ => ⟨S2x2048, .f32⟩
  | .hbm, ⟨10, _⟩ => ⟨S_, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2x2048, .f32⟩
  | .hbm, ⟨15, _⟩ => ⟨S2x2048, .f32⟩
  | .hbm, ⟨16, _⟩ => ⟨S2x2048, .f32⟩
  | .hbm, ⟨17, _⟩ => ⟨S2x12288, .f32⟩
  | .hbm, ⟨18, _⟩ => ⟨S1x12288, .f32⟩
  | .hbm, ⟨19, _⟩ => ⟨S2x12288, .f32⟩
  | .hbm, ⟨20, _⟩ => ⟨S2x12288, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S12288, .f32⟩
  | .hbm, ⟨31, _⟩ => ⟨S12288, .f32⟩
  | .hbm, ⟨32, _⟩ => ⟨S2x1x12288, .f32⟩
  | .hbm, ⟨33, _⟩ => ⟨S2x1x2048, .f32⟩
  | .hbm, ⟨34, _⟩ => ⟨S2x1x2048, .f32⟩
  | .hbm, ⟨35, _⟩ => ⟨S2x1x2048, .f32⟩
  | .hbm, ⟨36, _⟩ => ⟨S2x1x2048, .f32⟩
  | .hbm, ⟨37, _⟩ => ⟨S2x1x2048, .f32⟩
  | .hbm, ⟨38, _⟩ => ⟨S2x1x2048, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2x16384x2048, .f32⟩
  | .hbm, ⟨46, _⟩ => ⟨S_, .f32⟩
  | .hbm, ⟨47, _⟩ => ⟨S2x16384, .f32⟩
  | .hbm, ⟨48, _⟩ => ⟨S2x16384x1, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S2x16384x1, .f32⟩
  | .hbm, ⟨56, _⟩ => ⟨S2x16384x2048, .f32⟩
  | .hbm, ⟨57, _⟩ => ⟨S2x16384x2048, .f32⟩
  | .hbm, ⟨58, _⟩ => ⟨S1x1x2048, .f32⟩
  | .hbm, ⟨59, _⟩ => ⟨S2x16384x2048, .f32⟩
  | .hbm, ⟨60, _⟩ => ⟨S2x16384x2048, .f32⟩
  | .hbm, ⟨61, _⟩ => ⟨S_, .f32⟩
  | .hbm, ⟨62, _⟩ => ⟨S2x1x2048, .f32⟩
  | .hbm, ⟨63, _⟩ => ⟨S2x1x2048, .f32⟩
  | .hbm, ⟨64, _⟩ => ⟨S2x16384x2048, .f32⟩
  | .hbm, ⟨65, _⟩ => ⟨S2x16384x2048, .f32⟩
  | .hbm, ⟨66, _⟩ => ⟨S2x16384x2048, .f32⟩
  | .hbm, ⟨67, _⟩ => ⟨S2x16384x2048, .f32⟩
  | .hbm, ⟨68, _⟩ => ⟨S2x256x2048, .f32⟩
  | .hbm, ⟨69, _⟩ => ⟨S_, .f32⟩
  | .hbm, ⟨70, _⟩ => ⟨S2x256, .f32⟩
  | .hbm, ⟨71, _⟩ => ⟨S2x256x1, .f32⟩
  | .hbm, ⟨72, _⟩ => ⟨S_, .f32⟩
  | .hbm, ⟨73, _⟩ => ⟨S2x256x1, .f32⟩
  | .hbm, ⟨74, _⟩ => ⟨S2x256x1, .f32⟩
  | .hbm, ⟨75, _⟩ => ⟨S_, .f32⟩
  | .hbm, ⟨76, _⟩ => ⟨S2x256x1, .f32⟩
  | .hbm, ⟨77, _⟩ => ⟨S2x256x1, .f32⟩
  | .hbm, ⟨78, _⟩ => ⟨S2x256x1, .f32⟩
  | .hbm, ⟨79, _⟩ => ⟨S2x256x2048, .f32⟩
  | .hbm, ⟨80, _⟩ => ⟨S2x256x2048, .f32⟩
  | .hbm, ⟨81, _⟩ => ⟨S1x1x2048, .f32⟩
  | .hbm, ⟨82, _⟩ => ⟨S2x256x2048, .f32⟩
  | .hbm, ⟨83, _⟩ => ⟨S2x256x2048, .f32⟩
  | .hbm, ⟨84, _⟩ => ⟨S_, .f32⟩
  | .hbm, ⟨85, _⟩ => ⟨S2048, .f32⟩
  | .hbm, ⟨86, _⟩ => ⟨S2048, .f32⟩
  | .hbm, ⟨87, _⟩ => ⟨S1x1x2048, .f32⟩
  | .hbm, ⟨88, _⟩ => ⟨S2x256x2048, .f32⟩
  | .hbm, ⟨89, _⟩ => ⟨S2x256x2048, .f32⟩
  | .hbm, ⟨90, _⟩ => ⟨S1x1x2048, .f32⟩
  | .hbm, ⟨91, _⟩ => ⟨S2x256x2048, .f32⟩
  | .hbm, ⟨92, _⟩ => ⟨S2x256x2048, .f32⟩
  | .hbm, ⟨93, _⟩ => ⟨S2x256x14352, .f32⟩
  | .hbm, ⟨94, _⟩ => ⟨S512x14352, .f32⟩
  | .hbm, ⟨95, _⟩ => ⟨S2x16384x14352, .f32⟩
  | .hbm, ⟨96, _⟩ => ⟨S32768x14352, .f32⟩
  | .hbm, ⟨97, _⟩ => ⟨S33280x14352, .f32⟩
  | .hbm, ⟨98, _⟩ => ⟨S33280x16, .f32⟩
  | .hbm, ⟨99, _⟩ => ⟨S_, .i32⟩
  | .hbm, ⟨100, _⟩ => ⟨S_, .f32⟩
  | .hbm, ⟨101, _⟩ => ⟨S33280x128, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_v42 : Ref sig .tc := ⟨.hbm, 71, rfl⟩
abbrev main_cst_4 : Ref sig .tc := ⟨.hbm, 72, rfl⟩
abbrev main_v43 : Ref sig .tc := ⟨.hbm, 73, rfl⟩
abbrev main_v44 : Ref sig .tc := ⟨.hbm, 74, rfl⟩
abbrev main_cst_5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_6 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c : Ref sig .tc := ⟨.hbm, 99, rfl⟩
abbrev main_call2_v0 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== Kernel5.lean ====
abbrev S33280x2048 : Shape := ⟨2, ![33280, 2048]⟩
abbrev S2x2048 : Shape := ⟨2, ![2, 2048]⟩
abbrev S2048 : Shape := ⟨1, ![2048]⟩
abbrev S2048x12288 : Shape := ⟨2, ![2048, 12288]⟩
abbrev S12288 : Shape := ⟨1, ![12288]⟩
abbrev S2048x128 : Shape := ⟨2, ![2048, 128]⟩
abbrev S1x2048 : Shape := ⟨2, ![1, 2048]⟩
abbrev S3x2048 : Shape := ⟨2, ![3, 2048]⟩
abbrev S_ : Shape := ⟨0, ![]⟩
abbrev S3x12288 : Shape := ⟨2, ![3, 12288]⟩
abbrev S1x12288 : Shape := ⟨2, ![1, 12288]⟩
abbrev S3x6x2048 : Shape := ⟨3, ![3, 6, 2048]⟩
abbrev S3x2x2048 : Shape := ⟨3, ![3, 2, 2048]⟩
abbrev S33280x128 : Shape := ⟨2, ![33280, 128]⟩
abbrev S512x2048 : Shape := ⟨2, ![512, 2048]⟩
abbrev S1x2x2048 : Shape := ⟨3, ![1, 2, 2048]⟩
abbrev S512x128 : Shape := ⟨2, ![512, 128]⟩
abbrev S1x1x2048 : Shape := ⟨3, ![1, 1, 2048]⟩
abbrev S512 : Shape := ⟨1, ![512]⟩
abbrev S512x1 : Shape := ⟨2, ![512, 1]⟩

abbrev nBuf : Space → Nat
  | .hbm => 27
  | .vmem => 10
  | .smem => 0
  | _ => 0

abbrev bufTy : (tb : Table) → Fin (tcTables nBuf tb) → BufTy
  | .hbm, ⟨0, _⟩ => ⟨S33280x2048, .f32⟩
  | .hbm, ⟨1, _⟩ => ⟨S2x2048, .f32⟩
  | .hbm, ⟨2, _⟩ => ⟨S2048, .f32⟩
  | .hbm, ⟨3, _⟩ => ⟨S2048, .f32⟩
  | .hbm, ⟨4, _⟩ => ⟨S2048x12288, .f32⟩
  | .hbm, ⟨5, _⟩ => ⟨S12288, .f32⟩
  | .hbm, ⟨6, _⟩ => ⟨S2048x128, .f32⟩
  | .hbm, ⟨7, _⟩ => ⟨S1x2048, .f32⟩
  | .hbm, ⟨8, _⟩ => ⟨S3x2048, .f32⟩
  | .hbm, ⟨9, _⟩ => ⟨S3x2048, .f32⟩
  | .hbm, ⟨10, _⟩ => ⟨S3x2048, .f32⟩
  | .hbm, ⟨11, _⟩ => ⟨S_, .f32⟩
  | .hbm, ⟨12, _⟩ => ⟨S3x2048, .f32⟩
  | .hbm, ⟨13, _⟩ => ⟨S3x2048, .f32⟩
  | .hbm, ⟨14, _⟩ => ⟨S_, .f32⟩
  | .hbm, ⟨15, _⟩ => ⟨S3x2048, .f32⟩
  | .hbm, ⟨16, _⟩ => ⟨S3x2048, .f32⟩
  | .hbm, ⟨17, _⟩ => ⟨S3x2048, .f32⟩
  | .hbm, ⟨18, _⟩ => ⟨S3x12288, .f32⟩
  | .hbm, ⟨19, _⟩ => ⟨S1x12288, .f32⟩
  | .hbm, ⟨20, _⟩ => ⟨S3x12288, .f32⟩
  | .hbm, ⟨21, _⟩ => ⟨S3x12288, .f32⟩
  | .hbm, ⟨22, _⟩ => ⟨S3x6x2048, .f32⟩
  | .hbm, ⟨23, _⟩ => ⟨S3x2x2048, .f32⟩
  | .hbm, ⟨24, _⟩ => ⟨S1x2048, .f32⟩
  | .hbm, ⟨25, _⟩ => ⟨S33280x128, .f32⟩
  | .hbm, ⟨26, _⟩ => ⟨S33280x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2x2048, .f32⟩
  | .local _ .vmem, ⟨4, _⟩ => ⟨S1x2x2048, .f32⟩
  | .local _ .vmem, ⟨5, _⟩ => ⟨S2048x128, .f32⟩
  | .local _ .vmem, ⟨6, _⟩ => ⟨S512x128, .f32⟩
  | .local _ .vmem, ⟨7, _⟩ => ⟨S512x128, .f32⟩
  | .local _ .vmem, ⟨8, _⟩ => ⟨S512x2048, .f32⟩
  | .local _ .vmem, ⟨9, _⟩ => ⟨S512x2048, .f32⟩
  | _, _ => ⟨S33280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .slt arg0 c1_i32
  let c1_i32_0 : BitVec 32 := 1#32
  let v1 : BitVec 32 := Scalar.subi arg0 c1_i32_0
  let c32_i32 : BitVec 32 := 32#32
  let v2 : BitVec 32 := Scalar.divsi v1 c32_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.addi c1_i32_6 v18
  let c0_i32_7 : BitVec 32 := 0#32
  let v20 : BitVec 32 := Scalar.select v0 c0_i32_7 v19
  let c0_i32_8 : BitVec 32 := 0#32
  let c0_i32_9 : BitVec 32 := 0#32
  let c0_i32_10 : BitVec 32 := 0#32
  ![v20.toNat, c0_i32_8.toNat, c0_i32_9.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S33280x2048 : Shape := ⟨2, ![33280, 2048]⟩
abbrev S2x2048 : Shape := ⟨2, ![2, 2048]⟩
abbrev S2048 : Shape := ⟨1, ![2048]⟩
abbrev S2048x12288 : Shape := ⟨2, ![2048, 12288]⟩
abbrev S12288 : Shape := ⟨1, ![12288]⟩
abbrev S2048x128 : Shape := ⟨2, ![2048, 128]⟩
abbrev S512x2048 : Shape := ⟨2, ![512, 2048]⟩
abbrev S2x256x2048 : Shape := ⟨3, ![2, 256, 2048]⟩
abbrev S32768x2048 : Shape := ⟨2, ![32768, 2048]⟩
abbrev S2x16384x2048 : Shape := ⟨3, ![2, 16384, 2048]⟩
abbrev S_ : Shape := ⟨0, ![]⟩
abbrev S2x12288 : Shape := ⟨2, ![2, 12288]⟩
abbrev S1x12288 : Shape := ⟨2, ![1, 12288]⟩
abbrev S2x1x12288 : Shape := ⟨3, ![2, 1, 12288]⟩
abbrev S2x1x2048 : Shape := ⟨3, ![2, 1, 2048]⟩
abbrev S2x16384 : Shape := ⟨2, ![2, 16384]⟩
abbrev S2x16384x1 : Shape := ⟨3, ![2, 16384, 1]⟩
abbrev S1x1x2048 : Shape := ⟨3, ![1, 1, 2048]⟩
abbrev S2x256 : Shape := ⟨2, ![2, 256]⟩
abbrev S2x256x1 : Shape := ⟨3, ![2, 256, 1]⟩
abbrev S33280x128 : Shape := ⟨2, ![33280, 128]⟩

abbrev nBuf : Space → Nat
  | .hbm => 100
  | .vmem => 0
  | .smem => 0
  | _ => 0

abbrev bufTy : (tb : Table) → Fin (tcTables nBuf tb) → BufTy
  | .hbm, ⟨0, _⟩ => ⟨S33280x2048, .f32⟩
  | .hbm, ⟨1, _⟩ => ⟨S2x2048, .f32⟩
  | .hbm, ⟨2, _⟩ => ⟨S2048, .f32⟩
  | .hbm, ⟨3, _⟩ => ⟨S2048, .f32⟩
  | .hbm, ⟨4, _⟩ => ⟨S2048x12288, .f32⟩
  | .hbm, ⟨5, _⟩ => ⟨S12288, .f32⟩
  | .hbm, ⟨6, _⟩ => ⟨S2048x128, .f32⟩
  | .hbm, ⟨7, _⟩ => ⟨S512x2048, .f32⟩
  | .hbm, ⟨8, _⟩ => ⟨S2x256x2048, .f32⟩
  | .hbm, ⟨9, _⟩ => ⟨S32768x2048, .f32⟩
  | .hbm, ⟨10, _⟩ => ⟨S2x16384x2048, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2x2048, .f32⟩
  | .hbm, ⟨15, _⟩ => ⟨S2x2048, .f32⟩
  | .hbm, ⟨16, _⟩ => ⟨S_, .f32⟩
  | .hbm, ⟨17, _⟩ => ⟨S2x2048, .f32⟩
  | .hbm, ⟨18, _⟩ => ⟨S2x2048, .f32⟩
  | .hbm, ⟨19, _⟩ => ⟨S2x2048, .f32⟩
  | .hbm, ⟨20, _⟩ => ⟨S2x12288, .f32⟩
  | .hbm, ⟨21, _⟩ => ⟨S1x12288, .f32⟩
  | .hbm, ⟨22, _⟩ => ⟨S2x12288, .f32⟩
  | .hbm, ⟨23, _⟩ => ⟨S2x12288, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S2048, .f32⟩
  | .hbm, ⟨33, _⟩ => ⟨S12288, .f32⟩
  | .hbm, ⟨34, _⟩ => ⟨S12288, .f32⟩
  | .hbm, ⟨35, _⟩ => ⟨S2x1x12288, .f32⟩
  | .hbm, ⟨36, _⟩ => ⟨S2x1x2048, .f32⟩
  | .hbm, ⟨37, _⟩ => ⟨S2x1x2048, .f32⟩
  | .hbm, ⟨38, _⟩ => ⟨S2x1x2048, .f32⟩
  | .hbm, ⟨39, _⟩ => ⟨S2x1x2048, .f32⟩
  | .hbm, ⟨40, _⟩ => ⟨S2x1x2048, .f32⟩
  | .hbm, ⟨41, _⟩ => ⟨S2x1x2048, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S2048, .f32⟩
  | .hbm, ⟨48, _⟩ => ⟨S2x16384x2048, .f32⟩
  | .hbm, ⟨49, _⟩ => ⟨S_, .f32⟩
  | .hbm, ⟨50, _⟩ => ⟨S2x16384, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S_, .f32⟩
  | .hbm, ⟨56, _⟩ => ⟨S2x16384x1, .f32⟩
  | .hbm, ⟨57, _⟩ => ⟨S2x16384x1, .f32⟩
  | .hbm, ⟨58, _⟩ => ⟨S2x16384x1, .f32⟩
  | .hbm, ⟨59, _⟩ => ⟨S2x16384x2048, .f32⟩
  | .hbm, ⟨60, _⟩ => ⟨S2x16384x2048, .f32⟩
  | .hbm, ⟨61, _⟩ => ⟨S1x1x2048, .f32⟩
  | .hbm, ⟨62, _⟩ => ⟨S2x16384x2048, .f32⟩
  | .hbm, ⟨63, _⟩ => ⟨S2x16384x2048, .f32⟩
  | .hbm, ⟨64, _⟩ => ⟨S_, .f32⟩
  | .hbm, ⟨65, _⟩ => ⟨S2x1x2048, .f32⟩
  | .hbm, ⟨66, _⟩ => ⟨S2x1x2048, .f32⟩
  | .hbm, ⟨67, _⟩ => ⟨S2x16384x2048, .f32⟩
  | .hbm, ⟨68, _⟩ => ⟨S2x16384x2048, .f32⟩
  | .hbm, ⟨69, _⟩ => ⟨S2x16384x2048, .f32⟩
  | .hbm, ⟨70, _⟩ => ⟨S2x16384x2048, .f32⟩
  | .hbm, ⟨71, _⟩ => ⟨S2x256x2048, .f32⟩
  | .hbm, ⟨72, _⟩ => ⟨S_, .f32⟩
  | .hbm, ⟨73, _⟩ => ⟨S2x256, .f32⟩
  | .hbm, ⟨74, _⟩ => ⟨S2x256x1, .f32⟩
  | .hbm, ⟨75, _⟩ => ⟨S_, .f32⟩
  | .hbm, ⟨76, _⟩ => ⟨S2x256x1, .f32⟩
  | .hbm, ⟨77, _⟩ => ⟨S2x256x1, .f32⟩
  | .hbm, ⟨78, _⟩ => ⟨S_, .f32⟩
  | .hbm, ⟨79, _⟩ => ⟨S2x256x1, .f32⟩
  | .hbm, ⟨80, _⟩ => ⟨S2x256x1, .f32⟩
  | .hbm, ⟨81, _⟩ => ⟨S2x256x1, .f32⟩
  | .hbm, ⟨82, _⟩ => ⟨S2x256x2048, .f32⟩
  | .hbm, ⟨83, _⟩ => ⟨S2x256x2048, .f32⟩
  | .hbm, ⟨84, _⟩ => ⟨S1x1x2048, .f32⟩
  | .hbm, ⟨85, _⟩ => ⟨S2x256x2048, .f32⟩
  | .hbm, ⟨86, _⟩ => ⟨S2x256x2048, .f32⟩
  | .hbm, ⟨87, _⟩ => ⟨S_, .f32⟩
  | .hbm, ⟨88, _⟩ => ⟨S2048, .f32⟩
  | .hbm, ⟨89, _⟩ => ⟨S2048, .f32⟩
  | .hbm, ⟨90, _⟩ => ⟨S1x1x2048, .f32⟩
  | .hbm, ⟨91, _⟩ => ⟨S2x256x2048, .f32⟩
  | .hbm, ⟨92, _⟩ => ⟨S2x256x2048, .f32⟩
  | .hbm, ⟨93, _⟩ => ⟨S1x1x2048, .f32⟩
  | .hbm, ⟨94, _⟩ => ⟨S2x256x2048, .f32⟩
  | .hbm, ⟨95, _⟩ => ⟨S2x256x2048, .f32⟩
  | .hbm, ⟨96, _⟩ => ⟨S512x2048, .f32⟩
  | .hbm, ⟨97, _⟩ => ⟨S32768x2048, .f32⟩
  | .hbm, ⟨98, _⟩ => ⟨S33280x2048, .f32⟩
  | .hbm, ⟨99, _⟩ => ⟨S33280x128, .f32⟩
  | _, _ => ⟨S33280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst : Ref sig .tc := ⟨.hbm, 49, rfl⟩
abbrev main_v26 : Ref sig .tc := ⟨.hbm, 50, rfl⟩
abbrev main_v27 : Ref sig .tc := ⟨.hbm, 51, rfl⟩
abbrev main_cst_0 : Ref sig .tc := ⟨.hbm, 52, rfl⟩
abbrev main_v28 : Ref sig .tc := ⟨.hbm, 53, rfl⟩
abbrev main_v29 : Ref sig .tc := ⟨.hbm, 54, rfl⟩
abbrev main_cst_1 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_2 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_3 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_cst_5 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_6 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Kernel6.lean ====
abbrev S33280x14336 : Shape := ⟨2, ![33280, 14336]⟩
abbrev S3x1536 : Shape := ⟨2, ![3, 1536]⟩
abbrev S1536 : Shape := ⟨1, ![1536]⟩
abbrev S1x1536 : Shape := ⟨2, ![1, 1536]⟩
abbrev S32768x512 : Shape := ⟨2, ![32768, 512]⟩
abbrev S512x1536 : Shape := ⟨2, ![512, 1536]⟩
abbrev S8x1536 : Shape := ⟨2, ![8, 1536]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S33280x14336, .f32⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S32768x512, .f32⟩
  | .hbm, ⟨5, _⟩ => ⟨S32768x512, .f32⟩
  | .hbm, ⟨6, _⟩ => ⟨S32768x512, .f32⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S8x1536, .f32⟩
  | .local _ .vmem, ⟨6, _⟩ => ⟨S3x1536, .f32⟩
  | .local _ .vmem, ⟨7, _⟩ => ⟨S1x1536, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S33280x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi c1_i32 v0
  let v2 : BitVec 32 := Scalar.addi v1 arg1
  let c3_i32 : BitVec 32 := 3#32
  let c0_i32 : BitVec 32 := 0#32
  ![v2.toNat, c3_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi c1_i32 v0
  let v2 : BitVec 32 := Scalar.addi v1 arg1
  let c64_i32 : BitVec 32 := 64#32
  let v3 : BitVec 32 := Scalar.muli v2 c64_i32
  let c1_i32_0 : BitVec 32 := 1#32
  let v4 : BitVec 32 := Scalar.subi v3 c1_i32_0
  let c3_i32 : BitVec 32 := 3#32
  let c0_i32 : BitVec 32 := 0#32
  ![v4.toNat, c3_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi c1_i32 v0
  let v2 : BitVec 32 := Scalar.addi v1 arg1
  let c1_i32_0 : BitVec 32 := 1#32
  let v3 : BitVec 32 := Scalar.addi v2 c1_i32_0
  let c64_i32 : BitVec 32 := 64#32
  let v4 : BitVec 32 := Scalar.muli v3 c64_i32
  let c4159_i32 : BitVec 32 := 4159#32
  let v5 : BitVec 32 := Scalar.minsi v4 c4159_i32
  let c3_i32 : BitVec 32 := 3#32
  let c0_i32 : BitVec 32 := 0#32
  ![v5.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S33280x14336 : Shape := ⟨2, ![33280, 14336]⟩
abbrev S3x1536 : Shape := ⟨2, ![3, 1536]⟩
abbrev S1536 : Shape := ⟨1, ![1536]⟩
abbrev S32768x1536 : Shape := ⟨2, ![32768, 1536]⟩
abbrev S2x16384x1536 : Shape := ⟨3, ![2, 16384, 1536]⟩
abbrev S_ : Shape := ⟨0, ![]⟩
abbrev S2x16386x1536 : Shape := ⟨3, ![2, 16386, 1536]⟩
abbrev S1x1536 : Shape := ⟨2, ![1, 1536]⟩
abbrev S1x1x1536 : Shape := ⟨3, ![1, 1, 1536]⟩
abbrev S2x16384x512 : Shape := ⟨3, ![2, 16384, 512]⟩
abbrev S32768x512 : Shape := ⟨2, ![32768, 512]⟩

abbrev nBuf : Space → Nat
  | .hbm => 37
  | .vmem => 0
  | .smem => 0
  | _ => 0

abbrev bufTy : (tb : Table) → Fin (tcTables nBuf tb) → BufTy
  | .hbm, ⟨0, _⟩ => ⟨S33280x14336, .f32⟩
  | .hbm, ⟨1, _⟩ => ⟨S3x1536, .f32⟩
  | .hbm, ⟨2, _⟩ => ⟨S1536, .f32⟩
  | .hbm, ⟨3, _⟩ => ⟨S32768x1536, .f32⟩
  | .hbm, ⟨4, _⟩ => ⟨S2x16384x1536, .f32⟩
  | .hbm, ⟨5, _⟩ => ⟨S_, .i32⟩
  | .hbm, ⟨6, _⟩ => ⟨S_, .f32⟩
  | .hbm, ⟨7, _⟩ => ⟨S2x16386x1536, .f32⟩
  | .hbm, ⟨8, _⟩ => ⟨S2x16384x1536, .f32⟩
  | .hbm, ⟨9, _⟩ => ⟨S1x1536, .f32⟩
  | .hbm, ⟨10, _⟩ => ⟨S1536, .f32⟩
  | .hbm, ⟨11, _⟩ => ⟨S1x1x1536, .f32⟩
  | .hbm, ⟨12, _⟩ => ⟨S2x16384x1536, .f32⟩
  | .hbm, ⟨13, _⟩ => ⟨S2x16384x1536, .f32⟩
  | .hbm, ⟨14, _⟩ => ⟨S1x1x1536, .f32⟩
  | .hbm, ⟨15, _⟩ => ⟨S2x16384x1536, .f32⟩
  | .hbm, ⟨16, _⟩ => ⟨S2x16384x1536, .f32⟩
  | .hbm, ⟨17, _⟩ => ⟨S2x16384x1536, .f32⟩
  | .hbm, ⟨18, _⟩ => ⟨S1x1536, .f32⟩
  | .hbm, ⟨19, _⟩ => ⟨S1536, .f32⟩
  | .hbm, ⟨20, _⟩ => ⟨S1x1x1536, .f32⟩
  | .hbm, ⟨21, _⟩ => ⟨S2x16384x1536, .f32⟩
  | .hbm, ⟨22, _⟩ => ⟨S2x16384x1536, .f32⟩
  | .hbm, ⟨23, _⟩ => ⟨S2x16384x1536, .f32⟩
  | .hbm, ⟨24, _⟩ => ⟨S2x16384x1536, .f32⟩
  | .hbm, ⟨25, _⟩ => ⟨S1x1536, .f32⟩
  | .hbm, ⟨26, _⟩ => ⟨S1536, .f32⟩
  | .hbm, ⟨27, _⟩ => ⟨S1x1x1536, .f32⟩
  | .hbm, ⟨28, _⟩ => ⟨S2x16384x1536, .f32⟩
  | .hbm, ⟨29, _⟩ => ⟨S2x16384x1536, .f32⟩
  | .hbm, ⟨30, _⟩ => ⟨S2x16384x1536, .f32⟩
  | .hbm, ⟨31, _⟩ => ⟨S2x16384x512, .f32⟩
  | .hbm, ⟨32, _⟩ => ⟨S2x16384x512, .f32⟩
  | .hbm, ⟨33, _⟩ => ⟨S2x16384x512, .f32⟩
  | .hbm, ⟨34, _⟩ => ⟨S32768x512, .f32⟩
  | .hbm, ⟨35, _⟩ => ⟨S32768x512, .f32⟩
  | .hbm, ⟨36, _⟩ => ⟨S32768x512, .f32⟩
  | _, _ => ⟨S33280x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Proof.Na.Head.lean ====
/- One head of the kernel's body: the four pieces that the body stores are one function of the head's
   columns of the windows, and that function read at an element. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Na

open Idealize.ShloMosaic Idealize.SL.Sem Cert.KernelIdeal Cert.KernelIdeal.Gen

/-- What the body stores for one head, from the head's columns of the eight token windows, the head's
    bias, the gains and the mask of the rows in reach. -/
def headVec (valid : IVec S256x768 1) (q k0 k1 k2 v0 v1 v2 kc vc : Vec Ideal S256x128 .f32)
    (b : Vec Ideal S1x256x768 .f32) (qg kg : Vec Ideal S1x128 .f32) : FVec Ideal S256x128 .f32 :=
  k0_pay11 (k0_pay7 (k0_pay6 q qg)) (k0_pay8 valid (k0_pay6 q qg) k0 k1 k2 kg b) kc (k0_pay9 kg) (k0_pay10 kc)
    v0 v1 v2 vc

/-- The mask of the rows in reach at a grid point. -/
def validAt (i : grid0.Coords) : IVec S256x768 1 :=
  k0_pay5 (BitVec.ofNat 32 (i 1).val) (k0_pay2 i)
    (Scalar.subi (Scalar.muli (Scalar.subi (BitVec.ofNat 32 (i 1).val) 1#32) 4#32) 4#32)
    (iota .tc S256x768 32 [1] iota_S256x768_d1_w32) 64#32 k0_pay3 k0_pay4 (Scalar.extui (Scalar.cmpi .sgt 64#32 0#32))
    (Scalar.cmpi .slt 64#32 0#32)

set_option maxHeartbeats 4000000 in
theorem out_eq (i : grid0.Coords) (x0 x1 x2 x3 x4 x5 x6 x7 x8 : Vec Ideal S256x512 .f32)
    (x9 : Vec Ideal S4x256x768 .f32) (x10 x11 : Vec Ideal S1x128 .f32) :
    out0_12 i x0 x1 x2 x3 x4 x5 x6 x7 x8 x9 x10 x11 = View.canon
      [⟨r0_7, headVec (validAt i) (View.ld x0 r0_7) (View.ld x1 r0_7) (View.ld x2 r0_7) (View.ld x3 r0_7)
          (View.ld x4 r0_7) (View.ld x5 r0_7) (View.ld x6 r0_7) (View.ld x7 r0_7) (View.ld x8 r0_7)
          (View.ld x9 r0_8) (View.ld x10 r0_1) (View.ld x11 r0_1)⟩,
        ⟨r0_5, headVec (validAt i) (View.ld x0 r0_5) (View.ld x1 r0_5) (View.ld x2 r0_5) (View.ld x3 r0_5)
          (View.ld x4 r0_5) (View.ld x5 r0_5) (View.ld x6 r0_5) (View.ld x7 r0_5) (View.ld x8 r0_5)
          (View.ld x9 r0_6) (View.ld x10 r0_1) (View.ld x11 r0_1)⟩,
        ⟨r0_3, headVec (validAt i) (View.ld x0 r0_3) (View.ld x1 r0_3) (View.ld x2 r0_3) (View.ld x3 r0_3)
          (View.ld x4 r0_3) (View.ld x5 r0_3) (View.ld x6 r0_3) (View.ld x7 r0_3) (View.ld x8 r0_3)
          (View.ld x9 r0_4) (View.ld x10 r0_1) (View.ld x11 r0_1)⟩,
        ⟨r0_0, headVec (validAt i) (View.ld x0 r0_0) (View.ld x1 r0_0) (View.ld x2 r0_0) (View.ld x3 r0_0)
          (View.ld x4 r0_0) (View.ld x5 r0_0) (View.ld x6 r0_0) (View.ld x7 r0_0) (View.ld x8 r0_0)
          (View.ld x9 r0_2) (View.ld x10 r0_1) (View.ld x11 r0_1)⟩] := by
  unfold_out out0_12
  rfl

/-- A vector of one head, normalised by its root mean square and scaled. -/
def nrm (x g : Fin 128 → EReal) (d : Fin 128) : EReal :=
  x d * Ideal.rsqrt (Ideal.div (∑ k : Fin 128, x k * x k) (Ideal.ofBits .f32 0x43000000#32)
    + Ideal.ofBits .f32 0x358637BD#32) * g d

/-- The three windows' element at a key's place. -/
def cat3 (k0 k1 k2 : Vec Ideal S256x128 .f32) (j : Fin 768) (d : Fin 128) : EReal :=
  if h : j.val < 256 then k0 (ix2 ⟨j.val, h⟩ d)
  else if h1 : j.val - 256 < 256 then k1 (ix2 ⟨j.val - 256, h1⟩ d)
  else k2 (ix2 ⟨j.val - 256 - 256, by omega⟩ d)

/-- The score of two heads' vectors: the product of the query, normalised and scaled, with the key, normalised. -/
def score (q k qg kg : Fin 128 → EReal) : EReal :=
  ∑ d : Fin 128, nrm q qg d * Ideal.ofBits .f32 0x3DB504F3#32 * nrm k kg d

/-- The kernel's softmax of masked latent scores and context scores, applied to the values. -/
def attn (sl : Fin 768 → EReal) (sc : Fin 256 → EReal) (vl : Fin 768 → EReal) (vc : Fin 256 → EReal) : EReal :=
  Ideal.div
    ((∑ j, Ideal.exp (sl j - max (Finset.fold max (Ideal.ofBits .f32 0xFF800000#32) sl Finset.univ)
        (Finset.fold max (Ideal.ofBits .f32 0xFF800000#32) sc Finset.univ)) * vl j)
      + ∑ c, Ideal.exp (sc c - max (Finset.fold max (Ideal.ofBits .f32 0xFF800000#32) sl Finset.univ)
        (Finset.fold max (Ideal.ofBits .f32 0xFF800000#32) sc Finset.univ)) * vc c)
    ((∑ j, Ideal.exp (sl j - max (Finset.fold max (Ideal.ofBits .f32 0xFF800000#32) sl Finset.univ)
        (Finset.fold max (Ideal.ofBits .f32 0xFF800000#32) sc Finset.univ)))
      + ∑ c, Ideal.exp (sc c - max (Finset.fold max (Ideal.ofBits .f32 0xFF800000#32) sl Finset.univ)
        (Finset.fold max (Ideal.ofBits .f32 0xFF800000#32) sc Finset.univ)))

/-- One head's output at a row and a column. -/
theorem headVec_apply (valid : IVec S256x768 1) (q k0 k1 k2 v0 v1 v2 kc vc : Vec Ideal S256x128 .f32)
    (b : Vec Ideal S1x256x768 .f32) (qg kg : Vec Ideal S1x128 .f32) (r : Fin 256) (d : Fin 128) :
    headVec valid q k0 k1 k2 v0 v1 v2 kc vc b qg kg (ix2 r d)
      = attn
          (fun j => Scalar.select (valid (ix2 r j))
            (score (fun e => q (ix2 r e)) (cat3 k0 k1 k2 j) (fun e => qg (ix2 0 e)) (fun e => kg (ix2 0 e))
              + b (ix3 0 r j)) ⊥)
          (fun c => score (fun e => q (ix2 r e)) (fun e => kc (ix2 c e)) (fun e => qg (ix2 0 e)) (fun e => kg (ix2 0 e)))
          (fun j => cat3 v0 v1 v2 j d) (fun c => vc (ix2 c d)) := by
  pointwise [headVec, k0_pay11, k0_pay10, k0_pay9, k0_pay8, k0_pay7, k0_pay6]
  rfl

end Cert.Na

end
-- ==== Proof.Na.Gather.lean ====
/- The reference's gathers, read at an element: of the rows, and then of the columns, of the window that a query reaches. -/
module

public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.Na

open Idealize.ShloMosaic Idealize.SL.Sem Cert.ReferenceIdeal

/-- The rows in reach of row y. -/
theorem gatherRows_apply {α : Type} (x : S2x4x256x64x128.Idx → α) (idx : IVec S256x8x1 32) (b : Fin 2) (h : Fin 4) (y : Fin 256)
    (r : Fin 8) (c : Fin 64) (d : Fin 128) (n : Fin 256)
    (hn : (idx (ix3 y r (0 : Fin 1))).toInt.toNat = n.val) :
    Host.gather gather_S2x4x256x64x128_S256x8x1_S2x4x256x8x64x128_0145_2_n_n_2_2_24164128 x idx (ix6 b h y r c d)
      = x (ix5 b h n c d) := by
  unfold Host.gather
  congr 1
  funext ax
  refine Fin.ext ?_
  match ax with
  | ⟨0, _⟩ => exact Nat.zero_add _
  | ⟨1, _⟩ => exact Nat.zero_add _
  | ⟨2, _⟩ =>
    have e : gather_S2x4x256x64x128_S256x8x1_S2x4x256x8x64x128_0145_2_n_n_2_2_24164128.siIdx (ix6 b h y r c d)
        ⟨0, Nat.zero_lt_one⟩ = ix3 y r (0 : Fin 1) := by
      funext q
      match q with
      | ⟨0, _⟩ => rfl
      | ⟨1, _⟩ => rfl
      | ⟨2, _⟩ => rfl
    show min (idx (gather_S2x4x256x64x128_S256x8x1_S2x4x256x8x64x128_0145_2_n_n_2_2_24164128.siIdx (ix6 b h y r c d)
        ⟨0, Nat.zero_lt_one⟩)).toInt.toNat 255 + 0 + 0 = n.val
    rw [e, hn]
    have := n.isLt
    omega
  | ⟨3, _⟩ => exact Nat.zero_add _
  | ⟨4, _⟩ => exact Nat.zero_add _

/-- The columns in reach of column w. -/
theorem gatherCols_apply {α : Type} (x : S2x4x256x8x64x128.Idx → α) (idx : IVec S64x16x1 32) (b : Fin 2) (h : Fin 4) (y : Fin 256)
    (r : Fin 8) (w : Fin 64) (c : Fin 16) (d : Fin 128) (n : Fin 64)
    (hn : (idx (ix3 w c (0 : Fin 1))).toInt.toNat = n.val) :
    Host.gather gather_S2x4x256x8x64x128_S64x16x1_S2x4x256x8x64x16x128_01236_4_n_n_4_2_2425681128 x idx (ix7 b h y r w c d)
      = x (ix6 b h y r n d) := by
  unfold Host.gather
  congr 1
  funext ax
  refine Fin.ext ?_
  match ax with
  | ⟨0, _⟩ => exact Nat.zero_add _
  | ⟨1, _⟩ => exact Nat.zero_add _
  | ⟨2, _⟩ => exact Nat.zero_add _
  | ⟨3, _⟩ => exact Nat.zero_add _
  | ⟨4, _⟩ =>
    have e : gather_S2x4x256x8x64x128_S64x16x1_S2x4x256x8x64x16x128_01236_4_n_n_4_2_2425681128.siIdx (ix7 b h y r w c d)
        ⟨0, Nat.zero_lt_one⟩ = ix3 w c (0 : Fin 1) := by
      funext q
      match q with
      | ⟨0, _⟩ => rfl
      | ⟨1, _⟩ => rfl
      | ⟨2, _⟩ => rfl
    show min (idx (gather_S2x4x256x8x64x128_S64x16x1_S2x4x256x8x64x16x128_01236_4_n_n_4_2_2425681128.siIdx (ix7 b h y r w c d)
        ⟨0, Nat.zero_lt_one⟩)).toInt.toNat 63 + 0 + 0 = n.val
    rw [e, hn]
    have := n.isLt
    omega
  | ⟨5, _⟩ => exact Nat.zero_add _

/-- The bias of the columns in reach of column w. -/
theorem gatherBiasCols_apply {α : Type} (x : S4x15x31.Idx → α) (idx : IVec S64x16x1 32) (h : Fin 4) (a : Fin 15) (w : Fin 64) (c : Fin 16) (n : Fin 31)
    (hn : (idx (ix3 w c (0 : Fin 1))).toInt.toNat = n.val) :
    Host.gather gather_S4x15x31_S64x16x1_S4x15x64x16_01_2_n_n_2_2_4151 x idx (ix4 h a w c)
      = x (ix3 h a n) := by
  unfold Host.gather
  congr 1
  funext ax
  refine Fin.ext ?_
  match ax with
  | ⟨0, _⟩ => exact Nat.zero_add _
  | ⟨1, _⟩ => exact Nat.zero_add _
  | ⟨2, _⟩ =>
    have e : gather_S4x15x31_S64x16x1_S4x15x64x16_01_2_n_n_2_2_4151.siIdx (ix4 h a w c)
        ⟨0, Nat.zero_lt_one⟩ = ix3 w c (0 : Fin 1) := by
      funext q
      match q with
      | ⟨0, _⟩ => rfl
      | ⟨1, _⟩ => rfl
      | ⟨2, _⟩ => rfl
    show min (idx (gather_S4x15x31_S64x16x1_S4x15x64x16_01_2_n_n_2_2_4151.siIdx (ix4 h a w c)
        ⟨0, Nat.zero_lt_one⟩)).toInt.toNat 30 + 0 + 0 = n.val
    rw [e, hn]
    have := n.isLt
    omega

/-- The bias of the rows in reach of row y. -/
theorem gatherBiasRows_apply {α : Type} (x : S4x15x64x16.Idx → α) (idx : IVec S256x8x1 32) (h : Fin 4) (y : Fin 256) (r : Fin 8) (w : Fin 64) (c : Fin 16) (n : Fin 15)
    (hn : (idx (ix3 y r (0 : Fin 1))).toInt.toNat = n.val) :
    Host.gather gather_S4x15x64x16_S256x8x1_S4x256x8x64x16_034_1_n_n_1_2_416416 x idx (ix5 h y r w c)
      = x (ix4 h n w c) := by
  unfold Host.gather
  congr 1
  funext ax
  refine Fin.ext ?_
  match ax with
  | ⟨0, _⟩ => exact Nat.zero_add _
  | ⟨1, _⟩ =>
    have e : gather_S4x15x64x16_S256x8x1_S4x256x8x64x16_034_1_n_n_1_2_416416.siIdx (ix5 h y r w c)
        ⟨0, Nat.zero_lt_one⟩ = ix3 y r (0 : Fin 1) := by
      funext q
      match q with
      | ⟨0, _⟩ => rfl
      | ⟨1, _⟩ => rfl
      | ⟨2, _⟩ => rfl
    show min (idx (gather_S4x15x64x16_S256x8x1_S4x256x8x64x16_034_1_n_n_1_2_416416.siIdx (ix5 h y r w c)
        ⟨0, Nat.zero_lt_one⟩)).toInt.toNat 14 + 0 + 0 = n.val
    rw [e, hn]
    have := n.isLt
    omega
  | ⟨2, _⟩ => exact Nat.zero_add _
  | ⟨3, _⟩ => exact Nat.zero_add _

end Cert.Na

end
-- ==== Proof.Na.Math.lean ====
/- Softmax over extended reals: a softmax of masked scores, divided at the end, is the softmax of the scores that are
   not masked, divided first; and normalised vectors are always finite. -/
module

public import proofs.«01_k».proof.Proof.Na.Head

@[expose] public section

noncomputable section

namespace Cert.Na

open Idealize.ShloMosaic

/-- A number that is not infinite. -/
def Fin' (x : EReal) : Prop := ∃ r : ℝ, x = (r : EReal)

theorem Fin'.add {x y : EReal} : Fin' x → Fin' y → Fin' (x + y) := by
  rintro ⟨a, rfl⟩ ⟨b, rfl⟩; exact ⟨a + b, (EReal.coe_add a b).symm⟩

theorem Fin'.mul {x y : EReal} : Fin' x → Fin' y → Fin' (x * y) := by
  rintro ⟨a, rfl⟩ ⟨b, rfl⟩; exact ⟨a * b, (EReal.coe_mul a b).symm⟩

theorem Fin'.sum {ι : Type} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact (h a).add ih

theorem fin'_of_abs_lt {x : EReal} (h1 : x ≠ ⊤) (h2 : x ≠ ⊥) : Fin' x :=
  ⟨x.toReal, (EReal.coe_toReal h1 h2).symm⟩

theorem ofBits_128 : Ideal.ofBits .f32 0x43000000#32 = ((128 : ℝ) : EReal) := by
  simp [Ideal.ofBits, Ideal.ieee]; rw [← EReal.coe_mul]; norm_num
theorem ofBits_eps : ∃ r : ℝ, 0 < r ∧ Ideal.ofBits .f32 0x358637BD#32 = (r : EReal) := by
  refine ⟨_, ?_, by simp [Ideal.ofBits, Ideal.ieee]; norm_num; rfl⟩
  positivity
theorem ofBits_scale : Fin' (Ideal.ofBits .f32 0x3DB504F3#32) := by
  refine ⟨_, by simp [Ideal.ofBits, Ideal.ieee]; norm_num; rfl⟩
theorem ofBits_ninf : Ideal.ofBits .f32 0xFF800000#32 = ⊥ := by
  simp [Ideal.ofBits, Ideal.ieee]
theorem ofBits_zero : Ideal.ofBits .f32 0x00000000#32 = 0 := by
  simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A normalised vector times a finite gain is finite, whatever the vector. -/
theorem nrm_fin (x g : Fin 128 → EReal) (hg : ∀ d, Fin' (g d)) (d : Fin 128) : Fin' (nrm x g d) := by
  obtain ⟨e, he, hE⟩ := ofBits_eps
  unfold nrm
  rw [ofBits_128, hE, Ideal.div_coe (by norm_num)]
  refine Fin'.mul ?_ (hg d)
  by_cases hx : ∀ k, Fin' (x k)
  · choose r hr using hx
    have hs : (∑ k, x k * x k) = ((∑ k, r k * r k : ℝ) : EReal) := by
      rw [coe_sum]; exact Finset.sum_congr rfl fun k _ => by rw [hr, EReal.coe_mul]
    have hp : 0 ≤ ∑ k, r k * r k := Finset.sum_nonneg fun k _ => mul_self_nonneg _
    rw [hs, ← EReal.coe_mul, ← EReal.coe_add, hr]
    refine Fin'.mul ⟨_, rfl⟩ ?_
    have hq : 0 < (∑ k, r k * r k) * (1 / 128) + e := by positivity
    refine ⟨(Real.sqrt ((∑ k, r k * r k) * (1 / 128) + e))⁻¹, ?_⟩
    rw [Ideal.rsqrt_coe, if_neg (not_lt.2 hq.le), if_neg hq.ne']
  · push Not at hx
    obtain ⟨k, hk⟩ := hx
    have hk' : x k * x k = ⊤ := by
      by_cases h1 : x k = ⊤
      · rw [h1]; rfl
      by_cases h2 : x k = ⊥
      · rw [h2]; rfl
      exact absurd (fin'_of_abs_lt h1 h2) hk
    have hnn : ∀ k, 0 ≤ x k * x k := fun k => by
      rcases le_total 0 (x k) with h | h
      · exact mul_nonneg h h
      · rw [← neg_mul_neg]; exact mul_nonneg (EReal.neg_nonneg.2 h) (EReal.neg_nonneg.2 h)
    have hs : (∑ k, x k * x k) = ⊤ := by
      refine top_unique ?_
      rw [← hk']
      exact Finset.single_le_sum (f := fun k => x k * x k) (fun k _ => hnn k) (Finset.mem_univ k)
    rw [hs, EReal.top_mul_coe_of_pos (by norm_num), EReal.top_add_coe]
    exact ⟨0, by rw [Ideal.rsqrt_top, mul_zero]; rfl⟩

theorem score_fin (q k qg kg : Fin 128 → EReal) (hq : ∀ d, Fin' (qg d)) (hk : ∀ d, Fin' (kg d)) :
    Fin' (score q k qg kg) :=
  Fin'.sum _ fun d => ((nrm_fin q qg hq d).mul ofBits_scale).mul (nrm_fin k kg hk d)

/-- The softmax of two families of scores, applied to two families of values. -/
def soft {ι κ : Type} [Fintype ι] [Fintype κ] (sl : ι → EReal) (sc : κ → EReal) (vl : ι → EReal) (vc : κ → EReal) :
    EReal :=
  (∑ i, Ideal.div (Ideal.exp (sl i - max (Finset.univ.sup sl) (Finset.univ.sup sc)))
      ((∑ j, Ideal.exp (sl j - max (Finset.univ.sup sl) (Finset.univ.sup sc)))
        + ∑ j, Ideal.exp (sc j - max (Finset.univ.sup sl) (Finset.univ.sup sc))) * vl i)
    + ∑ i, Ideal.div (Ideal.exp (sc i - max (Finset.univ.sup sl) (Finset.univ.sup sc)))
      ((∑ j, Ideal.exp (sl j - max (Finset.univ.sup sl) (Finset.univ.sup sc)))
        + ∑ j, Ideal.exp (sc j - max (Finset.univ.sup sl) (Finset.univ.sup sc))) * vc i

theorem sum_mul_nonneg {ι : Type} (s : Finset ι) (f : ι → EReal) (z : ℝ) (hz : 0 ≤ z) :
    (∑ i ∈ s, f i) * (z : EReal) = ∑ i ∈ s, f i * (z : EReal) := by
  classical
  induction s using Finset.induction_on with
  | empty => simp
  | insert a s ha ih =>
    rw [Finset.sum_insert ha, Finset.sum_insert ha, ← ih,
      EReal.right_distrib_of_nonneg_of_ne_top (EReal.coe_nonneg.2 hz) (EReal.coe_ne_top z)]

theorem exp_pos_fin {x m : EReal} (hx : Fin' x) (hm : Fin' m) :
    ∃ r : ℝ, 0 < r ∧ Ideal.exp (x - m) = (r : EReal) := by
  obtain ⟨a, rfl⟩ := hx
  obtain ⟨b, rfl⟩ := hm
  exact ⟨Real.exp (a - b), Real.exp_pos _, by rw [← EReal.coe_sub]; rfl⟩

theorem sup_fin {κ : Type} [Fintype κ] [Nonempty κ] (s : κ → EReal) (h : ∀ i, Fin' (s i)) : Fin' (Finset.univ.sup s) := by
  obtain ⟨i, _, hi⟩ := Finset.exists_mem_eq_sup (Finset.univ : Finset κ) Finset.univ_nonempty s
  rw [hi]; exact h i

theorem exp_bot (m : EReal) (hm : Fin' m) : Ideal.exp (⊥ - m) = 0 := by
  obtain ⟨b, rfl⟩ := hm
  rfl

/-- The masked attention of the kernel is the softmax over the keys in reach and the context keys. -/
theorem attn_eq_soft {ι : Type} [Fintype ι] (sl : Fin 768 → EReal) (sc : Fin 256 → EReal) (vl : Fin 768 → EReal)
    (vc : Fin 256 → EReal) (e : ι → Fin 768) (he : Function.Injective e) (hb : ∀ j, j ∉ Set.range e → sl j = ⊥)
    (hl : ∀ i, Fin' (sl (e i))) (hc : ∀ c, Fin' (sc c)) :
    attn sl sc vl vc = soft (fun i => sl (e i)) sc (fun i => vl (e i)) vc := by
  classical
  have hsup : Finset.univ.sup sl = Finset.univ.sup fun i => sl (e i) := by
    refine le_antisymm (Finset.sup_le fun j _ => ?_) (Finset.sup_le fun i _ => Finset.le_sup (f := sl) (Finset.mem_univ _))
    by_cases hj : j ∈ Set.range e
    · obtain ⟨i, rfl⟩ := hj
      exact Finset.le_sup (f := fun i => sl (e i)) (Finset.mem_univ i)
    · rw [hb j hj]; exact bot_le
  have h1 : Finset.fold max (Ideal.ofBits .f32 0xFF800000#32) sl Finset.univ = Finset.univ.sup fun i => sl (e i) := by
    rw [ofBits_ninf, ← hsup]; rfl
  have h2 : Finset.fold max (Ideal.ofBits .f32 0xFF800000#32) sc Finset.univ = Finset.univ.sup sc := by
    rw [ofBits_ninf]; rfl
  unfold attn soft
  rw [h1, h2]
  have hm : Fin' (max (Finset.univ.sup fun i => sl (e i)) (Finset.univ.sup sc)) := by
    rcases isEmpty_or_nonempty ι with hι | hι
    · rw [Finset.univ_eq_empty, Finset.sup_empty, bot_sup_eq]; exact sup_fin sc hc
    · rcases le_total (Finset.univ.sup fun i => sl (e i)) (Finset.univ.sup sc) with h | h
      · rw [max_eq_right h]; exact sup_fin sc hc
      · rw [max_eq_left h]; exact sup_fin _ hl
  generalize max (Finset.univ.sup fun i => sl (e i)) (Finset.univ.sup sc) = m at hm ⊢
  have pull : ∀ f : Fin 768 → EReal, (∀ j, j ∉ Set.range e → f j = 0) → ∑ j, f j = ∑ i, f (e i) := fun f hf => by
    rw [← Finset.sum_image (s := Finset.univ) (g := e) (f := f) (fun a _ b _ h => he h)]
    refine (Finset.sum_subset (Finset.subset_univ _) fun j _ hj => hf j fun ⟨i, hi⟩ => hj ?_).symm
    exact Finset.mem_image.2 ⟨i, Finset.mem_univ i, hi⟩
  rw [pull (fun j => Ideal.exp (sl j - m) * vl j) fun j hj => by rw [hb j hj, exp_bot m hm, zero_mul],
    pull (fun j => Ideal.exp (sl j - m)) fun j hj => by rw [hb j hj, exp_bot m hm]]
  choose rl hrl0 hrl using fun i => exp_pos_fin (hl i) hm
  choose rc hrc0 hrc using fun c => exp_pos_fin (hc c) hm
  have hD : (∑ i, Ideal.exp (sl (e i) - m)) + ∑ c, Ideal.exp (sc c - m)
      = (((∑ i, rl i) + ∑ c, rc c : ℝ) : EReal) := by
    rw [EReal.coe_add, coe_sum, coe_sum]
    exact congrArg₂ _ (Finset.sum_congr rfl fun i _ => hrl i) (Finset.sum_congr rfl fun c _ => hrc c)
  have hpos : 0 < (∑ i, rl i) + ∑ c, rc c :=
    add_pos_of_nonneg_of_pos (Finset.sum_nonneg fun i _ => (hrl0 i).le)
      (Finset.sum_pos (fun c _ => hrc0 c) Finset.univ_nonempty)
  rw [hD]
  have hn : 0 ≤ 1 / ((∑ i, rl i) + ∑ c, rc c) := by positivity
  simp only [Ideal.div_coe hpos.ne']
  rw [EReal.right_distrib_of_nonneg_of_ne_top (EReal.coe_nonneg.2 hn) (EReal.coe_ne_top _), sum_mul_nonneg _ _ _ hn,
    sum_mul_nonneg _ _ _ hn]
  exact congrArg₂ _ (Finset.sum_congr rfl fun i _ => mul_right_comm _ _ _)
    (Finset.sum_congr rfl fun c _ => mul_right_comm _ _ _)

/-! A row of 384 scores is 8 rows of 16 columns and 256 context keys. -/

theorem sum_384 (F : Fin 384 → EReal) (g : Fin 8 × Fin 16 → EReal) (h : Fin 256 → EReal)
    (hg : ∀ r c, F ⟨16 * r.val + c.val, by omega⟩ = g (r, c)) (hh : ∀ c, F ⟨128 + c.val, by omega⟩ = h c) :
    ∑ j, F j = (∑ i, g i) + ∑ c, h c := by
  have e1 : ∑ j, F j = ∑ j : Fin (128 + 256), F j := rfl
  rw [e1, Fin.sum_univ_add]
  refine congrArg₂ _ ?_ (Finset.sum_congr rfl fun c _ => hh c)
  rw [← (finProdFinEquiv (m := 8) (n := 16)).sum_comp]
  refine Finset.sum_congr rfl fun i _ => ?_
  rw [← hg i.1 i.2]
  congr 1
  exact Fin.ext (by simp [finProdFinEquiv]; omega)

theorem sup_384 (F : Fin 384 → EReal) (g : Fin 8 × Fin 16 → EReal) (h : Fin 256 → EReal)
    (hg : ∀ r c, F ⟨16 * r.val + c.val, by omega⟩ = g (r, c)) (hh : ∀ c, F ⟨128 + c.val, by omega⟩ = h c) :
    Finset.univ.sup F = max (Finset.univ.sup g) (Finset.univ.sup h) := by
  refine le_antisymm (Finset.sup_le fun j _ => ?_) (max_le (Finset.sup_le fun i _ => ?_) (Finset.sup_le fun c _ => ?_))
  · by_cases hj : j.val < 128
    · refine le_max_of_le_left ?_
      have : F j = g (⟨j.val / 16, by omega⟩, ⟨j.val % 16, by omega⟩) := by
        rw [← hg]; congr 1; exact Fin.ext (by simp only []; omega)
      rw [this]; exact Finset.le_sup (Finset.mem_univ _)
    · refine le_max_of_le_right ?_
      have : F j = h ⟨j.val - 128, by omega⟩ := by
        rw [← hh]; congr 1; exact Fin.ext (by simp only []; omega)
      rw [this]; exact Finset.le_sup (Finset.mem_univ _)
  · rw [← hg i.1 i.2]; exact Finset.le_sup (Finset.mem_univ _)
  · rw [← hh c]; exact Finset.le_sup (Finset.mem_univ _)

end Cert.Na

end
-- ==== Proof.Na.RefA.lean ====
/- The reference's heads and windows, read at an element of its arguments. -/
module

public import proofs.«01_k».proof.Proof.Na.Gather
public import proofs.«01_k».proof.Proof.Na.Math
public import Idealize.ShloMosaic.Lib.Tactic.CleanTypes

@[expose] public section

set_option maxRecDepth 16384

noncomputable section

namespace Cert.Na

open Idealize.ShloMosaic Idealize.SL.Sem Cert.ReferenceIdeal Cert.ReferenceIdeal.Gen Cert.ReferenceIdeal.Value

/-- The reference's buffers on one device. -/
abbrev RefContents := Valuation τ sig (Elt Ideal)

/-- The first row in reach of row y, and the first column in reach of column x. -/
def rowStart (y : ℕ) : ℕ := min (y - 4) 248
def colStart (x : ℕ) : ℕ := min (x - 8) 48

/-- One head of a token: part 0 is its query, part 1 its key and part 2 its value. -/
def part (P : S33280x14336.Idx → EReal) (s : Fin 3) (h : Fin 4) (t : Fin 33280) (d : Fin 128) : EReal :=
  P (ix2 t ⟨512 * s.val + (128 * h.val + d.val), by omega⟩)

/-- A context token and a latent token. -/
def ctxTok (b : Fin 2) (r : Fin 256) : Fin 33280 := ⟨256 * b.val + r.val, by omega⟩
def latTok (b : Fin 2) (y : Fin 256) (x : Fin 64) : Fin 33280 := ⟨512 + 16384 * b.val + 64 * y.val + x.val, by omega⟩

theorem row_word (V : RefContents) (y : Fin 256) (r : Fin 8) :
    (res_main_v109 V (ix2 y r)).toInt.toNat = rowStart y.val + r.val := by
  unfold res_main_v109 res_main_v100
  pointwise
  revert y r
  decide +kernel

theorem col_word (V : RefContents) (x : Fin 64) (c : Fin 16) :
    (res_main_v90 V (ix2 x c)).toInt.toNat = colStart x.val + c.val := by
  unfold res_main_v90 res_main_v81
  pointwise
  revert x c
  decide +kernel

theorem biasRow_word (V : RefContents) (y : Fin 256) (r : Fin 8) :
    (broadcastInDim S256x8x1 ![0, 1] bcast_S256x8_S256x8x1_0_1 (subi (addi (subi (res_main_v109 V) (broadcastInDim S256x8 ![0, 1] bcast_S256x1_S256x8_0_1 (broadcastInDim S256x1 ![0] bcast_S256_S256x1_0 (res_main_v100 V)))) (broadcastInDim S256x8 ![] bcast_S_S256x8 (constantI S_ 32 8#32))) (broadcastInDim S256x8 ![] bcast_S_S256x8 (constantI S_ 32 1#32))) (ix3 y r (0 : Fin 1))).toInt.toNat
      = rowStart y.val + r.val + 7 - y.val := by
  unfold res_main_v109 res_main_v100
  pointwise
  revert y r
  decide +kernel

theorem biasCol_word (V : RefContents) (x : Fin 64) (c : Fin 16) :
    (broadcastInDim S64x16x1 ![0, 1] bcast_S64x16_S64x16x1_0_1 (subi (addi (subi (res_main_v90 V) (broadcastInDim S64x16 ![0, 1] bcast_S64x1_S64x16_0_1 (broadcastInDim S64x1 ![0] bcast_S64_S64x1_0 (res_main_v81 V)))) (broadcastInDim S64x16 ![] bcast_S_S64x16 (constantI S_ 32 16#32))) (broadcastInDim S64x16 ![] bcast_S_S64x16 (constantI S_ 32 1#32))) (ix3 x c (0 : Fin 1))).toInt.toNat
      = colStart x.val + c.val + 15 - x.val := by
  unfold res_main_v90 res_main_v81
  pointwise
  revert x c
  decide +kernel

theorem v8_apply (V : RefContents) (b : Fin 2) (h : Fin 4) (r : Fin 256) (d : Fin 128) :
    res_main_v8 V (ix4 b h r d) = part (V (Proc.devRef .tc main_arg0)) 0 h (ctxTok b r) d := by
  unfold res_main_v8 res_main_v1 part ctxTok
  pointwise
  blk_ext []

theorem v25_apply (V : RefContents) (b : Fin 2) (h : Fin 4) (r : Fin 256) (d : Fin 128) :
    res_main_v25 V (ix4 b h r d) = part (V (Proc.devRef .tc main_arg0)) 1 h (ctxTok b r) d := by
  unfold res_main_v25 res_main_v1 part ctxTok
  pointwise
  blk_ext []

theorem v40_apply (V : RefContents) (b : Fin 2) (h : Fin 4) (r : Fin 256) (d : Fin 128) :
    res_main_v40 V (ix4 b h r d) = part (V (Proc.devRef .tc main_arg0)) 2 h (ctxTok b r) d := by
  unfold res_main_v40 res_main_v1 part ctxTok
  pointwise
  blk_ext []

/-- The token of a flat latent index. -/
def flatTok (b : Fin 2) (t : Fin 16384) : Fin 33280 := ⟨512 + 16384 * b.val + t.val, by omega⟩

theorem v45_apply (V : RefContents) (b : Fin 2) (h : Fin 4) (t : Fin 16384) (d : Fin 128) :
    res_main_v45 V (ix4 b h t d) = part (V (Proc.devRef .tc main_arg0)) 0 h (flatTok b t) d := by
  unfold res_main_v45 res_main_v3 part flatTok
  pointwise
  blk_ext []

theorem v62_apply (V : RefContents) (b : Fin 2) (h : Fin 4) (t : Fin 16384) (d : Fin 128) :
    res_main_v62 V (ix4 b h t d) = part (V (Proc.devRef .tc main_arg0)) 1 h (flatTok b t) d := by
  unfold res_main_v62 res_main_v3 part flatTok
  pointwise
  blk_ext []

theorem v38_apply (V : RefContents) (b : Fin 2) (h : Fin 4) (r : Fin 256) (d : Fin 128) :
    res_main_v38 V (ix4 b h r d)
      = nrm (part (V (Proc.devRef .tc main_arg0)) 1 h (ctxTok b r)) (fun e => V (Proc.devRef .tc main_arg3) (ix1 e)) d := by
  unfold res_main_v38
  pointwise
  simp only [v25_apply]
  rfl

theorem flat_eq (b : Fin 2) (y : Fin 256) (x : Fin 64) (h : y.val * 64 + x.val < 16384) :
    flatTok b ⟨y.val * 64 + x.val, h⟩ = latTok b y x :=
  Fin.ext (by simp only [flatTok, latTok]; omega)

/-- The keys of a token's window, and the scores of a query against them. -/
def winRow (y : Fin 256) (r : Fin 8) : Fin 256 := ⟨rowStart y.val + r.val, by unfold rowStart; omega⟩
def winCol (x : Fin 64) (c : Fin 16) : Fin 64 := ⟨colStart x.val + c.val, by unfold colStart; omega⟩
def biasRow (y : Fin 256) (r : Fin 8) : Fin 15 := ⟨rowStart y.val + r.val + 7 - y.val, by unfold rowStart; omega⟩
def biasCol (x : Fin 64) (c : Fin 16) : Fin 31 := ⟨colStart x.val + c.val + 15 - x.val, by unfold colStart; omega⟩

def latScore (P : S33280x14336.Idx → EReal) (rpb : S4x15x31.Idx → EReal) (qg kg : S128.Idx → EReal) (b : Fin 2) (h : Fin 4)
    (y : Fin 256) (x : Fin 64) (i : Fin 8 × Fin 16) : EReal :=
  score (part P 0 h (latTok b y x)) (part P 1 h (latTok b (winRow y i.1) (winCol x i.2))) (fun e => qg (ix1 e))
    (fun e => kg (ix1 e)) + rpb (ix3 h (biasRow y i.1) (biasCol x i.2))

def ctxScore (P : S33280x14336.Idx → EReal) (qg kg : S128.Idx → EReal) (b : Fin 2) (h : Fin 4) (t : Fin 33280)
    (c : Fin 256) : EReal :=
  score (part P 0 h t) (part P 1 h (ctxTok b c)) (fun e => qg (ix1 e)) (fun e => kg (ix1 e))

theorem v78_apply (V : RefContents) (b : Fin 2) (h : Fin 4) (y : Fin 256) (x : Fin 64) (d : Fin 128) :
    res_main_v78 V (ix5 b h y x d)
      = nrm (part (V (Proc.devRef .tc main_arg0)) 0 h (latTok b y x)) (fun e => V (Proc.devRef .tc main_arg2) (ix1 e)) d
        * Ideal.ofBits .f32 0x3DB504F3#32 := by
  unfold res_main_v78
  pointwise
  simp only [v45_apply]
  rw [flat_eq]
  rfl

theorem winRow_word (V : RefContents) (y : Fin 256) (r : Fin 8) :
    (broadcastInDim S256x8x1 ![0, 1] bcast_S256x8_S256x8x1_0_1 (res_main_v109 V) (ix3 y r (0 : Fin 1))).toInt.toNat
      = rowStart y.val + r.val := by
  pointwise
  exact row_word V y r

theorem winCol_word (V : RefContents) (x : Fin 64) (c : Fin 16) :
    (broadcastInDim S64x16x1 ![0, 1] bcast_S64x16_S64x16x1_0_1 (res_main_v90 V) (ix3 x c (0 : Fin 1))).toInt.toNat
      = colStart x.val + c.val := by
  pointwise
  exact col_word V x c

theorem v134_lat (V : RefContents) (b : Fin 2) (h : Fin 4) (y : Fin 256) (x : Fin 64) (r : Fin 8) (c : Fin 16) :
    res_main_v134 V (ix5 b h y x ⟨16 * r.val + c.val, by omega⟩)
      = latScore (V (Proc.devRef .tc main_arg0)) (V (Proc.devRef .tc main_arg1)) (V (Proc.devRef .tc main_arg2))
          (V (Proc.devRef .tc main_arg3)) b h y x (r, c) := by
  unfold res_main_v134
  pointwise
  rw [dif_pos (show 16 * r.val + c.val < 128 by omega),
    gatherBiasRows_apply _ _ h y r x c (biasRow y r) (biasRow_word V y r),
    gatherBiasCols_apply _ _ h _ x c (biasCol x c) (biasCol_word V x c)]
  unfold latScore score
  refine congrArg (· + _) (Finset.sum_congr rfl fun d _ => ?_)
  rw [v78_apply, gatherCols_apply _ _ b h y r x c d (winCol x c) (winCol_word V x c),
    gatherRows_apply _ _ b h y r _ d (winRow y r) (winRow_word V y r)]
  pointwise
  simp only [v62_apply, flat_eq]
  rfl

theorem v134_ctx (V : RefContents) (b : Fin 2) (h : Fin 4) (y : Fin 256) (x : Fin 64) (c : Fin 256) :
    res_main_v134 V (ix5 b h y x ⟨128 + c.val, by omega⟩)
      = ctxScore (V (Proc.devRef .tc main_arg0)) (V (Proc.devRef .tc main_arg2))
          (V (Proc.devRef .tc main_arg3)) b h (latTok b y x) c := by
  unfold res_main_v134
  pointwise
  simp only [v78_apply, v38_apply]
  rfl

theorem v153_apply (V : RefContents) (b : Fin 2) (h : Fin 4) (r : Fin 256) (c : Fin 256) :
    res_main_v153 V (ix4 b h r c)
      = ctxScore (V (Proc.devRef .tc main_arg0)) (V (Proc.devRef .tc main_arg2))
          (V (Proc.devRef .tc main_arg3)) b h (ctxTok b r) c := by
  unfold res_main_v153
  pointwise
  simp only [v8_apply, v38_apply]
  rfl

/-- The reference's output at a context token and at a latent token. -/
def refCtx (P : S33280x14336.Idx → EReal) (qg kg : S128.Idx → EReal) (b : Fin 2) (h : Fin 4) (r : Fin 256) (d : Fin 128) :
    EReal :=
  soft (ι := Fin 0) Fin.elim0 (ctxScore P qg kg b h (ctxTok b r)) Fin.elim0 (fun c => part P 2 h (ctxTok b c) d)

def refLat (P : S33280x14336.Idx → EReal) (rpb : S4x15x31.Idx → EReal) (qg kg : S128.Idx → EReal) (b : Fin 2) (h : Fin 4)
    (y : Fin 256) (x : Fin 64) (d : Fin 128) : EReal :=
  soft (latScore P rpb qg kg b h y x) (ctxScore P qg kg b h (latTok b y x))
    (fun i => part P 2 h (latTok b (winRow y i.1) (winCol x i.2)) d) (fun c => part P 2 h (ctxTok b c) d)

/-- The largest score of a latent query and of a context query. -/
def latMax (P : S33280x14336.Idx → EReal) (rpb : S4x15x31.Idx → EReal) (qg kg : S128.Idx → EReal) (b : Fin 2) (h : Fin 4)
    (y : Fin 256) (x : Fin 64) : EReal :=
  max (Finset.univ.sup (latScore P rpb qg kg b h y x)) (Finset.univ.sup (ctxScore P qg kg b h (latTok b y x)))

def ctxMax (P : S33280x14336.Idx → EReal) (qg kg : S128.Idx → EReal) (b : Fin 2) (h : Fin 4) (r : Fin 256) : EReal :=
  max (Finset.univ.sup (Fin.elim0 : Fin 0 → EReal)) (Finset.univ.sup (ctxScore P qg kg b h (ctxTok b r)))

/-- The reference's arguments. -/
abbrev argP (V : RefContents) : S33280x14336.Idx → EReal := V (Proc.devRef .tc main_arg0)
abbrev argB (V : RefContents) : S4x15x31.Idx → EReal := V (Proc.devRef .tc main_arg1)
abbrev argG (V : RefContents) : S128.Idx → EReal := V (Proc.devRef .tc main_arg2)
abbrev argK (V : RefContents) : S128.Idx → EReal := V (Proc.devRef .tc main_arg3)

/-- The scores, the exponentials and the weights of the latent queries, and the exponentials of the context queries. -/
abbrev r134 (V : RefContents) : S2x4x256x64x384.Idx → EReal := res_main_v134 V
abbrev r139 (V : RefContents) : S2x4x256x64x384.Idx → EReal := res_main_v139 V
abbrev r143 (V : RefContents) : S2x4x256x64x384.Idx → EReal := res_main_v143 V
abbrev r158 (V : RefContents) : S2x4x256x256.Idx → EReal := res_main_v158 V

theorem v139_apply (V : RefContents) (b : Fin 2) (h : Fin 4) (y : Fin 256) (x : Fin 64) (j : Fin 384) :
    r139 V (ix5 b h y x j)
      = Ideal.exp (r134 V (ix5 b h y x j) - latMax (argP V) (argB V) (argG V) (argK V) b h y x) := by
  unfold r139 res_main_v139 latMax
  clean_types
  pointwise
  rw [← sup_384 (fun j => r134 V (ix5 b h y x j)) _ _
    (fun r c => v134_lat V b h y x r c) (fun c => v134_ctx V b h y x c), ofBits_ninf]
  rfl

theorem v143_apply (V : RefContents) (b : Fin 2) (h : Fin 4) (y : Fin 256) (x : Fin 64) (j : Fin 384) :
    r143 V (ix5 b h y x j)
      = Ideal.div (r139 V (ix5 b h y x j))
          ((∑ i, Ideal.exp (latScore (argP V) (argB V) (argG V) (argK V) b h y x i - latMax (argP V) (argB V) (argG V) (argK V) b h y x))
            + ∑ c, Ideal.exp (ctxScore (argP V) (argG V) (argK V) b h (latTok b y x) c - latMax (argP V) (argB V) (argG V) (argK V) b h y x)) := by
  unfold r143 res_main_v143
  clean_types
  pointwise
  refine congrArg _ (sum_384 (fun j => r139 V (ix5 b h y x j)) _ _
    (fun r c => ?_) (fun c => ?_))
  · rw [v139_apply, r134, v134_lat]
  · rw [v139_apply, r134, v134_ctx]

theorem v158_apply (V : RefContents) (b : Fin 2) (h : Fin 4) (r : Fin 256) (c : Fin 256) :
    r158 V (ix4 b h r c)
      = Ideal.exp (ctxScore (argP V) (argG V) (argK V) b h (ctxTok b r) c - ctxMax (argP V) (argG V) (argK V) b h r) := by
  unfold r158 res_main_v158 ctxMax
  clean_types
  pointwise
  simp only [v153_apply]
  rw [ofBits_ninf, Finset.univ_eq_empty (α := Fin 0), Finset.sup_empty, bot_sup_eq]
  rfl

end Cert.Na

end
-- ==== Proof.Na.Valid.lean ====
/- The mask of the rows in reach, and where the windows of a grid point lie, in plain numbers. -/
module

public import proofs.«01_k».proof.Proof.Na.Head
public import proofs.«01_k».proof.Proof.Na.RefA

@[expose] public section

set_option maxRecDepth 16384

noncomputable section

namespace Cert.Na

open Idealize.ShloMosaic Idealize.SL.Sem Cert.KernelIdeal Cert.KernelIdeal.Gen

/-- Whether window row k is in reach of row g of step s, as a word. -/
def rowReach (s g k : ℕ) : BitVec 1 :=
  if 0 < s ∧ rowStart (4 * (s - 1) + g) + 4 ≤ 4 * (s - 1) + k ∧ 4 * (s - 1) + k < rowStart (4 * (s - 1) + g) + 12 then 1#1 else 0#1

theorem pay2_word (i : grid0.Coords) (r : Fin 256) (j : Fin 768) :
    k0_pay2 i (ix2 r j) = ((BitVec.ofNat 32 (i 1).val - 1#32) * 4#32) + BitVec.ofNat 32 (r.val / 64) := by
  unfold k0_pay2
  pointwise
  refine congrArg (fun z : BitVec 32 => ((BitVec.ofNat 32 (i 1).val - 1#32) * 4#32) + z) ?_
  revert r
  decide +kernel

/-- The quotient by 64 as the kernel's words take it. -/
def quot64 (j : BitVec 32) : BitVec 32 :=
  Scalar.select
    (IntOp.andi
      (IntOp.cmpi .ne
        (IntOp.subi (BitVec.setWidth 32 (IntOp.cmpi .sgt j 0#32)) (BitVec.setWidth 32 (IntOp.cmpi .slt j 0#32)))
        (Scalar.subi (Scalar.extui (Scalar.cmpi .sgt 64#32 0#32)) (Scalar.extui (Scalar.cmpi .slt 64#32 0#32))))
      (IntOp.cmpi .ne (IntOp.remsi .vector j 64#32) 0#32))
    (IntOp.subi (IntOp.divsi .vector j 64#32) 1#32)
    (IntOp.divsi .vector j 64#32)

theorem quot64_eq : ∀ j : Fin 768, quot64 (BitVec.ofNat 32 j.val) = BitVec.ofNat 32 (j.val / 64) := by decide +kernel

theorem reach_word : ∀ (s : Fin 65) (g : Fin 4) (k : Fin 12),
    IntOp.andi
      (IntOp.andi
        (IntOp.cmpi .sge
          (IntOp.addi (Scalar.subi (Scalar.muli (Scalar.subi (BitVec.ofNat 32 s.val) 1#32) 4#32) 4#32) (BitVec.ofNat 32 k.val))
          (IntOp.minsi (248#32) (IntOp.maxsi (0#32) (IntOp.subi ((BitVec.ofNat 32 s.val - 1#32) * 4#32 + BitVec.ofNat 32 g.val) 4#32))))
        (IntOp.cmpi .slt
          (IntOp.addi (Scalar.subi (Scalar.muli (Scalar.subi (BitVec.ofNat 32 s.val) 1#32) 4#32) 4#32) (BitVec.ofNat 32 k.val))
          (IntOp.addi
            (IntOp.minsi (248#32) (IntOp.maxsi (0#32) (IntOp.subi ((BitVec.ofNat 32 s.val - 1#32) * 4#32 + BitVec.ofNat 32 g.val) 4#32)))
            8#32)))
      (Scalar.cmpi .sgt (BitVec.ofNat 32 s.val) 0#32) = rowReach s.val g.val k.val := by decide +kernel

theorem valid_word (i : grid0.Coords) (r : Fin 256) (j : Fin 768) (g : Fin 4) (k : Fin 12) (hg : r.val / 64 = g.val) (hk : j.val / 64 = k.val) :
    validAt i (ix2 r j) = rowReach (i 1).val g.val k.val := by
  unfold validAt k0_pay5 k0_pay3 k0_pay4
  pointwise
  rw [pay2_word, hg]
  have hq := quot64_eq j
  rw [hk] at hq
  unfold quot64 at hq
  rw [hq]
  exact reach_word (i 1) g k

end Cert.Na

end
-- ==== Proof.Na.Core.lean ====
/- The arithmetic of the kernel's windows: which tokens a step's keys are, and that the masked softmax over the
   keys of three windows is the softmax over the keys in reach. -/
module

public import proofs.«01_k».proof.Proof.Na.Valid
public import proofs.«01_k».proof.Proof.Na.Math

@[expose] public section

set_option maxRecDepth 16384

noncomputable section

namespace Cert.Na

open Idealize.ShloMosaic Idealize.SL.Sem Cert.KernelIdeal

/-- The blocks of 256 rows that a step reads and writes, and a block's tokens. -/
def ctxBlk (b : Fin 2) : Fin 130 := ⟨b.val, by omega⟩
def rowBlk (b : Fin 2) (s : Fin 65) : Fin 130 := if s.val = 0 then ⟨b.val, by omega⟩ else ⟨2 + 64 * b.val + (s.val - 1), by omega⟩
def nearBlk (b : Fin 2) (s : Fin 65) (d : Fin 3) : Fin 130 := ⟨2 + 64 * b.val + min (s.val + d.val - 2) 63, by omega⟩
def tok (B : Fin 130) (r : Fin 256) : Fin 33280 := ⟨256 * B.val + r.val, by omega⟩

/-- The token of a key's place in the three windows. -/
def catTok (b : Fin 2) (s : Fin 65) (j : Fin 768) : Fin 33280 :=
  if h : j.val < 256 then tok (nearBlk b s 0) ⟨j.val, h⟩
  else if h1 : j.val - 256 < 256 then tok (nearBlk b s 1) ⟨j.val - 256, h1⟩
  else tok (nearBlk b s 2) ⟨j.val - 256 - 256, by omega⟩

theorem cat3_part (P : S33280x14336.Idx → EReal) (q : Fin 3) (h : Fin 4) (b : Fin 2) (s : Fin 65)
    (k0 k1 k2 : Vec Ideal S256x128 .f32)
    (h0 : ∀ r e, k0 (ix2 r e) = part P q h (tok (nearBlk b s 0) r) e)
    (h1 : ∀ r e, k1 (ix2 r e) = part P q h (tok (nearBlk b s 1) r) e)
    (h2 : ∀ r e, k2 (ix2 r e) = part P q h (tok (nearBlk b s 2) r) e) (j : Fin 768) (e : Fin 128) :
    cat3 k0 k1 k2 j e = part P q h (catTok b s j) e := by
  unfold cat3 catTok
  split
  · exact h0 _ _
  · split
    · exact h1 _ _
    · exact h2 _ _

/-- The latent row of a step's row, and the place of a key in reach. -/
def stepRow (s : Fin 65) (g : Fin 4) (hs : 0 < s.val) : Fin 256 := ⟨4 * (s.val - 1) + g.val, by omega⟩
def keyRow (s : Fin 65) (g : Fin 4) (r : Fin 8) (hs : 0 < s.val) : Fin 12 :=
  ⟨rowStart (4 * (s.val - 1) + g.val) + r.val + 4 - 4 * (s.val - 1), by unfold rowStart; omega⟩
def keyAt (s : Fin 65) (g : Fin 4) (x : Fin 64) (hs : 0 < s.val) (i : Fin 8 × Fin 16) : Fin 768 :=
  ⟨64 * (keyRow s g i.1 hs).val + (winCol x i.2).val, by omega⟩

theorem keyRow_tok (b : Fin 2) (s : Fin 65) (g : Fin 4) (hs : 0 < s.val) (r : Fin 8) (w : Fin 64) :
    catTok b s (⟨64 * (keyRow s g r hs).val + w.val, by omega⟩ : Fin 768) = latTok b (winRow (stepRow s g hs) r) w := by
  apply Fin.ext
  unfold catTok keyRow winRow stepRow latTok tok nearBlk rowStart
  have e0 : ((0 : Fin 3) : ℕ) = 0 := rfl
  have e1 : ((1 : Fin 3) : ℕ) = 1 := rfl
  have e2 : ((2 : Fin 3) : ℕ) = 2 := rfl
  split
  next h =>
    have h' : 64 * (min (4 * (s.val - 1) + g.val - 4) 248 + r.val + 4 - 4 * (s.val - 1)) + w.val < 256 := h
    dsimp only
    omega
  next h =>
    have h' : ¬ 64 * (min (4 * (s.val - 1) + g.val - 4) 248 + r.val + 4 - 4 * (s.val - 1)) + w.val < 256 := h
    split
    next h1 =>
      have h1' : 64 * (min (4 * (s.val - 1) + g.val - 4) 248 + r.val + 4 - 4 * (s.val - 1)) + w.val - 256 < 256 := h1
      dsimp only
      omega
    next h1 =>
      have h1' : ¬ 64 * (min (4 * (s.val - 1) + g.val - 4) 248 + r.val + 4 - 4 * (s.val - 1)) + w.val - 256 < 256 := h1
      dsimp only
      omega

theorem keyAt_tok (b : Fin 2) (s : Fin 65) (g : Fin 4) (x : Fin 64) (hs : 0 < s.val) (i : Fin 8 × Fin 16) :
    catTok b s (keyAt s g x hs i) = latTok b (winRow (stepRow s g hs) i.1) (winCol x i.2) :=
  keyRow_tok b s g hs i.1 (winCol x i.2)

theorem keyAt_inj (s : Fin 65) (g : Fin 4) (x : Fin 64) (hs : 0 < s.val) : Function.Injective (keyAt s g x hs) := by
  rintro ⟨r, c⟩ ⟨r', c'⟩ e
  have e' := congrArg Fin.val e
  unfold keyAt keyRow winCol rowStart colStart at e'
  dsimp only at e'
  refine Prod.ext (Fin.ext ?_) (Fin.ext ?_) <;> dsimp only <;> omega

/-- At a context step no latent key counts. -/
theorem ctx_core (P : S33280x14336.Idx → EReal) (qg kg : S128.Idx → EReal) (b : Fin 2) (h : Fin 4) (r : Fin 256)
    (d : Fin 128) (hq : ∀ e, Fin' (qg (ix1 e))) (hk : ∀ e, Fin' (kg (ix1 e))) (sl vl : Fin 768 → EReal) (hsl : ∀ j, sl j = ⊥) :
    attn sl (ctxScore P qg kg b h (ctxTok b r)) vl (fun c => part P 2 h (ctxTok b c) d) = refCtx P qg kg b h r d := by
  rw [attn_eq_soft sl (ctxScore P qg kg b h (ctxTok b r)) vl _ (Fin.elim0 : Fin 0 → Fin 768) (fun i => i.elim0) (fun j _ => hsl j) (fun i => i.elim0)
    (fun c => score_fin _ _ _ _ hq hk)]
  unfold refCtx
  congr 1
  · funext i; exact i.elim0
  · funext i; exact i.elim0

/-- At a latent step the masked keys of the three windows are those in reach. -/
theorem lat_core (P : S33280x14336.Idx → EReal) (rpb : S4x15x31.Idx → EReal) (qg kg : S128.Idx → EReal) (b : Fin 2) (h : Fin 4)
    (s : Fin 65) (hs : 0 < s.val) (g : Fin 4) (x : Fin 64) (d : Fin 128) (hr : ∀ i, Fin' (rpb i))
    (hq : ∀ e, Fin' (qg (ix1 e))) (hk : ∀ e, Fin' (kg (ix1 e))) (B : Fin 768 → EReal) (v : Fin 768 → BitVec 1)
    (hB : ∀ (k : Fin 12) (y : Fin 64), B ⟨64 * k.val + y.val, by omega⟩
      = if hw : colStart x.val ≤ y.val ∧ y.val < colStart x.val + 16 then
          rpb (ix3 h (⟨k.val + 3 - g.val, by omega⟩ : Fin 15) (⟨y.val + 15 - x.val, by unfold colStart at hw; omega⟩ : Fin 31))
        else (⊥ : EReal))
    (hv : ∀ (k : Fin 12) (y : Fin 64), v ⟨64 * k.val + y.val, by omega⟩ = rowReach s.val g.val k.val) :
    attn (fun j => Scalar.select (v j)
        (score (part P 0 h (latTok b (stepRow s g hs) x)) (part P 1 h (catTok b s j)) (fun e => qg (ix1 e)) (fun e => kg (ix1 e)) + B j) ⊥)
      (ctxScore P qg kg b h (latTok b (stepRow s g hs) x)) (fun j => part P 2 h (catTok b s j) d)
      (fun c => part P 2 h (ctxTok b c) d)
      = refLat P rpb qg kg b h (stepRow s g hs) x d := by
  have key : ∀ i, Scalar.select (v (keyAt s g x hs i))
        (score (part P 0 h (latTok b (stepRow s g hs) x)) (part P 1 h (catTok b s (keyAt s g x hs i))) (fun e => qg (ix1 e))
          (fun e => kg (ix1 e)) + B (keyAt s g x hs i)) ⊥ = latScore P rpb qg kg b h (stepRow s g hs) x i := by
    intro i
    rw [keyAt_tok]
    have h1 : v (keyAt s g x hs i) = 1#1 := by
      refine (hv (keyRow s g i.1 hs) (winCol x i.2)).trans ?_
      unfold rowReach
      rw [if_pos]
      unfold keyRow rowStart
      dsimp only
      omega
    have h2 : B (keyAt s g x hs i) = rpb (ix3 h (biasRow (stepRow s g hs) i.1) (biasCol x i.2)) := by
      refine (hB (keyRow s g i.1 hs) (winCol x i.2)).trans ?_
      rw [dif_pos (by unfold winCol; dsimp only; omega)]
      congr 2
      apply Fin.ext
      unfold keyRow biasRow stepRow rowStart
      dsimp only
      omega
    rw [h1, h2]
    rfl
  rw [attn_eq_soft _ _ _ _ (keyAt s g x hs) (keyAt_inj s g x hs)]
  · unfold refLat
    congr 1
    · funext i; exact key i
    · funext i; rw [keyAt_tok]
  · intro j hj
    have ej : j = ⟨64 * (⟨j.val / 64, by omega⟩ : Fin 12).val + (⟨j.val % 64, by omega⟩ : Fin 64).val, by dsimp only; omega⟩ :=
      Fin.ext (by dsimp only; omega)
    have hvj := hv ⟨j.val / 64, by omega⟩ ⟨j.val % 64, by omega⟩
    have hBj := hB ⟨j.val / 64, by omega⟩ ⟨j.val % 64, by omega⟩
    rw [← ej] at hvj hBj
    rw [hvj, hBj]
    unfold rowReach
    split
    next hrow =>
      split
      next hcol =>
        exfalso
        have hr' : 0 < s.val ∧ rowStart (4 * (s.val - 1) + g.val) + 4 ≤ 4 * (s.val - 1) + j.val / 64
          ∧ 4 * (s.val - 1) + j.val / 64 < rowStart (4 * (s.val - 1) + g.val) + 12 := hrow
        have hc' : colStart x.val ≤ j.val % 64 ∧ j.val % 64 < colStart x.val + 16 := hcol
        refine hj ⟨(⟨j.val / 64 + 4 * (s.val - 1) - 4 - rowStart (4 * (s.val - 1) + g.val), by omega⟩,
          ⟨j.val % 64 - colStart x.val, by omega⟩), Fin.ext ?_⟩
        change 64 * (rowStart (4 * (s.val - 1) + g.val)
            + (j.val / 64 + 4 * (s.val - 1) - 4 - rowStart (4 * (s.val - 1) + g.val)) + 4 - 4 * (s.val - 1))
          + (colStart x.val + (j.val % 64 - colStart x.val)) = j.val
        omega
      next => rw [EReal.add_bot]; rfl
    next => rfl
  · intro i
    rw [key]
    exact (score_fin _ _ _ _ hq hk).add (hr _)
  · intro c
    exact score_fin _ _ _ _ hq hk

end Cert.Na

end
-- ==== Proof.Na.Blocks.lean ====
/- The kernel's windows at a grid point, read at an element of the arguments. -/
module

public import proofs.«01_k».proof.Proof.Na.Core
public import proofs.«01_k».proof.Proof.Gen.KernelIdeal.Value

@[expose] public section

set_option maxRecDepth 16384

noncomputable section

namespace Cert.Na

open Idealize.ShloMosaic Idealize.ShloMosaic.TcCoe Idealize.SL.Sem Cert.KernelIdeal Cert.KernelIdeal.Gen

/-- A head's column. -/
def headCol (h : Fin 4) (d : Fin 128) : Fin 512 := ⟨128 * h.val + d.val, by omega⟩

/-- A head's columns of a window, and its table. -/
def headCols (x : Vec Ideal S256x512 .f32) (h : Fin 4) : Vec Ideal S256x128 .f32 :=
  fun y => x (ix2 (y 0) (headCol h (y 1)))
def headBias (x : Vec Ideal S4x256x768 .f32) (h : Fin 4) : Vec Ideal S1x256x768 .f32 :=
  fun y => x (ix3 h (y 1) (y 2))

theorem ld0 (x : Vec Ideal S256x512 .f32) : View.ld x r0_0 = headCols x 0 := by
  funext y
  unfold r0_0 headCols headCol
  pointwise
  try rfl
theorem ld1 (x : Vec Ideal S256x512 .f32) : View.ld x r0_3 = headCols x 1 := by
  funext y
  unfold r0_3 headCols headCol
  pointwise
  try rfl
theorem ld2 (x : Vec Ideal S256x512 .f32) : View.ld x r0_5 = headCols x 2 := by
  funext y
  unfold r0_5 headCols headCol
  pointwise
  try rfl
theorem ld3 (x : Vec Ideal S256x512 .f32) : View.ld x r0_7 = headCols x 3 := by
  funext y
  unfold r0_7 headCols headCol
  pointwise
  try rfl
theorem ldb0 (x : Vec Ideal S4x256x768 .f32) : View.ld x r0_2 = headBias x 0 := by
  funext y
  unfold r0_2 headBias
  pointwise
  try rfl
theorem ldb1 (x : Vec Ideal S4x256x768 .f32) : View.ld x r0_4 = headBias x 1 := by
  funext y
  unfold r0_4 headBias
  pointwise
  try rfl
theorem ldb2 (x : Vec Ideal S4x256x768 .f32) : View.ld x r0_6 = headBias x 2 := by
  funext y
  unfold r0_6 headBias
  pointwise
  try rfl
theorem ldb3 (x : Vec Ideal S4x256x768 .f32) : View.ld x r0_8 = headBias x 3 := by
  funext y
  unfold r0_8 headBias
  pointwise
  try rfl
theorem ldg (x : Vec Ideal S1x128 .f32) : View.ld x r0_1 = x := by
  funext y
  unfold r0_1
  pointwise
  refine congrArg x ?_
  blk_ext []

theorem ix2_ext {r : Fin 256} {d : Fin 128} {x : S256x128.Idx} (h0 : r.val = (x 0).val) (h1 : d.val = (x 1).val) : ix2 r d = x := by
  funext a
  fin_cases a
  · exact Fin.ext h0
  · exact Fin.ext h1

/-- What the body leaves at a row and a column of a head. -/
theorem out_apply (i : grid0.Coords) (x0 x1 x2 x3 x4 x5 x6 x7 x8 : Vec Ideal S256x512 .f32)
    (x9 : Vec Ideal S4x256x768 .f32) (x10 x11 : Vec Ideal S1x128 .f32) (r : Fin 256) (h : Fin 4) (d : Fin 128) :
    out0_12 i x0 x1 x2 x3 x4 x5 x6 x7 x8 x9 x10 x11 (ix2 r (headCol h d))
      = headVec (validAt i) (headCols x0 h) (headCols x1 h) (headCols x2 h) (headCols x3 h) (headCols x4 h)
          (headCols x5 h) (headCols x6 h) (headCols x7 h) (headCols x8 h) (headBias x9 h) x10 x11 (ix2 r d) := by
  rw [out_eq]
  simp only [ld0, ld1, ld2, ld3, ldb0, ldb1, ldb2, ldb3, ldg]
  generalize validAt i = va
  canon_tiles x hx
  · have e3 : ((3 : Fin 4) : ℕ) = 3 := rfl
    change 128 * h.val + d.val = _ at hx1
    have e : h = 3 := Fin.ext (by omega)
    subst e
    refine congrArg _ (ix2_ext hx0 ?_).symm
    omega
  · have e3 : ((2 : Fin 4) : ℕ) = 2 := rfl
    change 128 * h.val + d.val = _ at hx1
    have e : h = 2 := Fin.ext (by omega)
    subst e
    refine congrArg _ (ix2_ext hx0 ?_).symm
    omega
  · have e3 : ((1 : Fin 4) : ℕ) = 1 := rfl
    change 128 * h.val + d.val = _ at hx1
    have e : h = 1 := Fin.ext (by omega)
    subst e
    refine congrArg _ (ix2_ext hx0 ?_).symm
    omega
  · have e3 : ((0 : Fin 4) : ℕ) = 0 := rfl
    change 128 * h.val + d.val = _ at hx1
    have e : h = 0 := Fin.ext (by omega)
    subst e
    refine congrArg _ (ix2_ext hx0 ?_).symm
    omega

/-- The two coordinates of a grid point. -/
def tb (t : Fin cfg0.N) : Fin 2 := grid0.coords t 0
def ts (t : Fin cfg0.N) : Fin 65 := grid0.coords t 1

theorem val_tb (t : Fin cfg0.N) : ((grid0.coords t 0 : Fin 2) : ℕ) = (tb t).val := rfl
theorem val_ts (t : Fin cfg0.N) : ((grid0.coords t 1 : Fin 65) : ℕ) = (ts t).val := rfl

theorem idx0 : ∀ t : Fin cfg0.N, win0_0.index t = ![(rowBlk (tb t) (ts t)).val, 0] :=
  (by decide +kernel : ∀ t : Fin grid0.N, win0_0.index t = ![(rowBlk (grid0.coords t 0) (grid0.coords t 1)).val, 0])
theorem idx1 : ∀ t : Fin cfg0.N, win0_1.index t = ![(nearBlk (tb t) (ts t) 0).val, 1] :=
  (by decide +kernel : ∀ t : Fin grid0.N, win0_1.index t = ![(nearBlk (grid0.coords t 0) (grid0.coords t 1) 0).val, 1])
theorem idx2 : ∀ t : Fin cfg0.N, win0_2.index t = ![(nearBlk (tb t) (ts t) 1).val, 1] :=
  (by decide +kernel : ∀ t : Fin grid0.N, win0_2.index t = ![(nearBlk (grid0.coords t 0) (grid0.coords t 1) 1).val, 1])
theorem idx3 : ∀ t : Fin cfg0.N, win0_3.index t = ![(nearBlk (tb t) (ts t) 2).val, 1] :=
  (by decide +kernel : ∀ t : Fin grid0.N, win0_3.index t = ![(nearBlk (grid0.coords t 0) (grid0.coords t 1) 2).val, 1])
theorem idx4 : ∀ t : Fin cfg0.N, win0_4.index t = ![(nearBlk (tb t) (ts t) 0).val, 2] :=
  (by decide +kernel : ∀ t : Fin grid0.N, win0_4.index t = ![(nearBlk (grid0.coords t 0) (grid0.coords t 1) 0).val, 2])
theorem idx5 : ∀ t : Fin cfg0.N, win0_5.index t = ![(nearBlk (tb t) (ts t) 1).val, 2] :=
  (by decide +kernel : ∀ t : Fin grid0.N, win0_5.index t = ![(nearBlk (grid0.coords t 0) (grid0.coords t 1) 1).val, 2])
theorem idx6 : ∀ t : Fin cfg0.N, win0_6.index t = ![(nearBlk (tb t) (ts t) 2).val, 2] :=
  (by decide +kernel : ∀ t : Fin grid0.N, win0_6.index t = ![(nearBlk (grid0.coords t 0) (grid0.coords t 1) 2).val, 2])
theorem idx7 : ∀ t : Fin cfg0.N, win0_7.index t = ![(ctxBlk (tb t)).val, 1] :=
  (by decide +kernel : ∀ t : Fin grid0.N, win0_7.index t = ![(ctxBlk (grid0.coords t 0)).val, 1])
theorem idx8 : ∀ t : Fin cfg0.N, win0_8.index t = ![(ctxBlk (tb t)).val, 2] :=
  (by decide +kernel : ∀ t : Fin grid0.N, win0_8.index t = ![(ctxBlk (grid0.coords t 0)).val, 2])
theorem idx9 : ∀ t : Fin cfg0.N, win0_9.index t = ![0, 0, 0] :=
  (by decide +kernel : ∀ t : Fin grid0.N, win0_9.index t = ![0, 0, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![(rowBlk (tb t) (ts t)).val, 0] :=
  (by decide +kernel : ∀ t : Fin grid0.N, win0_12.index t = ![(rowBlk (grid0.coords t 0) (grid0.coords t 1)).val, 0])

variable (m : (ℓ : Loc nD τ sig) → Buf (Elt Ideal) ℓ) (c : Dev nD)

theorem blk0 (t : Fin cfg0.N) (h : Fin 4) (r : Fin 256) (e : Fin 128) :
    headCols (iblk m c 0 t) h (ix2 r e) = part (V m c main_arg0) 0 h (tok (rowBlk (tb t) (ts t)) r) e := by
  unfold headCols headCol part tok
  blk_simp [iblk]
  refine congrArg (V m c main_arg0) ?_
  blk_ext [idx0]

theorem blk1 (t : Fin cfg0.N) (h : Fin 4) (r : Fin 256) (e : Fin 128) :
    headCols (iblk m c 1 t) h (ix2 r e) = part (V m c main_arg0) 1 h (tok (nearBlk (tb t) (ts t) 0) r) e := by
  unfold headCols headCol part tok
  blk_simp [iblk]
  refine congrArg (V m c main_arg0) ?_
  blk_ext [idx1]

theorem blk2 (t : Fin cfg0.N) (h : Fin 4) (r : Fin 256) (e : Fin 128) :
    headCols (iblk m c 2 t) h (ix2 r e) = part (V m c main_arg0) 1 h (tok (nearBlk (tb t) (ts t) 1) r) e := by
  unfold headCols headCol part tok
  blk_simp [iblk]
  refine congrArg (V m c main_arg0) ?_
  blk_ext [idx2]

theorem blk3 (t : Fin cfg0.N) (h : Fin 4) (r : Fin 256) (e : Fin 128) :
    headCols (iblk m c 3 t) h (ix2 r e) = part (V m c main_arg0) 1 h (tok (nearBlk (tb t) (ts t) 2) r) e := by
  unfold headCols headCol part tok
  blk_simp [iblk]
  refine congrArg (V m c main_arg0) ?_
  blk_ext [idx3]

theorem blk4 (t : Fin cfg0.N) (h : Fin 4) (r : Fin 256) (e : Fin 128) :
    headCols (iblk m c 4 t) h (ix2 r e) = part (V m c main_arg0) 2 h (tok (nearBlk (tb t) (ts t) 0) r) e := by
  unfold headCols headCol part tok
  blk_simp [iblk]
  refine congrArg (V m c main_arg0) ?_
  blk_ext [idx4]

theorem blk5 (t : Fin cfg0.N) (h : Fin 4) (r : Fin 256) (e : Fin 128) :
    headCols (iblk m c 5 t) h (ix2 r e) = part (V m c main_arg0) 2 h (tok (nearBlk (tb t) (ts t) 1) r) e := by
  unfold headCols headCol part tok
  blk_simp [iblk]
  refine congrArg (V m c main_arg0) ?_
  blk_ext [idx5]

theorem blk6 (t : Fin cfg0.N) (h : Fin 4) (r : Fin 256) (e : Fin 128) :
    headCols (iblk m c 6 t) h (ix2 r e) = part (V m c main_arg0) 2 h (tok (nearBlk (tb t) (ts t) 2) r) e := by
  unfold headCols headCol part tok
  blk_simp [iblk]
  refine congrArg (V m c main_arg0) ?_
  blk_ext [idx6]

theorem blk7 (t : Fin cfg0.N) (h : Fin 4) (r : Fin 256) (e : Fin 128) :
    headCols (iblk m c 7 t) h (ix2 r e) = part (V m c main_arg0) 1 h (tok (ctxBlk (tb t)) r) e := by
  unfold headCols headCol part tok
  blk_simp [iblk]
  refine congrArg (V m c main_arg0) ?_
  blk_ext [idx7]

theorem blk8 (t : Fin cfg0.N) (h : Fin 4) (r : Fin 256) (e : Fin 128) :
    headCols (iblk m c 8 t) h (ix2 r e) = part (V m c main_arg0) 2 h (tok (ctxBlk (tb t)) r) e := by
  unfold headCols headCol part tok
  blk_simp [iblk]
  refine congrArg (V m c main_arg0) ?_
  blk_ext [idx8]

theorem blk9 (t : Fin cfg0.N) (h : Fin 4) (r : Fin 256) (j : Fin 768) :
    headBias (iblk m c 9 t) h (ix3 0 r j) = V m c main_v301 (ix3 h r j) := by
  unfold headBias
  blk_simp [iblk]
  refine congrArg (V m c main_v301) ?_
  blk_ext [idx9]

theorem blk10 (t : Fin cfg0.N) (e : Fin 128) : iblk m c 10 t (ix2 0 e) = V m c main_v302 (ix2 0 e) := by
  blk_simp [iblk]
  refine congrArg (V m c main_v302) ?_
  blk_ext [idx10]

theorem blk11 (t : Fin cfg0.N) (e : Fin 128) : iblk m c 11 t (ix2 0 e) = V m c main_v303 (ix2 0 e) := by
  blk_simp [iblk]
  refine congrArg (V m c main_v303) ?_
  blk_ext [idx11]

end Cert.Na

end
-- ==== Proof.Na.Stack.lean ====
/- The stacks of the host's bias table: each stacking operation over its operands' own buffers, and a stack of sixteen or
   four pieces read at an element. -/
module

public import proofs.«01_k».proof.Proof.Gen.KernelIdeal.Frame
public import Idealize.ShloMosaic.Lib.Pipeline.ValueKit
public import Idealize.ShloMosaic.Lib.Pointwise
public import Idealize.ShloMosaic.Lib.StableHlo.RunRead
public import Idealize.ShloMosaic.Lib.StableHlo.ReadAt

@[expose] public section

set_option maxRecDepth 16384

noncomputable section

namespace Cert.Na

open Idealize.ShloMosaic Idealize.SL.Sem Cert.KernelIdeal Cert.KernelIdeal.Gen

/-- The buffers' contents on one device. -/
abbrev Contents := Valuation τ sig (Elt Ideal)

/-! The stacks, each over its operands' own buffers. -/

theorem main_v141_result (hxs hy) (F : Contents) :
    (StableHlo.nary (τ := τ) ![main_v77, main_v78, main_v79, main_v80, main_v81, main_v82, main_v83, main_v84, main_v85, main_v86, main_v87, main_v88, main_v89, main_v90, main_v91, main_v92] main_v141
      (fun u => concatenate S4x15x16x64 2 [⟨S4x15x1x64, (u 0 : (⟨S4x15x1x64, .f32⟩ : BufTy).Contents (Elt Ideal))⟩, ⟨S4x15x1x64, (u 1 : (⟨S4x15x1x64, .f32⟩ : BufTy).Contents (Elt Ideal))⟩, ⟨S4x15x1x64, (u 2 : (⟨S4x15x1x64, .f32⟩ : BufTy).Contents (Elt Ideal))⟩, ⟨S4x15x1x64, (u 3 : (⟨S4x15x1x64, .f32⟩ : BufTy).Contents (Elt Ideal))⟩, ⟨S4x15x1x64, (u 4 : (⟨S4x15x1x64, .f32⟩ : BufTy).Contents (Elt Ideal))⟩, ⟨S4x15x1x64, (u 5 : (⟨S4x15x1x64, .f32⟩ : BufTy).Contents (Elt Ideal))⟩, ⟨S4x15x1x64, (u 6 : (⟨S4x15x1x64, .f32⟩ : BufTy).Contents (Elt Ideal))⟩, ⟨S4x15x1x64, (u 7 : (⟨S4x15x1x64, .f32⟩ : BufTy).Contents (Elt Ideal))⟩, ⟨S4x15x1x64, (u 8 : (⟨S4x15x1x64, .f32⟩ : BufTy).Contents (Elt Ideal))⟩, ⟨S4x15x1x64, (u 9 : (⟨S4x15x1x64, .f32⟩ : BufTy).Contents (Elt Ideal))⟩, ⟨S4x15x1x64, (u 10 : (⟨S4x15x1x64, .f32⟩ : BufTy).Contents (Elt Ideal))⟩, ⟨S4x15x1x64, (u 11 : (⟨S4x15x1x64, .f32⟩ : BufTy).Contents (Elt Ideal))⟩, ⟨S4x15x1x64, (u 12 : (⟨S4x15x1x64, .f32⟩ : BufTy).Contents (Elt Ideal))⟩, ⟨S4x15x1x64, (u 13 : (⟨S4x15x1x64, .f32⟩ : BufTy).Contents (Elt Ideal))⟩, ⟨S4x15x1x64, (u 14 : (⟨S4x15x1x64, .f32⟩ : BufTy).Contents (Elt Ideal))⟩, ⟨S4x15x1x64, (u 15 : (⟨S4x15x1x64, .f32⟩ : BufTy).Contents (Elt Ideal))⟩] concatenates_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x16x64_d2) hxs hy).result F (no_index (Proc.devRef .tc main_v141))
      = concatenate S4x15x16x64 2 [⟨S4x15x1x64, F (Proc.devRef .tc main_v77)⟩, ⟨S4x15x1x64, F (Proc.devRef .tc main_v78)⟩, ⟨S4x15x1x64, F (Proc.devRef .tc main_v79)⟩, ⟨S4x15x1x64, F (Proc.devRef .tc main_v80)⟩, ⟨S4x15x1x64, F (Proc.devRef .tc main_v81)⟩, ⟨S4x15x1x64, F (Proc.devRef .tc main_v82)⟩, ⟨S4x15x1x64, F (Proc.devRef .tc main_v83)⟩, ⟨S4x15x1x64, F (Proc.devRef .tc main_v84)⟩, ⟨S4x15x1x64, F (Proc.devRef .tc main_v85)⟩, ⟨S4x15x1x64, F (Proc.devRef .tc main_v86)⟩, ⟨S4x15x1x64, F (Proc.devRef .tc main_v87)⟩, ⟨S4x15x1x64, F (Proc.devRef .tc main_v88)⟩, ⟨S4x15x1x64, F (Proc.devRef .tc main_v89)⟩, ⟨S4x15x1x64, F (Proc.devRef .tc main_v90)⟩, ⟨S4x15x1x64, F (Proc.devRef .tc main_v91)⟩, ⟨S4x15x1x64, F (Proc.devRef .tc main_v92)⟩] concatenates_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x16x64_d2 :=
  StableHlo.nary_result ..

theorem main_v142_result (hxs hy) (F : Contents) :
    (StableHlo.nary (τ := τ) ![main_v93, main_v94, main_v95, main_v96, main_v97, main_v98, main_v99, main_v100, main_v101, main_v102, main_v103, main_v104, main_v105, main_v106, main_v107, main_v108] main_v142
      (fun u => concatenate S4x15x16x64 2 [⟨S4x15x1x64, (u 0 : (⟨S4x15x1x64, .f32⟩ : BufTy).Contents (Elt Ideal))⟩, ⟨S4x15x1x64, (u 1 : (⟨S4x15x1x64, .f32⟩ : BufTy).Contents (Elt Ideal))⟩, ⟨S4x15x1x64, (u 2 : (⟨S4x15x1x64, .f32⟩ : BufTy).Contents (Elt Ideal))⟩, ⟨S4x15x1x64, (u 3 : (⟨S4x15x1x64, .f32⟩ : BufTy).Contents (Elt Ideal))⟩, ⟨S4x15x1x64, (u 4 : (⟨S4x15x1x64, .f32⟩ : BufTy).Contents (Elt Ideal))⟩, ⟨S4x15x1x64, (u 5 : (⟨S4x15x1x64, .f32⟩ : BufTy).Contents (Elt Ideal))⟩, ⟨S4x15x1x64, (u 6 : (⟨S4x15x1x64, .f32⟩ : BufTy).Contents (Elt Ideal))⟩, ⟨S4x15x1x64, (u 7 : (⟨S4x15x1x64, .f32⟩ : BufTy).Contents (Elt Ideal))⟩, ⟨S4x15x1x64, (u 8 : (⟨S4x15x1x64, .f32⟩ : BufTy).Contents (Elt Ideal))⟩, ⟨S4x15x1x64, (u 9 : (⟨S4x15x1x64, .f32⟩ : BufTy).Contents (Elt Ideal))⟩, ⟨S4x15x1x64, (u 10 : (⟨S4x15x1x64, .f32⟩ : BufTy).Contents (Elt Ideal))⟩, ⟨S4x15x1x64, (u 11 : (⟨S4x15x1x64, .f32⟩ : BufTy).Contents (Elt Ideal))⟩, ⟨S4x15x1x64, (u 12 : (⟨S4x15x1x64, .f32⟩ : BufTy).Contents (Elt Ideal))⟩, ⟨S4x15x1x64, (u 13 : (⟨S4x15x1x64, .f32⟩ : BufTy).Contents (Elt Ideal))⟩, ⟨S4x15x1x64, (u 14 : (⟨S4x15x1x64, .f32⟩ : BufTy).Contents (Elt Ideal))⟩, ⟨S4x15x1x64, (u 15 : (⟨S4x15x1x64, .f32⟩ : BufTy).Contents (Elt Ideal))⟩] concatenates_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x16x64_d2) hxs hy).result F (no_index (Proc.devRef .tc main_v142))
      = concatenate S4x15x16x64 2 [⟨S4x15x1x64, F (Proc.devRef .tc main_v93)⟩, ⟨S4x15x1x64, F (Proc.devRef .tc main_v94)⟩, ⟨S4x15x1x64, F (Proc.devRef .tc main_v95)⟩, ⟨S4x15x1x64, F (Proc.devRef .tc main_v96)⟩, ⟨S4x15x1x64, F (Proc.devRef .tc main_v97)⟩, ⟨S4x15x1x64, F (Proc.devRef .tc main_v98)⟩, ⟨S4x15x1x64, F (Proc.devRef .tc main_v99)⟩, ⟨S4x15x1x64, F (Proc.devRef .tc main_v100)⟩, ⟨S4x15x1x64, F (Proc.devRef .tc main_v101)⟩, ⟨S4x15x1x64, F (Proc.devRef .tc main_v102)⟩, ⟨S4x15x1x64, F (Proc.devRef .tc main_v103)⟩, ⟨S4x15x1x64, F (Proc.devRef .tc main_v104)⟩, ⟨S4x15x1x64, F (Proc.devRef .tc main_v105)⟩, ⟨S4x15x1x64, F (Proc.devRef .tc main_v106)⟩, ⟨S4x15x1x64, F (Proc.devRef .tc main_v107)⟩, ⟨S4x15x1x64, F (Proc.devRef .tc main_v108)⟩] concatenates_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x16x64_d2 :=
  StableHlo.nary_result ..

theorem main_v143_result (hxs hy) (F : Contents) :
    (StableHlo.nary (τ := τ) ![main_v109, main_v110, main_v111, main_v112, main_v113, main_v114, main_v115, main_v116, main_v117, main_v118, main_v119, main_v120, main_v121, main_v122, main_v123, main_v124] main_v143
      (fun u => concatenate S4x15x16x64 2 [⟨S4x15x1x64, (u 0 : (⟨S4x15x1x64, .f32⟩ : BufTy).Contents (Elt Ideal))⟩, ⟨S4x15x1x64, (u 1 : (⟨S4x15x1x64, .f32⟩ : BufTy).Contents (Elt Ideal))⟩, ⟨S4x15x1x64, (u 2 : (⟨S4x15x1x64, .f32⟩ : BufTy).Contents (Elt Ideal))⟩, ⟨S4x15x1x64, (u 3 : (⟨S4x15x1x64, .f32⟩ : BufTy).Contents (Elt Ideal))⟩, ⟨S4x15x1x64, (u 4 : (⟨S4x15x1x64, .f32⟩ : BufTy).Contents (Elt Ideal))⟩, ⟨S4x15x1x64, (u 5 : (⟨S4x15x1x64, .f32⟩ : BufTy).Contents (Elt Ideal))⟩, ⟨S4x15x1x64, (u 6 : (⟨S4x15x1x64, .f32⟩ : BufTy).Contents (Elt Ideal))⟩, ⟨S4x15x1x64, (u 7 : (⟨S4x15x1x64, .f32⟩ : BufTy).Contents (Elt Ideal))⟩, ⟨S4x15x1x64, (u 8 : (⟨S4x15x1x64, .f32⟩ : BufTy).Contents (Elt Ideal))⟩, ⟨S4x15x1x64, (u 9 : (⟨S4x15x1x64, .f32⟩ : BufTy).Contents (Elt Ideal))⟩, ⟨S4x15x1x64, (u 10 : (⟨S4x15x1x64, .f32⟩ : BufTy).Contents (Elt Ideal))⟩, ⟨S4x15x1x64, (u 11 : (⟨S4x15x1x64, .f32⟩ : BufTy).Contents (Elt Ideal))⟩, ⟨S4x15x1x64, (u 12 : (⟨S4x15x1x64, .f32⟩ : BufTy).Contents (Elt Ideal))⟩, ⟨S4x15x1x64, (u 13 : (⟨S4x15x1x64, .f32⟩ : BufTy).Contents (Elt Ideal))⟩, ⟨S4x15x1x64, (u 14 : (⟨S4x15x1x64, .f32⟩ : BufTy).Contents (Elt Ideal))⟩, ⟨S4x15x1x64, (u 15 : (⟨S4x15x1x64, .f32⟩ : BufTy).Contents (Elt Ideal))⟩] concatenates_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x16x64_d2) hxs hy).result F (no_index (Proc.devRef .tc main_v143))
      = concatenate S4x15x16x64 2 [⟨S4x15x1x64, F (Proc.devRef .tc main_v109)⟩, ⟨S4x15x1x64, F (Proc.devRef .tc main_v110)⟩, ⟨S4x15x1x64, F (Proc.devRef .tc main_v111)⟩, ⟨S4x15x1x64, F (Proc.devRef .tc main_v112)⟩, ⟨S4x15x1x64, F (Proc.devRef .tc main_v113)⟩, ⟨S4x15x1x64, F (Proc.devRef .tc main_v114)⟩, ⟨S4x15x1x64, F (Proc.devRef .tc main_v115)⟩, ⟨S4x15x1x64, F (Proc.devRef .tc main_v116)⟩, ⟨S4x15x1x64, F (Proc.devRef .tc main_v117)⟩, ⟨S4x15x1x64, F (Proc.devRef .tc main_v118)⟩, ⟨S4x15x1x64, F (Proc.devRef .tc main_v119)⟩, ⟨S4x15x1x64, F (Proc.devRef .tc main_v120)⟩, ⟨S4x15x1x64, F (Proc.devRef .tc main_v121)⟩, ⟨S4x15x1x64, F (Proc.devRef .tc main_v122)⟩, ⟨S4x15x1x64, F (Proc.devRef .tc main_v123)⟩, ⟨S4x15x1x64, F (Proc.devRef .tc main_v124)⟩] concatenates_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x16x64_d2 :=
  StableHlo.nary_result ..

theorem main_v144_result (hxs hy) (F : Contents) :
    (StableHlo.nary (τ := τ) ![main_v125, main_v126, main_v127, main_v128, main_v129, main_v130, main_v131, main_v132, main_v133, main_v134, main_v135, main_v136, main_v137, main_v138, main_v139, main_v140] main_v144
      (fun u => concatenate S4x15x16x64 2 [⟨S4x15x1x64, (u 0 : (⟨S4x15x1x64, .f32⟩ : BufTy).Contents (Elt Ideal))⟩, ⟨S4x15x1x64, (u 1 : (⟨S4x15x1x64, .f32⟩ : BufTy).Contents (Elt Ideal))⟩, ⟨S4x15x1x64, (u 2 : (⟨S4x15x1x64, .f32⟩ : BufTy).Contents (Elt Ideal))⟩, ⟨S4x15x1x64, (u 3 : (⟨S4x15x1x64, .f32⟩ : BufTy).Contents (Elt Ideal))⟩, ⟨S4x15x1x64, (u 4 : (⟨S4x15x1x64, .f32⟩ : BufTy).Contents (Elt Ideal))⟩, ⟨S4x15x1x64, (u 5 : (⟨S4x15x1x64, .f32⟩ : BufTy).Contents (Elt Ideal))⟩, ⟨S4x15x1x64, (u 6 : (⟨S4x15x1x64, .f32⟩ : BufTy).Contents (Elt Ideal))⟩, ⟨S4x15x1x64, (u 7 : (⟨S4x15x1x64, .f32⟩ : BufTy).Contents (Elt Ideal))⟩, ⟨S4x15x1x64, (u 8 : (⟨S4x15x1x64, .f32⟩ : BufTy).Contents (Elt Ideal))⟩, ⟨S4x15x1x64, (u 9 : (⟨S4x15x1x64, .f32⟩ : BufTy).Contents (Elt Ideal))⟩, ⟨S4x15x1x64, (u 10 : (⟨S4x15x1x64, .f32⟩ : BufTy).Contents (Elt Ideal))⟩, ⟨S4x15x1x64, (u 11 : (⟨S4x15x1x64, .f32⟩ : BufTy).Contents (Elt Ideal))⟩, ⟨S4x15x1x64, (u 12 : (⟨S4x15x1x64, .f32⟩ : BufTy).Contents (Elt Ideal))⟩, ⟨S4x15x1x64, (u 13 : (⟨S4x15x1x64, .f32⟩ : BufTy).Contents (Elt Ideal))⟩, ⟨S4x15x1x64, (u 14 : (⟨S4x15x1x64, .f32⟩ : BufTy).Contents (Elt Ideal))⟩, ⟨S4x15x1x64, (u 15 : (⟨S4x15x1x64, .f32⟩ : BufTy).Contents (Elt Ideal))⟩] concatenates_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x16x64_d2) hxs hy).result F (no_index (Proc.devRef .tc main_v144))
      = concatenate S4x15x16x64 2 [⟨S4x15x1x64, F (Proc.devRef .tc main_v125)⟩, ⟨S4x15x1x64, F (Proc.devRef .tc main_v126)⟩, ⟨S4x15x1x64, F (Proc.devRef .tc main_v127)⟩, ⟨S4x15x1x64, F (Proc.devRef .tc main_v128)⟩, ⟨S4x15x1x64, F (Proc.devRef .tc main_v129)⟩, ⟨S4x15x1x64, F (Proc.devRef .tc main_v130)⟩, ⟨S4x15x1x64, F (Proc.devRef .tc main_v131)⟩, ⟨S4x15x1x64, F (Proc.devRef .tc main_v132)⟩, ⟨S4x15x1x64, F (Proc.devRef .tc main_v133)⟩, ⟨S4x15x1x64, F (Proc.devRef .tc main_v134)⟩, ⟨S4x15x1x64, F (Proc.devRef .tc main_v135)⟩, ⟨S4x15x1x64, F (Proc.devRef .tc main_v136)⟩, ⟨S4x15x1x64, F (Proc.devRef .tc main_v137)⟩, ⟨S4x15x1x64, F (Proc.devRef .tc main_v138)⟩, ⟨S4x15x1x64, F (Proc.devRef .tc main_v139)⟩, ⟨S4x15x1x64, F (Proc.devRef .tc main_v140)⟩] concatenates_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x1x64_S4x15x16x64_d2 :=
  StableHlo.nary_result ..

theorem main_v145_result (hxs hy) (F : Contents) :
    (StableHlo.nary (τ := τ) ![main_v141, main_v142, main_v143, main_v144] main_v145
      (fun u => concatenate S4x15x64x64 2 [⟨S4x15x16x64, (u 0 : (⟨S4x15x16x64, .f32⟩ : BufTy).Contents (Elt Ideal))⟩, ⟨S4x15x16x64, (u 1 : (⟨S4x15x16x64, .f32⟩ : BufTy).Contents (Elt Ideal))⟩, ⟨S4x15x16x64, (u 2 : (⟨S4x15x16x64, .f32⟩ : BufTy).Contents (Elt Ideal))⟩, ⟨S4x15x16x64, (u 3 : (⟨S4x15x16x64, .f32⟩ : BufTy).Contents (Elt Ideal))⟩] concatenates_S4x15x16x64_S4x15x16x64_S4x15x16x64_S4x15x16x64_S4x15x64x64_d2) hxs hy).result F (no_index (Proc.devRef .tc main_v145))
      = concatenate S4x15x64x64 2 [⟨S4x15x16x64, F (Proc.devRef .tc main_v141)⟩, ⟨S4x15x16x64, F (Proc.devRef .tc main_v142)⟩, ⟨S4x15x16x64, F (Proc.devRef .tc main_v143)⟩, ⟨S4x15x16x64, F (Proc.devRef .tc main_v144)⟩] concatenates_S4x15x16x64_S4x15x16x64_S4x15x16x64_S4x15x16x64_S4x15x64x64_d2 :=
  StableHlo.nary_result ..

theorem main_v182_result (hxs hy) (F : Contents) :
    (StableHlo.nary (τ := τ) ![main_v170, main_v171, main_v172, main_v173, main_v174, main_v175, main_v176, main_v177, main_v178, main_v179, main_v180, main_v181] main_v182
      (fun u => concatenate S4x64x12x64 2 [⟨S4x64x1x64, (u 0 : (⟨S4x64x1x64, .f32⟩ : BufTy).Contents (Elt Ideal))⟩, ⟨S4x64x1x64, (u 1 : (⟨S4x64x1x64, .f32⟩ : BufTy).Contents (Elt Ideal))⟩, ⟨S4x64x1x64, (u 2 : (⟨S4x64x1x64, .f32⟩ : BufTy).Contents (Elt Ideal))⟩, ⟨S4x64x1x64, (u 3 : (⟨S4x64x1x64, .f32⟩ : BufTy).Contents (Elt Ideal))⟩, ⟨S4x64x1x64, (u 4 : (⟨S4x64x1x64, .f32⟩ : BufTy).Contents (Elt Ideal))⟩, ⟨S4x64x1x64, (u 5 : (⟨S4x64x1x64, .f32⟩ : BufTy).Contents (Elt Ideal))⟩, ⟨S4x64x1x64, (u 6 : (⟨S4x64x1x64, .f32⟩ : BufTy).Contents (Elt Ideal))⟩, ⟨S4x64x1x64, (u 7 : (⟨S4x64x1x64, .f32⟩ : BufTy).Contents (Elt Ideal))⟩, ⟨S4x64x1x64, (u 8 : (⟨S4x64x1x64, .f32⟩ : BufTy).Contents (Elt Ideal))⟩, ⟨S4x64x1x64, (u 9 : (⟨S4x64x1x64, .f32⟩ : BufTy).Contents (Elt Ideal))⟩, ⟨S4x64x1x64, (u 10 : (⟨S4x64x1x64, .f32⟩ : BufTy).Contents (Elt Ideal))⟩, ⟨S4x64x1x64, (u 11 : (⟨S4x64x1x64, .f32⟩ : BufTy).Contents (Elt Ideal))⟩] concatenates_S4x64x1x64_S4x64x1x64_S4x64x1x64_S4x64x1x64_S4x64x1x64_S4x64x1x64_S4x64x1x64_S4x64x1x64_S4x64x1x64_S4x64x1x64_S4x64x1x64_S4x64x1x64_S4x64x12x64_d2) hxs hy).result F (no_index (Proc.devRef .tc main_v182))
      = concatenate S4x64x12x64 2 [⟨S4x64x1x64, F (Proc.devRef .tc main_v170)⟩, ⟨S4x64x1x64, F (Proc.devRef .tc main_v171)⟩, ⟨S4x64x1x64, F (Proc.devRef .tc main_v172)⟩, ⟨S4x64x1x64, F (Proc.devRef .tc main_v173)⟩, ⟨S4x64x1x64, F (Proc.devRef .tc main_v174)⟩, ⟨S4x64x1x64, F (Proc.devRef .tc main_v175)⟩, ⟨S4x64x1x64, F (Proc.devRef .tc main_v176)⟩, ⟨S4x64x1x64, F (Proc.devRef .tc main_v177)⟩, ⟨S4x64x1x64, F (Proc.devRef .tc main_v178)⟩, ⟨S4x64x1x64, F (Proc.devRef .tc main_v179)⟩, ⟨S4x64x1x64, F (Proc.devRef .tc main_v180)⟩, ⟨S4x64x1x64, F (Proc.devRef .tc main_v181)⟩] concatenates_S4x64x1x64_S4x64x1x64_S4x64x1x64_S4x64x1x64_S4x64x1x64_S4x64x1x64_S4x64x1x64_S4x64x1x64_S4x64x1x64_S4x64x1x64_S4x64x1x64_S4x64x1x64_S4x64x12x64_d2 :=
  StableHlo.nary_result ..

theorem main_v219_result (hxs hy) (F : Contents) :
    (StableHlo.nary (τ := τ) ![main_v207, main_v208, main_v209, main_v210, main_v211, main_v212, main_v213, main_v214, main_v215, main_v216, main_v217, main_v218] main_v219
      (fun u => concatenate S4x64x12x64 2 [⟨S4x64x1x64, (u 0 : (⟨S4x64x1x64, .f32⟩ : BufTy).Contents (Elt Ideal))⟩, ⟨S4x64x1x64, (u 1 : (⟨S4x64x1x64, .f32⟩ : BufTy).Contents (Elt Ideal))⟩, ⟨S4x64x1x64, (u 2 : (⟨S4x64x1x64, .f32⟩ : BufTy).Contents (Elt Ideal))⟩, ⟨S4x64x1x64, (u 3 : (⟨S4x64x1x64, .f32⟩ : BufTy).Contents (Elt Ideal))⟩, ⟨S4x64x1x64, (u 4 : (⟨S4x64x1x64, .f32⟩ : BufTy).Contents (Elt Ideal))⟩, ⟨S4x64x1x64, (u 5 : (⟨S4x64x1x64, .f32⟩ : BufTy).Contents (Elt Ideal))⟩, ⟨S4x64x1x64, (u 6 : (⟨S4x64x1x64, .f32⟩ : BufTy).Contents (Elt Ideal))⟩, ⟨S4x64x1x64, (u 7 : (⟨S4x64x1x64, .f32⟩ : BufTy).Contents (Elt Ideal))⟩, ⟨S4x64x1x64, (u 8 : (⟨S4x64x1x64, .f32⟩ : BufTy).Contents (Elt Ideal))⟩, ⟨S4x64x1x64, (u 9 : (⟨S4x64x1x64, .f32⟩ : BufTy).Contents (Elt Ideal))⟩, ⟨S4x64x1x64, (u 10 : (⟨S4x64x1x64, .f32⟩ : BufTy).Contents (Elt Ideal))⟩, ⟨S4x64x1x64, (u 11 : (⟨S4x64x1x64, .f32⟩ : BufTy).Contents (Elt Ideal))⟩] concatenates_S4x64x1x64_S4x64x1x64_S4x64x1x64_S4x64x1x64_S4x64x1x64_S4x64x1x64_S4x64x1x64_S4x64x1x64_S4x64x1x64_S4x64x1x64_S4x64x1x64_S4x64x1x64_S4x64x12x64_d2) hxs hy).result F (no_index (Proc.devRef .tc main_v219))
      = concatenate S4x64x12x64 2 [⟨S4x64x1x64, F (Proc.devRef .tc main_v207)⟩, ⟨S4x64x1x64, F (Proc.devRef .tc main_v208)⟩, ⟨S4x64x1x64, F (Proc.devRef .tc main_v209)⟩, ⟨S4x64x1x64, F (Proc.devRef .tc main_v210)⟩, ⟨S4x64x1x64, F (Proc.devRef .tc main_v211)⟩, ⟨S4x64x1x64, F (Proc.devRef .tc main_v212)⟩, ⟨S4x64x1x64, F (Proc.devRef .tc main_v213)⟩, ⟨S4x64x1x64, F (Proc.devRef .tc main_v214)⟩, ⟨S4x64x1x64, F (Proc.devRef .tc main_v215)⟩, ⟨S4x64x1x64, F (Proc.devRef .tc main_v216)⟩, ⟨S4x64x1x64, F (Proc.devRef .tc main_v217)⟩, ⟨S4x64x1x64, F (Proc.devRef .tc main_v218)⟩] concatenates_S4x64x1x64_S4x64x1x64_S4x64x1x64_S4x64x1x64_S4x64x1x64_S4x64x1x64_S4x64x1x64_S4x64x1x64_S4x64x1x64_S4x64x1x64_S4x64x1x64_S4x64x1x64_S4x64x12x64_d2 :=
  StableHlo.nary_result ..

theorem main_v256_result (hxs hy) (F : Contents) :
    (StableHlo.nary (τ := τ) ![main_v244, main_v245, main_v246, main_v247, main_v248, main_v249, main_v250, main_v251, main_v252, main_v253, main_v254, main_v255] main_v256
      (fun u => concatenate S4x64x12x64 2 [⟨S4x64x1x64, (u 0 : (⟨S4x64x1x64, .f32⟩ : BufTy).Contents (Elt Ideal))⟩, ⟨S4x64x1x64, (u 1 : (⟨S4x64x1x64, .f32⟩ : BufTy).Contents (Elt Ideal))⟩, ⟨S4x64x1x64, (u 2 : (⟨S4x64x1x64, .f32⟩ : BufTy).Contents (Elt Ideal))⟩, ⟨S4x64x1x64, (u 3 : (⟨S4x64x1x64, .f32⟩ : BufTy).Contents (Elt Ideal))⟩, ⟨S4x64x1x64, (u 4 : (⟨S4x64x1x64, .f32⟩ : BufTy).Contents (Elt Ideal))⟩, ⟨S4x64x1x64, (u 5 : (⟨S4x64x1x64, .f32⟩ : BufTy).Contents (Elt Ideal))⟩, ⟨S4x64x1x64, (u 6 : (⟨S4x64x1x64, .f32⟩ : BufTy).Contents (Elt Ideal))⟩, ⟨S4x64x1x64, (u 7 : (⟨S4x64x1x64, .f32⟩ : BufTy).Contents (Elt Ideal))⟩, ⟨S4x64x1x64, (u 8 : (⟨S4x64x1x64, .f32⟩ : BufTy).Contents (Elt Ideal))⟩, ⟨S4x64x1x64, (u 9 : (⟨S4x64x1x64, .f32⟩ : BufTy).Contents (Elt Ideal))⟩, ⟨S4x64x1x64, (u 10 : (⟨S4x64x1x64, .f32⟩ : BufTy).Contents (Elt Ideal))⟩, ⟨S4x64x1x64, (u 11 : (⟨S4x64x1x64, .f32⟩ : BufTy).Contents (Elt Ideal))⟩] concatenates_S4x64x1x64_S4x64x1x64_S4x64x1x64_S4x64x1x64_S4x64x1x64_S4x64x1x64_S4x64x1x64_S4x64x1x64_S4x64x1x64_S4x64x1x64_S4x64x1x64_S4x64x1x64_S4x64x12x64_d2) hxs hy).result F (no_index (Proc.devRef .tc main_v256))
      = concatenate S4x64x12x64 2 [⟨S4x64x1x64, F (Proc.devRef .tc main_v244)⟩, ⟨S4x64x1x64, F (Proc.devRef .tc main_v245)⟩, ⟨S4x64x1x64, F (Proc.devRef .tc main_v246)⟩, ⟨S4x64x1x64, F (Proc.devRef .tc main_v247)⟩, ⟨S4x64x1x64, F (Proc.devRef .tc main_v248)⟩, ⟨S4x64x1x64, F (Proc.devRef .tc main_v249)⟩, ⟨S4x64x1x64, F (Proc.devRef .tc main_v250)⟩, ⟨S4x64x1x64, F (Proc.devRef .tc main_v251)⟩, ⟨S4x64x1x64, F (Proc.devRef .tc main_v252)⟩, ⟨S4x64x1x64, F (Proc.devRef .tc main_v253)⟩, ⟨S4x64x1x64, F (Proc.devRef .tc main_v254)⟩, ⟨S4x64x1x64, F (Proc.devRef .tc main_v255)⟩] concatenates_S4x64x1x64_S4x64x1x64_S4x64x1x64_S4x64x1x64_S4x64x1x64_S4x64x1x64_S4x64x1x64_S4x64x1x64_S4x64x1x64_S4x64x1x64_S4x64x1x64_S4x64x1x64_S4x64x12x64_d2 :=
  StableHlo.nary_result ..

theorem main_v293_result (hxs hy) (F : Contents) :
    (StableHlo.nary (τ := τ) ![main_v281, main_v282, main_v283, main_v284, main_v285, main_v286, main_v287, main_v288, main_v289, main_v290, main_v291, main_v292] main_v293
      (fun u => concatenate S4x64x12x64 2 [⟨S4x64x1x64, (u 0 : (⟨S4x64x1x64, .f32⟩ : BufTy).Contents (Elt Ideal))⟩, ⟨S4x64x1x64, (u 1 : (⟨S4x64x1x64, .f32⟩ : BufTy).Contents (Elt Ideal))⟩, ⟨S4x64x1x64, (u 2 : (⟨S4x64x1x64, .f32⟩ : BufTy).Contents (Elt Ideal))⟩, ⟨S4x64x1x64, (u 3 : (⟨S4x64x1x64, .f32⟩ : BufTy).Contents (Elt Ideal))⟩, ⟨S4x64x1x64, (u 4 : (⟨S4x64x1x64, .f32⟩ : BufTy).Contents (Elt Ideal))⟩, ⟨S4x64x1x64, (u 5 : (⟨S4x64x1x64, .f32⟩ : BufTy).Contents (Elt Ideal))⟩, ⟨S4x64x1x64, (u 6 : (⟨S4x64x1x64, .f32⟩ : BufTy).Contents (Elt Ideal))⟩, ⟨S4x64x1x64, (u 7 : (⟨S4x64x1x64, .f32⟩ : BufTy).Contents (Elt Ideal))⟩, ⟨S4x64x1x64, (u 8 : (⟨S4x64x1x64, .f32⟩ : BufTy).Contents (Elt Ideal))⟩, ⟨S4x64x1x64, (u 9 : (⟨S4x64x1x64, .f32⟩ : BufTy).Contents (Elt Ideal))⟩, ⟨S4x64x1x64, (u 10 : (⟨S4x64x1x64, .f32⟩ : BufTy).Contents (Elt Ideal))⟩, ⟨S4x64x1x64, (u 11 : (⟨S4x64x1x64, .f32⟩ : BufTy).Contents (Elt Ideal))⟩] concatenates_S4x64x1x64_S4x64x1x64_S4x64x1x64_S4x64x1x64_S4x64x1x64_S4x64x1x64_S4x64x1x64_S4x64x1x64_S4x64x1x64_S4x64x1x64_S4x64x1x64_S4x64x1x64_S4x64x12x64_d2) hxs hy).result F (no_index (Proc.devRef .tc main_v293))
      = concatenate S4x64x12x64 2 [⟨S4x64x1x64, F (Proc.devRef .tc main_v281)⟩, ⟨S4x64x1x64, F (Proc.devRef .tc main_v282)⟩, ⟨S4x64x1x64, F (Proc.devRef .tc main_v283)⟩, ⟨S4x64x1x64, F (Proc.devRef .tc main_v284)⟩, ⟨S4x64x1x64, F (Proc.devRef .tc main_v285)⟩, ⟨S4x64x1x64, F (Proc.devRef .tc main_v286)⟩, ⟨S4x64x1x64, F (Proc.devRef .tc main_v287)⟩, ⟨S4x64x1x64, F (Proc.devRef .tc main_v288)⟩, ⟨S4x64x1x64, F (Proc.devRef .tc main_v289)⟩, ⟨S4x64x1x64, F (Proc.devRef .tc main_v290)⟩, ⟨S4x64x1x64, F (Proc.devRef .tc main_v291)⟩, ⟨S4x64x1x64, F (Proc.devRef .tc main_v292)⟩] concatenates_S4x64x1x64_S4x64x1x64_S4x64x1x64_S4x64x1x64_S4x64x1x64_S4x64x1x64_S4x64x1x64_S4x64x1x64_S4x64x1x64_S4x64x1x64_S4x64x1x64_S4x64x1x64_S4x64x12x64_d2 :=
  StableHlo.nary_result ..

theorem main_v298_result (hxs hy) (F : Contents) :
    (StableHlo.nary (τ := τ) ![main_v294, main_v295, main_v296, main_v297] main_v298
      (fun u => concatenate S4x4x64x12x64 1 [⟨S4x1x64x12x64, (u 0 : (⟨S4x1x64x12x64, .f32⟩ : BufTy).Contents (Elt Ideal))⟩, ⟨S4x1x64x12x64, (u 1 : (⟨S4x1x64x12x64, .f32⟩ : BufTy).Contents (Elt Ideal))⟩, ⟨S4x1x64x12x64, (u 2 : (⟨S4x1x64x12x64, .f32⟩ : BufTy).Contents (Elt Ideal))⟩, ⟨S4x1x64x12x64, (u 3 : (⟨S4x1x64x12x64, .f32⟩ : BufTy).Contents (Elt Ideal))⟩] concatenates_S4x1x64x12x64_S4x1x64x12x64_S4x1x64x12x64_S4x1x64x12x64_S4x4x64x12x64_d1) hxs hy).result F (no_index (Proc.devRef .tc main_v298))
      = concatenate S4x4x64x12x64 1 [⟨S4x1x64x12x64, F (Proc.devRef .tc main_v294)⟩, ⟨S4x1x64x12x64, F (Proc.devRef .tc main_v295)⟩, ⟨S4x1x64x12x64, F (Proc.devRef .tc main_v296)⟩, ⟨S4x1x64x12x64, F (Proc.devRef .tc main_v297)⟩] concatenates_S4x1x64x12x64_S4x1x64x12x64_S4x1x64x12x64_S4x1x64x12x64_S4x4x64x12x64_d1 :=
  StableHlo.nary_result ..

set_option maxHeartbeats 4000000 in
theorem cat16_apply (u0 u1 u2 u3 u4 u5 u6 u7 u8 u9 u10 u11 u12 u13 u14 u15 : S4x15x1x64.Idx → EReal) (hc) (h : Fin 4) (a : Fin 15) (j : Fin 16) (y : Fin 64) :
    concatenate S4x15x16x64 2 [⟨S4x15x1x64, u0⟩, ⟨S4x15x1x64, u1⟩, ⟨S4x15x1x64, u2⟩, ⟨S4x15x1x64, u3⟩, ⟨S4x15x1x64, u4⟩, ⟨S4x15x1x64, u5⟩, ⟨S4x15x1x64, u6⟩, ⟨S4x15x1x64, u7⟩, ⟨S4x15x1x64, u8⟩, ⟨S4x15x1x64, u9⟩, ⟨S4x15x1x64, u10⟩, ⟨S4x15x1x64, u11⟩, ⟨S4x15x1x64, u12⟩, ⟨S4x15x1x64, u13⟩, ⟨S4x15x1x64, u14⟩, ⟨S4x15x1x64, u15⟩] hc (ix4 h a j y)
      = (![u0, u1, u2, u3, u4, u5, u6, u7, u8, u9, u10, u11, u12, u13, u14, u15] : Fin 16 → S4x15x1x64.Idx → EReal) j (ix4 h a 0 y) := by
  refine concatenate_ofFn_unit_eq (t := S4x15x16x64) (s₁ := S4x15x1x64) (2 : Fin 4)
    (![u0, u1, u2, u3, u4, u5, u6, u7, u8, u9, u10, u11, u12, u13, u14, u15] : Fin 16 → S4x15x1x64.Idx → EReal)
    hc (ix4 h a j y) _ rfl rfl fun n i hn h0 hb => ?_
  obtain rfl : n = j := Fin.ext hn.symm
  have e : i = ix4 h a 0 y := by
    funext b
    fin_cases b
    exacts [Fin.ext (hb 0 (by decide)), Fin.ext (hb 1 (by decide)), Fin.ext h0, Fin.ext (hb 3 (by decide))]
  rw [e]

set_option maxHeartbeats 4000000 in
theorem cat4_apply (u0 u1 u2 u3 : S4x15x16x64.Idx → EReal) (hc) (h : Fin 4) (a : Fin 15) (x : Fin 64) (y : Fin 64) :
    concatenate S4x15x64x64 2 [⟨S4x15x16x64, u0⟩, ⟨S4x15x16x64, u1⟩, ⟨S4x15x16x64, u2⟩, ⟨S4x15x16x64, u3⟩] hc (ix4 h a x y)
      = (![u0, u1, u2, u3] : Fin 4 → S4x15x16x64.Idx → EReal) ⟨x.val / 16, by omega⟩
          (ix4 h a ⟨x.val % 16, by omega⟩ y) := by
  pointwise
  fin_cases x <;> rfl

/-- A shifted row of the table under its new axis. -/
theorem slice_apply (v : S4x15x127.Idx → EReal) (o : ℕ) (hs : Shape.Slices S4x15x127 ![0, 0, o] S4x15x64) (h : Fin 4)
    (a : Fin 15) (y : Fin 64) (ho : o + y.val < 127) :
    broadcastInDim S4x15x1x64 ![0, 1, 3] bcast_S4x15x64_S4x15x1x64_0_1_3
      (extractStridedSlice S4x15x64 ![0, 0, o] v hs) (ix4 h a (0 : Fin 1) y) = v (ix3 h a ⟨o + y.val, ho⟩) := by
  pointwise

end Cert.Na

end
-- ==== Proof.Na.Bias.lean ====
/- The bias table that the host prepares, read at an element: for the query at column x of row g of its block and the
   key at column y of row k of the window, the bias of their difference where the columns are in reach, and minus
   infinity elsewhere. -/
module

public import proofs.«01_k».proof.Proof.Na.Stack
public import Idealize.ShloMosaic.Lib.Pipeline.ValueKit
public import Idealize.ShloMosaic.Lib.Pointwise
public import Idealize.ShloMosaic.Lib.StableHlo.RunRead
public import Idealize.ShloMosaic.Lib.StableHlo.ReadAt

@[expose] public section

set_option maxRecDepth 16384

noncomputable section

namespace Cert.Na

open Idealize.ShloMosaic Idealize.SL.Sem Cert.KernelIdeal Cert.KernelIdeal.Gen

/-- The operations that stack the shifted rows of the table. -/
def opsShift : List (HloOp τ sig (Elt Ideal)) := (hostOps0_8 (F := Ideal)).take 133
/-- The operations that lay the stack out by query row and key row. -/
def opsRows : List (HloOp τ sig (Elt Ideal)) := (hostOps0_8 (F := Ideal)).drop 133

theorem shift0_apply (W : Contents) (h : Fin 4) (a : Fin 15) (y : Fin 64) :
    StableHlo.upto opsShift W 128 (Proc.devRef .tc main_v77) (ix4 h a (0 : Fin 1) y)
      = W (Proc.devRef .tc main_v12) (ix3 h a (⟨63 + y.val, by omega⟩ : Fin 127)) := by
  unfold opsShift
  simp only [StableHlo.readUpto, StableHlo.unary_result']
  exact slice_apply _ _ _ h a y _

theorem shift1_apply (W : Contents) (h : Fin 4) (a : Fin 15) (y : Fin 64) :
    StableHlo.upto opsShift W 128 (Proc.devRef .tc main_v78) (ix4 h a (0 : Fin 1) y)
      = W (Proc.devRef .tc main_v12) (ix3 h a (⟨62 + y.val, by omega⟩ : Fin 127)) := by
  unfold opsShift
  simp only [StableHlo.readUpto, StableHlo.unary_result']
  exact slice_apply _ _ _ h a y _

theorem shift2_apply (W : Contents) (h : Fin 4) (a : Fin 15) (y : Fin 64) :
    StableHlo.upto opsShift W 128 (Proc.devRef .tc main_v79) (ix4 h a (0 : Fin 1) y)
      = W (Proc.devRef .tc main_v12) (ix3 h a (⟨61 + y.val, by omega⟩ : Fin 127)) := by
  unfold opsShift
  simp only [StableHlo.readUpto, StableHlo.unary_result']
  exact slice_apply _ _ _ h a y _

theorem shift3_apply (W : Contents) (h : Fin 4) (a : Fin 15) (y : Fin 64) :
    StableHlo.upto opsShift W 128 (Proc.devRef .tc main_v80) (ix4 h a (0 : Fin 1) y)
      = W (Proc.devRef .tc main_v12) (ix3 h a (⟨60 + y.val, by omega⟩ : Fin 127)) := by
  unfold opsShift
  simp only [StableHlo.readUpto, StableHlo.unary_result']
  exact slice_apply _ _ _ h a y _

theorem shift4_apply (W : Contents) (h : Fin 4) (a : Fin 15) (y : Fin 64) :
    StableHlo.upto opsShift W 128 (Proc.devRef .tc main_v81) (ix4 h a (0 : Fin 1) y)
      = W (Proc.devRef .tc main_v12) (ix3 h a (⟨59 + y.val, by omega⟩ : Fin 127)) := by
  unfold opsShift
  simp only [StableHlo.readUpto, StableHlo.unary_result']
  exact slice_apply _ _ _ h a y _

theorem shift5_apply (W : Contents) (h : Fin 4) (a : Fin 15) (y : Fin 64) :
    StableHlo.upto opsShift W 128 (Proc.devRef .tc main_v82) (ix4 h a (0 : Fin 1) y)
      = W (Proc.devRef .tc main_v12) (ix3 h a (⟨58 + y.val, by omega⟩ : Fin 127)) := by
  unfold opsShift
  simp only [StableHlo.readUpto, StableHlo.unary_result']
  exact slice_apply _ _ _ h a y _

theorem shift6_apply (W : Contents) (h : Fin 4) (a : Fin 15) (y : Fin 64) :
    StableHlo.upto opsShift W 128 (Proc.devRef .tc main_v83) (ix4 h a (0 : Fin 1) y)
      = W (Proc.devRef .tc main_v12) (ix3 h a (⟨57 + y.val, by omega⟩ : Fin 127)) := by
  unfold opsShift
  simp only [StableHlo.readUpto, StableHlo.unary_result']
  exact slice_apply _ _ _ h a y _

theorem shift7_apply (W : Contents) (h : Fin 4) (a : Fin 15) (y : Fin 64) :
    StableHlo.upto opsShift W 128 (Proc.devRef .tc main_v84) (ix4 h a (0 : Fin 1) y)
      = W (Proc.devRef .tc main_v12) (ix3 h a (⟨56 + y.val, by omega⟩ : Fin 127)) := by
  unfold opsShift
  simp only [StableHlo.readUpto, StableHlo.unary_result']
  exact slice_apply _ _ _ h a y _

theorem shift8_apply (W : Contents) (h : Fin 4) (a : Fin 15) (y : Fin 64) :
    StableHlo.upto opsShift W 128 (Proc.devRef .tc main_v85) (ix4 h a (0 : Fin 1) y)
      = W (Proc.devRef .tc main_v12) (ix3 h a (⟨55 + y.val, by omega⟩ : Fin 127)) := by
  unfold opsShift
  simp only [StableHlo.readUpto, StableHlo.unary_result']
  exact slice_apply _ _ _ h a y _

theorem shift9_apply (W : Contents) (h : Fin 4) (a : Fin 15) (y : Fin 64) :
    StableHlo.upto opsShift W 128 (Proc.devRef .tc main_v86) (ix4 h a (0 : Fin 1) y)
      = W (Proc.devRef .tc main_v12) (ix3 h a (⟨54 + y.val, by omega⟩ : Fin 127)) := by
  unfold opsShift
  simp only [StableHlo.readUpto, StableHlo.unary_result']
  exact slice_apply _ _ _ h a y _

theorem shift10_apply (W : Contents) (h : Fin 4) (a : Fin 15) (y : Fin 64) :
    StableHlo.upto opsShift W 128 (Proc.devRef .tc main_v87) (ix4 h a (0 : Fin 1) y)
      = W (Proc.devRef .tc main_v12) (ix3 h a (⟨53 + y.val, by omega⟩ : Fin 127)) := by
  unfold opsShift
  simp only [StableHlo.readUpto, StableHlo.unary_result']
  exact slice_apply _ _ _ h a y _

theorem shift11_apply (W : Contents) (h : Fin 4) (a : Fin 15) (y : Fin 64) :
    StableHlo.upto opsShift W 128 (Proc.devRef .tc main_v88) (ix4 h a (0 : Fin 1) y)
      = W (Proc.devRef .tc main_v12) (ix3 h a (⟨52 + y.val, by omega⟩ : Fin 127)) := by
  unfold opsShift
  simp only [StableHlo.readUpto, StableHlo.unary_result']
  exact slice_apply _ _ _ h a y _

theorem shift12_apply (W : Contents) (h : Fin 4) (a : Fin 15) (y : Fin 64) :
    StableHlo.upto opsShift W 128 (Proc.devRef .tc main_v89) (ix4 h a (0 : Fin 1) y)
      = W (Proc.devRef .tc main_v12) (ix3 h a (⟨51 + y.val, by omega⟩ : Fin 127)) := by
  unfold opsShift
  simp only [StableHlo.readUpto, StableHlo.unary_result']
  exact slice_apply _ _ _ h a y _

theorem shift13_apply (W : Contents) (h : Fin 4) (a : Fin 15) (y : Fin 64) :
    StableHlo.upto opsShift W 128 (Proc.devRef .tc main_v90) (ix4 h a (0 : Fin 1) y)
      = W (Proc.devRef .tc main_v12) (ix3 h a (⟨50 + y.val, by omega⟩ : Fin 127)) := by
  unfold opsShift
  simp only [StableHlo.readUpto, StableHlo.unary_result']
  exact slice_apply _ _ _ h a y _

theorem shift14_apply (W : Contents) (h : Fin 4) (a : Fin 15) (y : Fin 64) :
    StableHlo.upto opsShift W 128 (Proc.devRef .tc main_v91) (ix4 h a (0 : Fin 1) y)
      = W (Proc.devRef .tc main_v12) (ix3 h a (⟨49 + y.val, by omega⟩ : Fin 127)) := by
  unfold opsShift
  simp only [StableHlo.readUpto, StableHlo.unary_result']
  exact slice_apply _ _ _ h a y _

theorem shift15_apply (W : Contents) (h : Fin 4) (a : Fin 15) (y : Fin 64) :
    StableHlo.upto opsShift W 128 (Proc.devRef .tc main_v92) (ix4 h a (0 : Fin 1) y)
      = W (Proc.devRef .tc main_v12) (ix3 h a (⟨48 + y.val, by omega⟩ : Fin 127)) := by
  unfold opsShift
  simp only [StableHlo.readUpto, StableHlo.unary_result']
  exact slice_apply _ _ _ h a y _

set_option maxHeartbeats 4000000 in
theorem group0_apply (W : Contents) (h : Fin 4) (a : Fin 15) (j : Fin 16) (y : Fin 64) :
    StableHlo.upto opsShift W 132 (Proc.devRef .tc main_v141) (ix4 h a j y)
      = W (Proc.devRef .tc main_v12) (ix3 h a (⟨63 - (0 + j.val) + y.val, by omega⟩ : Fin 127)) := by
  unfold opsShift
  simp only [StableHlo.readUpto, main_v141_result]
  rw [cat16_apply]
  fin_cases j
  exacts [shift0_apply W h a y, shift1_apply W h a y, shift2_apply W h a y, shift3_apply W h a y, shift4_apply W h a y, shift5_apply W h a y, shift6_apply W h a y, shift7_apply W h a y, shift8_apply W h a y, shift9_apply W h a y, shift10_apply W h a y, shift11_apply W h a y, shift12_apply W h a y, shift13_apply W h a y, shift14_apply W h a y, shift15_apply W h a y]

theorem shift16_apply (W : Contents) (h : Fin 4) (a : Fin 15) (y : Fin 64) :
    StableHlo.upto opsShift W 129 (Proc.devRef .tc main_v93) (ix4 h a (0 : Fin 1) y)
      = W (Proc.devRef .tc main_v12) (ix3 h a (⟨47 + y.val, by omega⟩ : Fin 127)) := by
  unfold opsShift
  simp only [StableHlo.readUpto, StableHlo.unary_result']
  exact slice_apply _ _ _ h a y _

theorem shift17_apply (W : Contents) (h : Fin 4) (a : Fin 15) (y : Fin 64) :
    StableHlo.upto opsShift W 129 (Proc.devRef .tc main_v94) (ix4 h a (0 : Fin 1) y)
      = W (Proc.devRef .tc main_v12) (ix3 h a (⟨46 + y.val, by omega⟩ : Fin 127)) := by
  unfold opsShift
  simp only [StableHlo.readUpto, StableHlo.unary_result']
  exact slice_apply _ _ _ h a y _

theorem shift18_apply (W : Contents) (h : Fin 4) (a : Fin 15) (y : Fin 64) :
    StableHlo.upto opsShift W 129 (Proc.devRef .tc main_v95) (ix4 h a (0 : Fin 1) y)
      = W (Proc.devRef .tc main_v12) (ix3 h a (⟨45 + y.val, by omega⟩ : Fin 127)) := by
  unfold opsShift
  simp only [StableHlo.readUpto, StableHlo.unary_result']
  exact slice_apply _ _ _ h a y _

theorem shift19_apply (W : Contents) (h : Fin 4) (a : Fin 15) (y : Fin 64) :
    StableHlo.upto opsShift W 129 (Proc.devRef .tc main_v96) (ix4 h a (0 : Fin 1) y)
      = W (Proc.devRef .tc main_v12) (ix3 h a (⟨44 + y.val, by omega⟩ : Fin 127)) := by
  unfold opsShift
  simp only [StableHlo.readUpto, StableHlo.unary_result']
  exact slice_apply _ _ _ h a y _

theorem shift20_apply (W : Contents) (h : Fin 4) (a : Fin 15) (y : Fin 64) :
    StableHlo.upto opsShift W 129 (Proc.devRef .tc main_v97) (ix4 h a (0 : Fin 1) y)
      = W (Proc.devRef .tc main_v12) (ix3 h a (⟨43 + y.val, by omega⟩ : Fin 127)) := by
  unfold opsShift
  simp only [StableHlo.readUpto, StableHlo.unary_result']
  exact slice_apply _ _ _ h a y _

theorem shift21_apply (W : Contents) (h : Fin 4) (a : Fin 15) (y : Fin 64) :
    StableHlo.upto opsShift W 129 (Proc.devRef .tc main_v98) (ix4 h a (0 : Fin 1) y)
      = W (Proc.devRef .tc main_v12) (ix3 h a (⟨42 + y.val, by omega⟩ : Fin 127)) := by
  unfold opsShift
  simp only [StableHlo.readUpto, StableHlo.unary_result']
  exact slice_apply _ _ _ h a y _

theorem shift22_apply (W : Contents) (h : Fin 4) (a : Fin 15) (y : Fin 64) :
    StableHlo.upto opsShift W 129 (Proc.devRef .tc main_v99) (ix4 h a (0 : Fin 1) y)
      = W (Proc.devRef .tc main_v12) (ix3 h a (⟨41 + y.val, by omega⟩ : Fin 127)) := by
  unfold opsShift
  simp only [StableHlo.readUpto, StableHlo.unary_result']
  exact slice_apply _ _ _ h a y _

theorem shift23_apply (W : Contents) (h : Fin 4) (a : Fin 15) (y : Fin 64) :
    StableHlo.upto opsShift W 129 (Proc.devRef .tc main_v100) (ix4 h a (0 : Fin 1) y)
      = W (Proc.devRef .tc main_v12) (ix3 h a (⟨40 + y.val, by omega⟩ : Fin 127)) := by
  unfold opsShift
  simp only [StableHlo.readUpto, StableHlo.unary_result']
  exact slice_apply _ _ _ h a y _

theorem shift24_apply (W : Contents) (h : Fin 4) (a : Fin 15) (y : Fin 64) :
    StableHlo.upto opsShift W 129 (Proc.devRef .tc main_v101) (ix4 h a (0 : Fin 1) y)
      = W (Proc.devRef .tc main_v12) (ix3 h a (⟨39 + y.val, by omega⟩ : Fin 127)) := by
  unfold opsShift
  simp only [StableHlo.readUpto, StableHlo.unary_result']
  exact slice_apply _ _ _ h a y _

theorem shift25_apply (W : Contents) (h : Fin 4) (a : Fin 15) (y : Fin 64) :
    StableHlo.upto opsShift W 129 (Proc.devRef .tc main_v102) (ix4 h a (0 : Fin 1) y)
      = W (Proc.devRef .tc main_v12) (ix3 h a (⟨38 + y.val, by omega⟩ : Fin 127)) := by
  unfold opsShift
  simp only [StableHlo.readUpto, StableHlo.unary_result']
  exact slice_apply _ _ _ h a y _

theorem shift26_apply (W : Contents) (h : Fin 4) (a : Fin 15) (y : Fin 64) :
    StableHlo.upto opsShift W 129 (Proc.devRef .tc main_v103) (ix4 h a (0 : Fin 1) y)
      = W (Proc.devRef .tc main_v12) (ix3 h a (⟨37 + y.val, by omega⟩ : Fin 127)) := by
  unfold opsShift
  simp only [StableHlo.readUpto, StableHlo.unary_result']
  exact slice_apply _ _ _ h a y _

theorem shift27_apply (W : Contents) (h : Fin 4) (a : Fin 15) (y : Fin 64) :
    StableHlo.upto opsShift W 129 (Proc.devRef .tc main_v104) (ix4 h a (0 : Fin 1) y)
      = W (Proc.devRef .tc main_v12) (ix3 h a (⟨36 + y.val, by omega⟩ : Fin 127)) := by
  unfold opsShift
  simp only [StableHlo.readUpto, StableHlo.unary_result']
  exact slice_apply _ _ _ h a y _

theorem shift28_apply (W : Contents) (h : Fin 4) (a : Fin 15) (y : Fin 64) :
    StableHlo.upto opsShift W 129 (Proc.devRef .tc main_v105) (ix4 h a (0 : Fin 1) y)
      = W (Proc.devRef .tc main_v12) (ix3 h a (⟨35 + y.val, by omega⟩ : Fin 127)) := by
  unfold opsShift
  simp only [StableHlo.readUpto, StableHlo.unary_result']
  exact slice_apply _ _ _ h a y _

theorem shift29_apply (W : Contents) (h : Fin 4) (a : Fin 15) (y : Fin 64) :
    StableHlo.upto opsShift W 129 (Proc.devRef .tc main_v106) (ix4 h a (0 : Fin 1) y)
      = W (Proc.devRef .tc main_v12) (ix3 h a (⟨34 + y.val, by omega⟩ : Fin 127)) := by
  unfold opsShift
  simp only [StableHlo.readUpto, StableHlo.unary_result']
  exact slice_apply _ _ _ h a y _

theorem shift30_apply (W : Contents) (h : Fin 4) (a : Fin 15) (y : Fin 64) :
    StableHlo.upto opsShift W 129 (Proc.devRef .tc main_v107) (ix4 h a (0 : Fin 1) y)
      = W (Proc.devRef .tc main_v12) (ix3 h a (⟨33 + y.val, by omega⟩ : Fin 127)) := by
  unfold opsShift
  simp only [StableHlo.readUpto, StableHlo.unary_result']
  exact slice_apply _ _ _ h a y _

theorem shift31_apply (W : Contents) (h : Fin 4) (a : Fin 15) (y : Fin 64) :
    StableHlo.upto opsShift W 129 (Proc.devRef .tc main_v108) (ix4 h a (0 : Fin 1) y)
      = W (Proc.devRef .tc main_v12) (ix3 h a (⟨32 + y.val, by omega⟩ : Fin 127)) := by
  unfold opsShift
  simp only [StableHlo.readUpto, StableHlo.unary_result']
  exact slice_apply _ _ _ h a y _

set_option maxHeartbeats 4000000 in
theorem group1_apply (W : Contents) (h : Fin 4) (a : Fin 15) (j : Fin 16) (y : Fin 64) :
    StableHlo.upto opsShift W 132 (Proc.devRef .tc main_v142) (ix4 h a j y)
      = W (Proc.devRef .tc main_v12) (ix3 h a (⟨63 - (16 + j.val) + y.val, by omega⟩ : Fin 127)) := by
  unfold opsShift
  simp only [StableHlo.readUpto, main_v142_result]
  rw [cat16_apply]
  fin_cases j
  exacts [shift16_apply W h a y, shift17_apply W h a y, shift18_apply W h a y, shift19_apply W h a y, shift20_apply W h a y, shift21_apply W h a y, shift22_apply W h a y, shift23_apply W h a y, shift24_apply W h a y, shift25_apply W h a y, shift26_apply W h a y, shift27_apply W h a y, shift28_apply W h a y, shift29_apply W h a y, shift30_apply W h a y, shift31_apply W h a y]

theorem shift32_apply (W : Contents) (h : Fin 4) (a : Fin 15) (y : Fin 64) :
    StableHlo.upto opsShift W 130 (Proc.devRef .tc main_v109) (ix4 h a (0 : Fin 1) y)
      = W (Proc.devRef .tc main_v12) (ix3 h a (⟨31 + y.val, by omega⟩ : Fin 127)) := by
  unfold opsShift
  simp only [StableHlo.readUpto, StableHlo.unary_result']
  exact slice_apply _ _ _ h a y _

theorem shift33_apply (W : Contents) (h : Fin 4) (a : Fin 15) (y : Fin 64) :
    StableHlo.upto opsShift W 130 (Proc.devRef .tc main_v110) (ix4 h a (0 : Fin 1) y)
      = W (Proc.devRef .tc main_v12) (ix3 h a (⟨30 + y.val, by omega⟩ : Fin 127)) := by
  unfold opsShift
  simp only [StableHlo.readUpto, StableHlo.unary_result']
  exact slice_apply _ _ _ h a y _

theorem shift34_apply (W : Contents) (h : Fin 4) (a : Fin 15) (y : Fin 64) :
    StableHlo.upto opsShift W 130 (Proc.devRef .tc main_v111) (ix4 h a (0 : Fin 1) y)
      = W (Proc.devRef .tc main_v12) (ix3 h a (⟨29 + y.val, by omega⟩ : Fin 127)) := by
  unfold opsShift
  simp only [StableHlo.readUpto, StableHlo.unary_result']
  exact slice_apply _ _ _ h a y _

theorem shift35_apply (W : Contents) (h : Fin 4) (a : Fin 15) (y : Fin 64) :
    StableHlo.upto opsShift W 130 (Proc.devRef .tc main_v112) (ix4 h a (0 : Fin 1) y)
      = W (Proc.devRef .tc main_v12) (ix3 h a (⟨28 + y.val, by omega⟩ : Fin 127)) := by
  unfold opsShift
  simp only [StableHlo.readUpto, StableHlo.unary_result']
  exact slice_apply _ _ _ h a y _

theorem shift36_apply (W : Contents) (h : Fin 4) (a : Fin 15) (y : Fin 64) :
    StableHlo.upto opsShift W 130 (Proc.devRef .tc main_v113) (ix4 h a (0 : Fin 1) y)
      = W (Proc.devRef .tc main_v12) (ix3 h a (⟨27 + y.val, by omega⟩ : Fin 127)) := by
  unfold opsShift
  simp only [StableHlo.readUpto, StableHlo.unary_result']
  exact slice_apply _ _ _ h a y _

theorem shift37_apply (W : Contents) (h : Fin 4) (a : Fin 15) (y : Fin 64) :
    StableHlo.upto opsShift W 130 (Proc.devRef .tc main_v114) (ix4 h a (0 : Fin 1) y)
      = W (Proc.devRef .tc main_v12) (ix3 h a (⟨26 + y.val, by omega⟩ : Fin 127)) := by
  unfold opsShift
  simp only [StableHlo.readUpto, StableHlo.unary_result']
  exact slice_apply _ _ _ h a y _

theorem shift38_apply (W : Contents) (h : Fin 4) (a : Fin 15) (y : Fin 64) :
    StableHlo.upto opsShift W 130 (Proc.devRef .tc main_v115) (ix4 h a (0 : Fin 1) y)
      = W (Proc.devRef .tc main_v12) (ix3 h a (⟨25 + y.val, by omega⟩ : Fin 127)) := by
  unfold opsShift
  simp only [StableHlo.readUpto, StableHlo.unary_result']
  exact slice_apply _ _ _ h a y _

theorem shift39_apply (W : Contents) (h : Fin 4) (a : Fin 15) (y : Fin 64) :
    StableHlo.upto opsShift W 130 (Proc.devRef .tc main_v116) (ix4 h a (0 : Fin 1) y)
      = W (Proc.devRef .tc main_v12) (ix3 h a (⟨24 + y.val, by omega⟩ : Fin 127)) := by
  unfold opsShift
  simp only [StableHlo.readUpto, StableHlo.unary_result']
  exact slice_apply _ _ _ h a y _

theorem shift40_apply (W : Contents) (h : Fin 4) (a : Fin 15) (y : Fin 64) :
    StableHlo.upto opsShift W 130 (Proc.devRef .tc main_v117) (ix4 h a (0 : Fin 1) y)
      = W (Proc.devRef .tc main_v12) (ix3 h a (⟨23 + y.val, by omega⟩ : Fin 127)) := by
  unfold opsShift
  simp only [StableHlo.readUpto, StableHlo.unary_result']
  exact slice_apply _ _ _ h a y _

theorem shift41_apply (W : Contents) (h : Fin 4) (a : Fin 15) (y : Fin 64) :
    StableHlo.upto opsShift W 130 (Proc.devRef .tc main_v118) (ix4 h a (0 : Fin 1) y)
      = W (Proc.devRef .tc main_v12) (ix3 h a (⟨22 + y.val, by omega⟩ : Fin 127)) := by
  unfold opsShift
  simp only [StableHlo.readUpto, StableHlo.unary_result']
  exact slice_apply _ _ _ h a y _

theorem shift42_apply (W : Contents) (h : Fin 4) (a : Fin 15) (y : Fin 64) :
    StableHlo.upto opsShift W 130 (Proc.devRef .tc main_v119) (ix4 h a (0 : Fin 1) y)
      = W (Proc.devRef .tc main_v12) (ix3 h a (⟨21 + y.val, by omega⟩ : Fin 127)) := by
  unfold opsShift
  simp only [StableHlo.readUpto, StableHlo.unary_result']
  exact slice_apply _ _ _ h a y _

theorem shift43_apply (W : Contents) (h : Fin 4) (a : Fin 15) (y : Fin 64) :
    StableHlo.upto opsShift W 130 (Proc.devRef .tc main_v120) (ix4 h a (0 : Fin 1) y)
      = W (Proc.devRef .tc main_v12) (ix3 h a (⟨20 + y.val, by omega⟩ : Fin 127)) := by
  unfold opsShift
  simp only [StableHlo.readUpto, StableHlo.unary_result']
  exact slice_apply _ _ _ h a y _

theorem shift44_apply (W : Contents) (h : Fin 4) (a : Fin 15) (y : Fin 64) :
    StableHlo.upto opsShift W 130 (Proc.devRef .tc main_v121) (ix4 h a (0 : Fin 1) y)
      = W (Proc.devRef .tc main_v12) (ix3 h a (⟨19 + y.val, by omega⟩ : Fin 127)) := by
  unfold opsShift
  simp only [StableHlo.readUpto, StableHlo.unary_result']
  exact slice_apply _ _ _ h a y _

theorem shift45_apply (W : Contents) (h : Fin 4) (a : Fin 15) (y : Fin 64) :
    StableHlo.upto opsShift W 130 (Proc.devRef .tc main_v122) (ix4 h a (0 : Fin 1) y)
      = W (Proc.devRef .tc main_v12) (ix3 h a (⟨18 + y.val, by omega⟩ : Fin 127)) := by
  unfold opsShift
  simp only [StableHlo.readUpto, StableHlo.unary_result']
  exact slice_apply _ _ _ h a y _

theorem shift46_apply (W : Contents) (h : Fin 4) (a : Fin 15) (y : Fin 64) :
    StableHlo.upto opsShift W 130 (Proc.devRef .tc main_v123) (ix4 h a (0 : Fin 1) y)
      = W (Proc.devRef .tc main_v12) (ix3 h a (⟨17 + y.val, by omega⟩ : Fin 127)) := by
  unfold opsShift
  simp only [StableHlo.readUpto, StableHlo.unary_result']
  exact slice_apply _ _ _ h a y _

theorem shift47_apply (W : Contents) (h : Fin 4) (a : Fin 15) (y : Fin 64) :
    StableHlo.upto opsShift W 130 (Proc.devRef .tc main_v124) (ix4 h a (0 : Fin 1) y)
      = W (Proc.devRef .tc main_v12) (ix3 h a (⟨16 + y.val, by omega⟩ : Fin 127)) := by
  unfold opsShift
  simp only [StableHlo.readUpto, StableHlo.unary_result']
  exact slice_apply _ _ _ h a y _

set_option maxHeartbeats 4000000 in
theorem group2_apply (W : Contents) (h : Fin 4) (a : Fin 15) (j : Fin 16) (y : Fin 64) :
    StableHlo.upto opsShift W 132 (Proc.devRef .tc main_v143) (ix4 h a j y)
      = W (Proc.devRef .tc main_v12) (ix3 h a (⟨63 - (32 + j.val) + y.val, by omega⟩ : Fin 127)) := by
  unfold opsShift
  simp only [StableHlo.readUpto, main_v143_result]
  rw [cat16_apply]
  fin_cases j
  exacts [shift32_apply W h a y, shift33_apply W h a y, shift34_apply W h a y, shift35_apply W h a y, shift36_apply W h a y, shift37_apply W h a y, shift38_apply W h a y, shift39_apply W h a y, shift40_apply W h a y, shift41_apply W h a y, shift42_apply W h a y, shift43_apply W h a y, shift44_apply W h a y, shift45_apply W h a y, shift46_apply W h a y, shift47_apply W h a y]

theorem shift48_apply (W : Contents) (h : Fin 4) (a : Fin 15) (y : Fin 64) :
    StableHlo.upto opsShift W 131 (Proc.devRef .tc main_v125) (ix4 h a (0 : Fin 1) y)
      = W (Proc.devRef .tc main_v12) (ix3 h a (⟨15 + y.val, by omega⟩ : Fin 127)) := by
  unfold opsShift
  simp only [StableHlo.readUpto, StableHlo.unary_result']
  exact slice_apply _ _ _ h a y _

theorem shift49_apply (W : Contents) (h : Fin 4) (a : Fin 15) (y : Fin 64) :
    StableHlo.upto opsShift W 131 (Proc.devRef .tc main_v126) (ix4 h a (0 : Fin 1) y)
      = W (Proc.devRef .tc main_v12) (ix3 h a (⟨14 + y.val, by omega⟩ : Fin 127)) := by
  unfold opsShift
  simp only [StableHlo.readUpto, StableHlo.unary_result']
  exact slice_apply _ _ _ h a y _

theorem shift50_apply (W : Contents) (h : Fin 4) (a : Fin 15) (y : Fin 64) :
    StableHlo.upto opsShift W 131 (Proc.devRef .tc main_v127) (ix4 h a (0 : Fin 1) y)
      = W (Proc.devRef .tc main_v12) (ix3 h a (⟨13 + y.val, by omega⟩ : Fin 127)) := by
  unfold opsShift
  simp only [StableHlo.readUpto, StableHlo.unary_result']
  exact slice_apply _ _ _ h a y _

theorem shift51_apply (W : Contents) (h : Fin 4) (a : Fin 15) (y : Fin 64) :
    StableHlo.upto opsShift W 131 (Proc.devRef .tc main_v128) (ix4 h a (0 : Fin 1) y)
      = W (Proc.devRef .tc main_v12) (ix3 h a (⟨12 + y.val, by omega⟩ : Fin 127)) := by
  unfold opsShift
  simp only [StableHlo.readUpto, StableHlo.unary_result']
  exact slice_apply _ _ _ h a y _

theorem shift52_apply (W : Contents) (h : Fin 4) (a : Fin 15) (y : Fin 64) :
    StableHlo.upto opsShift W 131 (Proc.devRef .tc main_v129) (ix4 h a (0 : Fin 1) y)
      = W (Proc.devRef .tc main_v12) (ix3 h a (⟨11 + y.val, by omega⟩ : Fin 127)) := by
  unfold opsShift
  simp only [StableHlo.readUpto, StableHlo.unary_result']
  exact slice_apply _ _ _ h a y _

theorem shift53_apply (W : Contents) (h : Fin 4) (a : Fin 15) (y : Fin 64) :
    StableHlo.upto opsShift W 131 (Proc.devRef .tc main_v130) (ix4 h a (0 : Fin 1) y)
      = W (Proc.devRef .tc main_v12) (ix3 h a (⟨10 + y.val, by omega⟩ : Fin 127)) := by
  unfold opsShift
  simp only [StableHlo.readUpto, StableHlo.unary_result']
  exact slice_apply _ _ _ h a y _

theorem shift54_apply (W : Contents) (h : Fin 4) (a : Fin 15) (y : Fin 64) :
    StableHlo.upto opsShift W 131 (Proc.devRef .tc main_v131) (ix4 h a (0 : Fin 1) y)
      = W (Proc.devRef .tc main_v12) (ix3 h a (⟨9 + y.val, by omega⟩ : Fin 127)) := by
  unfold opsShift
  simp only [StableHlo.readUpto, StableHlo.unary_result']
  exact slice_apply _ _ _ h a y _

theorem shift55_apply (W : Contents) (h : Fin 4) (a : Fin 15) (y : Fin 64) :
    StableHlo.upto opsShift W 131 (Proc.devRef .tc main_v132) (ix4 h a (0 : Fin 1) y)
      = W (Proc.devRef .tc main_v12) (ix3 h a (⟨8 + y.val, by omega⟩ : Fin 127)) := by
  unfold opsShift
  simp only [StableHlo.readUpto, StableHlo.unary_result']
  exact slice_apply _ _ _ h a y _

theorem shift56_apply (W : Contents) (h : Fin 4) (a : Fin 15) (y : Fin 64) :
    StableHlo.upto opsShift W 131 (Proc.devRef .tc main_v133) (ix4 h a (0 : Fin 1) y)
      = W (Proc.devRef .tc main_v12) (ix3 h a (⟨7 + y.val, by omega⟩ : Fin 127)) := by
  unfold opsShift
  simp only [StableHlo.readUpto, StableHlo.unary_result']
  exact slice_apply _ _ _ h a y _

theorem shift57_apply (W : Contents) (h : Fin 4) (a : Fin 15) (y : Fin 64) :
    StableHlo.upto opsShift W 131 (Proc.devRef .tc main_v134) (ix4 h a (0 : Fin 1) y)
      = W (Proc.devRef .tc main_v12) (ix3 h a (⟨6 + y.val, by omega⟩ : Fin 127)) := by
  unfold opsShift
  simp only [StableHlo.readUpto, StableHlo.unary_result']
  exact slice_apply _ _ _ h a y _

theorem shift58_apply (W : Contents) (h : Fin 4) (a : Fin 15) (y : Fin 64) :
    StableHlo.upto opsShift W 131 (Proc.devRef .tc main_v135) (ix4 h a (0 : Fin 1) y)
      = W (Proc.devRef .tc main_v12) (ix3 h a (⟨5 + y.val, by omega⟩ : Fin 127)) := by
  unfold opsShift
  simp only [StableHlo.readUpto, StableHlo.unary_result']
  exact slice_apply _ _ _ h a y _

theorem shift59_apply (W : Contents) (h : Fin 4) (a : Fin 15) (y : Fin 64) :
    StableHlo.upto opsShift W 131 (Proc.devRef .tc main_v136) (ix4 h a (0 : Fin 1) y)
      = W (Proc.devRef .tc main_v12) (ix3 h a (⟨4 + y.val, by omega⟩ : Fin 127)) := by
  unfold opsShift
  simp only [StableHlo.readUpto, StableHlo.unary_result']
  exact slice_apply _ _ _ h a y _

theorem shift60_apply (W : Contents) (h : Fin 4) (a : Fin 15) (y : Fin 64) :
    StableHlo.upto opsShift W 131 (Proc.devRef .tc main_v137) (ix4 h a (0 : Fin 1) y)
      = W (Proc.devRef .tc main_v12) (ix3 h a (⟨3 + y.val, by omega⟩ : Fin 127)) := by
  unfold opsShift
  simp only [StableHlo.readUpto, StableHlo.unary_result']
  exact slice_apply _ _ _ h a y _

theorem shift61_apply (W : Contents) (h : Fin 4) (a : Fin 15) (y : Fin 64) :
    StableHlo.upto opsShift W 131 (Proc.devRef .tc main_v138) (ix4 h a (0 : Fin 1) y)
      = W (Proc.devRef .tc main_v12) (ix3 h a (⟨2 + y.val, by omega⟩ : Fin 127)) := by
  unfold opsShift
  simp only [StableHlo.readUpto, StableHlo.unary_result']
  exact slice_apply _ _ _ h a y _

theorem shift62_apply (W : Contents) (h : Fin 4) (a : Fin 15) (y : Fin 64) :
    StableHlo.upto opsShift W 131 (Proc.devRef .tc main_v139) (ix4 h a (0 : Fin 1) y)
      = W (Proc.devRef .tc main_v12) (ix3 h a (⟨1 + y.val, by omega⟩ : Fin 127)) := by
  unfold opsShift
  simp only [StableHlo.readUpto, StableHlo.unary_result']
  exact slice_apply _ _ _ h a y _

theorem shift63_apply (W : Contents) (h : Fin 4) (a : Fin 15) (y : Fin 64) :
    StableHlo.upto opsShift W 131 (Proc.devRef .tc main_v140) (ix4 h a (0 : Fin 1) y)
      = W (Proc.devRef .tc main_v12) (ix3 h a (⟨0 + y.val, by omega⟩ : Fin 127)) := by
  unfold opsShift
  simp only [StableHlo.readUpto, StableHlo.unary_result']
  exact slice_apply _ _ _ h a y _

set_option maxHeartbeats 4000000 in
theorem group3_apply (W : Contents) (h : Fin 4) (a : Fin 15) (j : Fin 16) (y : Fin 64) :
    StableHlo.upto opsShift W 132 (Proc.devRef .tc main_v144) (ix4 h a j y)
      = W (Proc.devRef .tc main_v12) (ix3 h a (⟨63 - (48 + j.val) + y.val, by omega⟩ : Fin 127)) := by
  unfold opsShift
  simp only [StableHlo.readUpto, main_v144_result]
  rw [cat16_apply]
  fin_cases j
  exacts [shift48_apply W h a y, shift49_apply W h a y, shift50_apply W h a y, shift51_apply W h a y, shift52_apply W h a y, shift53_apply W h a y, shift54_apply W h a y, shift55_apply W h a y, shift56_apply W h a y, shift57_apply W h a y, shift58_apply W h a y, shift59_apply W h a y, shift60_apply W h a y, shift61_apply W h a y, shift62_apply W h a y, shift63_apply W h a y]

set_option maxHeartbeats 4000000 in
/-- The stack of the shifted rows: at query column x and key column y it holds the bias of their difference. -/
theorem shift_apply (W : Contents) (h : Fin 4) (a : Fin 15) (x y : Fin 64) :
    StableHlo.after opsShift W (Proc.devRef .tc main_v145) (ix4 h a x y)
      = W (Proc.devRef .tc main_v12) (ix3 h a (⟨63 - x.val + y.val, by omega⟩ : Fin 127)) := by
  unfold opsShift
  simp only [StableHlo.readAfter, main_v145_result]
  rw [cat4_apply]
  have key : ∀ k : Fin 4, ∀ j : Fin 16, 16 * k.val + j.val = x.val →
      (![StableHlo.upto opsShift W 132 (Proc.devRef .tc main_v141), StableHlo.upto opsShift W 132 (Proc.devRef .tc main_v142),
        StableHlo.upto opsShift W 132 (Proc.devRef .tc main_v143), StableHlo.upto opsShift W 132 (Proc.devRef .tc main_v144)] :
          Fin 4 → S4x15x16x64.Idx → EReal) k (ix4 h a j y)
        = W (Proc.devRef .tc main_v12) (ix3 h a (⟨63 - x.val + y.val, by omega⟩ : Fin 127)) := by
    intro k j hk
    simp only [← hk]
    fin_cases k
    exacts [group0_apply W h a j y, group1_apply W h a j y, group2_apply W h a j y, group3_apply W h a j y]
  exact key _ _ (by simp only []; omega)

end Cert.Na

end
-- ==== Proof.Na.Rows.lean ====
/- The laying out of the shifted tables: the host gives every query row of a block, and every key row of its window, the
   shifted table of the difference of the two rows. -/
module

public import proofs.«01_k».proof.Proof.Na.Bias

@[expose] public section

set_option maxRecDepth 16384

noncomputable section

namespace Cert.Na

open Idealize.ShloMosaic Idealize.SL.Sem Cert.KernelIdeal Cert.KernelIdeal.Gen

/-- One table of the stack, under a new axis. -/
theorem row_apply (v : S4x15x64x64.Idx → EReal) (o : ℕ) (hs : Shape.Slices S4x15x64x64 ![0, o, 0, 0] S4x1x64x64) (h : Fin 4)
    (x y : Fin 64) (ho : o < 15) :
    broadcastInDim S4x64x1x64 ![0, 1, 3] bcast_S4x64x64_S4x64x1x64_0_1_3
      (shapeCast S4x64x64 (extractStridedSlice S4x1x64x64 ![0, o, 0, 0] v hs) shapeCasts_S4x1x64x64_S4x64x64)
        (ix4 h x (0 : Fin 1) y) = v (ix4 h (⟨o, ho⟩ : Fin 15) x y) := by
  pointwise

set_option maxHeartbeats 4000000 in
theorem cat12_apply (u0 u1 u2 u3 u4 u5 u6 u7 u8 u9 u10 u11 : S4x64x1x64.Idx → EReal) (hc) (h : Fin 4) (x : Fin 64) (j : Fin 12) (y : Fin 64) :
    concatenate S4x64x12x64 2 [⟨S4x64x1x64, u0⟩, ⟨S4x64x1x64, u1⟩, ⟨S4x64x1x64, u2⟩, ⟨S4x64x1x64, u3⟩, ⟨S4x64x1x64, u4⟩, ⟨S4x64x1x64, u5⟩, ⟨S4x64x1x64, u6⟩, ⟨S4x64x1x64, u7⟩, ⟨S4x64x1x64, u8⟩, ⟨S4x64x1x64, u9⟩, ⟨S4x64x1x64, u10⟩, ⟨S4x64x1x64, u11⟩] hc (ix4 h x j y)
      = (![u0, u1, u2, u3, u4, u5, u6, u7, u8, u9, u10, u11] : Fin 12 → S4x64x1x64.Idx → EReal) j (ix4 h x 0 y) := by
  refine concatenate_ofFn_unit_eq (t := S4x64x12x64) (s₁ := S4x64x1x64) (2 : Fin 4)
    (![u0, u1, u2, u3, u4, u5, u6, u7, u8, u9, u10, u11] : Fin 12 → S4x64x1x64.Idx → EReal)
    hc (ix4 h x j y) _ rfl rfl fun n i hn h0 hb => ?_
  obtain rfl : n = j := Fin.ext hn.symm
  have e : i = ix4 h x 0 y := by
    funext b
    fin_cases b
    exacts [Fin.ext (hb 0 (by decide)), Fin.ext (hb 1 (by decide)), Fin.ext h0, Fin.ext (hb 3 (by decide))]
  rw [e]

/-- The four query rows of a block, read at an element. -/
theorem cat4rows_apply (u0 u1 u2 u3 : S4x1x64x12x64.Idx → EReal) (hc) (h g : Fin 4) (x : Fin 64) (k : Fin 12) (y : Fin 64) :
    shapeCast S4x256x768 (concatenate S4x4x64x12x64 1 [⟨S4x1x64x12x64, u0⟩, ⟨S4x1x64x12x64, u1⟩, ⟨S4x1x64x12x64, u2⟩, ⟨S4x1x64x12x64, u3⟩] hc) shapeCasts_S4x4x64x12x64_S4x256x768
        (ix3 h (⟨64 * g.val + x.val, by omega⟩ : Fin 256) (⟨64 * k.val + y.val, by omega⟩ : Fin 768))
      = (![u0, u1, u2, u3] : Fin 4 → S4x1x64x12x64.Idx → EReal) g (ix5 h (0 : Fin 1) x k y) := by
  pointwise
  fin_cases g <;> simp <;> rfl

theorem wide_apply (u : S4x64x12x64.Idx → EReal) (h : Fin 4) (x : Fin 64) (k : Fin 12) (y : Fin 64) :
    broadcastInDim S4x1x64x12x64 ![0, 2, 3, 4] bcast_S4x64x12x64_S4x1x64x12x64_0_2_3_4 u (ix5 h (0 : Fin 1) x k y) = u (ix4 h x k y) := by
  pointwise

theorem row0_0_apply (W : Contents) (h : Fin 4) (x y : Fin 64) :
    StableHlo.upto opsRows W 36 (Proc.devRef .tc main_v170) (ix4 h x (0 : Fin 1) y)
      = W (Proc.devRef .tc main_v145) (ix4 h (⟨3, by omega⟩ : Fin 15) x y) := by
  unfold opsRows
  simp only [StableHlo.readUpto, StableHlo.unary_result', StableHlo.reshape_result']
  exact row_apply _ 3 _ h x y _

theorem row0_1_apply (W : Contents) (h : Fin 4) (x y : Fin 64) :
    StableHlo.upto opsRows W 36 (Proc.devRef .tc main_v171) (ix4 h x (0 : Fin 1) y)
      = W (Proc.devRef .tc main_v145) (ix4 h (⟨4, by omega⟩ : Fin 15) x y) := by
  unfold opsRows
  simp only [StableHlo.readUpto, StableHlo.unary_result', StableHlo.reshape_result']
  exact row_apply _ 4 _ h x y _

theorem row0_2_apply (W : Contents) (h : Fin 4) (x y : Fin 64) :
    StableHlo.upto opsRows W 36 (Proc.devRef .tc main_v172) (ix4 h x (0 : Fin 1) y)
      = W (Proc.devRef .tc main_v145) (ix4 h (⟨5, by omega⟩ : Fin 15) x y) := by
  unfold opsRows
  simp only [StableHlo.readUpto, StableHlo.unary_result', StableHlo.reshape_result']
  exact row_apply _ 5 _ h x y _

theorem row0_3_apply (W : Contents) (h : Fin 4) (x y : Fin 64) :
    StableHlo.upto opsRows W 36 (Proc.devRef .tc main_v173) (ix4 h x (0 : Fin 1) y)
      = W (Proc.devRef .tc main_v145) (ix4 h (⟨6, by omega⟩ : Fin 15) x y) := by
  unfold opsRows
  simp only [StableHlo.readUpto, StableHlo.unary_result', StableHlo.reshape_result']
  exact row_apply _ 6 _ h x y _

theorem row0_4_apply (W : Contents) (h : Fin 4) (x y : Fin 64) :
    StableHlo.upto opsRows W 36 (Proc.devRef .tc main_v174) (ix4 h x (0 : Fin 1) y)
      = W (Proc.devRef .tc main_v145) (ix4 h (⟨7, by omega⟩ : Fin 15) x y) := by
  unfold opsRows
  simp only [StableHlo.readUpto, StableHlo.unary_result', StableHlo.reshape_result']
  exact row_apply _ 7 _ h x y _

theorem row0_5_apply (W : Contents) (h : Fin 4) (x y : Fin 64) :
    StableHlo.upto opsRows W 36 (Proc.devRef .tc main_v175) (ix4 h x (0 : Fin 1) y)
      = W (Proc.devRef .tc main_v145) (ix4 h (⟨8, by omega⟩ : Fin 15) x y) := by
  unfold opsRows
  simp only [StableHlo.readUpto, StableHlo.unary_result', StableHlo.reshape_result']
  exact row_apply _ 8 _ h x y _

theorem row0_6_apply (W : Contents) (h : Fin 4) (x y : Fin 64) :
    StableHlo.upto opsRows W 36 (Proc.devRef .tc main_v176) (ix4 h x (0 : Fin 1) y)
      = W (Proc.devRef .tc main_v145) (ix4 h (⟨9, by omega⟩ : Fin 15) x y) := by
  unfold opsRows
  simp only [StableHlo.readUpto, StableHlo.unary_result', StableHlo.reshape_result']
  exact row_apply _ 9 _ h x y _

theorem row0_7_apply (W : Contents) (h : Fin 4) (x y : Fin 64) :
    StableHlo.upto opsRows W 36 (Proc.devRef .tc main_v177) (ix4 h x (0 : Fin 1) y)
      = W (Proc.devRef .tc main_v145) (ix4 h (⟨10, by omega⟩ : Fin 15) x y) := by
  unfold opsRows
  simp only [StableHlo.readUpto, StableHlo.unary_result', StableHlo.reshape_result']
  exact row_apply _ 10 _ h x y _

theorem row0_8_apply (W : Contents) (h : Fin 4) (x y : Fin 64) :
    StableHlo.upto opsRows W 36 (Proc.devRef .tc main_v178) (ix4 h x (0 : Fin 1) y)
      = W (Proc.devRef .tc main_v145) (ix4 h (⟨11, by omega⟩ : Fin 15) x y) := by
  unfold opsRows
  simp only [StableHlo.readUpto, StableHlo.unary_result', StableHlo.reshape_result']
  exact row_apply _ 11 _ h x y _

theorem row0_9_apply (W : Contents) (h : Fin 4) (x y : Fin 64) :
    StableHlo.upto opsRows W 36 (Proc.devRef .tc main_v179) (ix4 h x (0 : Fin 1) y)
      = W (Proc.devRef .tc main_v145) (ix4 h (⟨12, by omega⟩ : Fin 15) x y) := by
  unfold opsRows
  simp only [StableHlo.readUpto, StableHlo.unary_result', StableHlo.reshape_result']
  exact row_apply _ 12 _ h x y _

theorem row0_10_apply (W : Contents) (h : Fin 4) (x y : Fin 64) :
    StableHlo.upto opsRows W 36 (Proc.devRef .tc main_v180) (ix4 h x (0 : Fin 1) y)
      = W (Proc.devRef .tc main_v145) (ix4 h (⟨13, by omega⟩ : Fin 15) x y) := by
  unfold opsRows
  simp only [StableHlo.readUpto, StableHlo.unary_result', StableHlo.reshape_result']
  exact row_apply _ 13 _ h x y _

theorem row0_11_apply (W : Contents) (h : Fin 4) (x y : Fin 64) :
    StableHlo.upto opsRows W 36 (Proc.devRef .tc main_v181) (ix4 h x (0 : Fin 1) y)
      = W (Proc.devRef .tc main_v145) (ix4 h (⟨14, by omega⟩ : Fin 15) x y) := by
  unfold opsRows
  simp only [StableHlo.readUpto, StableHlo.unary_result', StableHlo.reshape_result']
  exact row_apply _ 14 _ h x y _

set_option maxHeartbeats 4000000 in
theorem rows0_apply (W : Contents) (h : Fin 4) (x : Fin 64) (k : Fin 12) (y : Fin 64) :
    StableHlo.upto opsRows W 152 (Proc.devRef .tc main_v294) (ix5 h (0 : Fin 1) x k y)
      = W (Proc.devRef .tc main_v145) (ix4 h (⟨k.val + 3 - 0, by omega⟩ : Fin 15) x y) := by
  unfold opsRows
  simp only [StableHlo.readUpto, StableHlo.unary_result', main_v182_result]
  rw [wide_apply, cat12_apply]
  fin_cases k
  exacts [row0_0_apply W h x y, row0_1_apply W h x y, row0_2_apply W h x y, row0_3_apply W h x y, row0_4_apply W h x y, row0_5_apply W h x y, row0_6_apply W h x y, row0_7_apply W h x y, row0_8_apply W h x y, row0_9_apply W h x y, row0_10_apply W h x y, row0_11_apply W h x y]

theorem row1_0_apply (W : Contents) (h : Fin 4) (x y : Fin 64) :
    StableHlo.upto opsRows W 73 (Proc.devRef .tc main_v207) (ix4 h x (0 : Fin 1) y)
      = W (Proc.devRef .tc main_v145) (ix4 h (⟨2, by omega⟩ : Fin 15) x y) := by
  unfold opsRows
  simp only [StableHlo.readUpto, StableHlo.unary_result', StableHlo.reshape_result']
  exact row_apply _ 2 _ h x y _

theorem row1_1_apply (W : Contents) (h : Fin 4) (x y : Fin 64) :
    StableHlo.upto opsRows W 73 (Proc.devRef .tc main_v208) (ix4 h x (0 : Fin 1) y)
      = W (Proc.devRef .tc main_v145) (ix4 h (⟨3, by omega⟩ : Fin 15) x y) := by
  unfold opsRows
  simp only [StableHlo.readUpto, StableHlo.unary_result', StableHlo.reshape_result']
  exact row_apply _ 3 _ h x y _

theorem row1_2_apply (W : Contents) (h : Fin 4) (x y : Fin 64) :
    StableHlo.upto opsRows W 73 (Proc.devRef .tc main_v209) (ix4 h x (0 : Fin 1) y)
      = W (Proc.devRef .tc main_v145) (ix4 h (⟨4, by omega⟩ : Fin 15) x y) := by
  unfold opsRows
  simp only [StableHlo.readUpto, StableHlo.unary_result', StableHlo.reshape_result']
  exact row_apply _ 4 _ h x y _

theorem row1_3_apply (W : Contents) (h : Fin 4) (x y : Fin 64) :
    StableHlo.upto opsRows W 73 (Proc.devRef .tc main_v210) (ix4 h x (0 : Fin 1) y)
      = W (Proc.devRef .tc main_v145) (ix4 h (⟨5, by omega⟩ : Fin 15) x y) := by
  unfold opsRows
  simp only [StableHlo.readUpto, StableHlo.unary_result', StableHlo.reshape_result']
  exact row_apply _ 5 _ h x y _

theorem row1_4_apply (W : Contents) (h : Fin 4) (x y : Fin 64) :
    StableHlo.upto opsRows W 73 (Proc.devRef .tc main_v211) (ix4 h x (0 : Fin 1) y)
      = W (Proc.devRef .tc main_v145) (ix4 h (⟨6, by omega⟩ : Fin 15) x y) := by
  unfold opsRows
  simp only [StableHlo.readUpto, StableHlo.unary_result', StableHlo.reshape_result']
  exact row_apply _ 6 _ h x y _

theorem row1_5_apply (W : Contents) (h : Fin 4) (x y : Fin 64) :
    StableHlo.upto opsRows W 73 (Proc.devRef .tc main_v212) (ix4 h x (0 : Fin 1) y)
      = W (Proc.devRef .tc main_v145) (ix4 h (⟨7, by omega⟩ : Fin 15) x y) := by
  unfold opsRows
  simp only [StableHlo.readUpto, StableHlo.unary_result', StableHlo.reshape_result']
  exact row_apply _ 7 _ h x y _

theorem row1_6_apply (W : Contents) (h : Fin 4) (x y : Fin 64) :
    StableHlo.upto opsRows W 73 (Proc.devRef .tc main_v213) (ix4 h x (0 : Fin 1) y)
      = W (Proc.devRef .tc main_v145) (ix4 h (⟨8, by omega⟩ : Fin 15) x y) := by
  unfold opsRows
  simp only [StableHlo.readUpto, StableHlo.unary_result', StableHlo.reshape_result']
  exact row_apply _ 8 _ h x y _

theorem row1_7_apply (W : Contents) (h : Fin 4) (x y : Fin 64) :
    StableHlo.upto opsRows W 73 (Proc.devRef .tc main_v214) (ix4 h x (0 : Fin 1) y)
      = W (Proc.devRef .tc main_v145) (ix4 h (⟨9, by omega⟩ : Fin 15) x y) := by
  unfold opsRows
  simp only [StableHlo.readUpto, StableHlo.unary_result', StableHlo.reshape_result']
  exact row_apply _ 9 _ h x y _

theorem row1_8_apply (W : Contents) (h : Fin 4) (x y : Fin 64) :
    StableHlo.upto opsRows W 73 (Proc.devRef .tc main_v215) (ix4 h x (0 : Fin 1) y)
      = W (Proc.devRef .tc main_v145) (ix4 h (⟨10, by omega⟩ : Fin 15) x y) := by
  unfold opsRows
  simp only [StableHlo.readUpto, StableHlo.unary_result', StableHlo.reshape_result']
  exact row_apply _ 10 _ h x y _

theorem row1_9_apply (W : Contents) (h : Fin 4) (x y : Fin 64) :
    StableHlo.upto opsRows W 73 (Proc.devRef .tc main_v216) (ix4 h x (0 : Fin 1) y)
      = W (Proc.devRef .tc main_v145) (ix4 h (⟨11, by omega⟩ : Fin 15) x y) := by
  unfold opsRows
  simp only [StableHlo.readUpto, StableHlo.unary_result', StableHlo.reshape_result']
  exact row_apply _ 11 _ h x y _

theorem row1_10_apply (W : Contents) (h : Fin 4) (x y : Fin 64) :
    StableHlo.upto opsRows W 73 (Proc.devRef .tc main_v217) (ix4 h x (0 : Fin 1) y)
      = W (Proc.devRef .tc main_v145) (ix4 h (⟨12, by omega⟩ : Fin 15) x y) := by
  unfold opsRows
  simp only [StableHlo.readUpto, StableHlo.unary_result', StableHlo.reshape_result']
  exact row_apply _ 12 _ h x y _

theorem row1_11_apply (W : Contents) (h : Fin 4) (x y : Fin 64) :
    StableHlo.upto opsRows W 73 (Proc.devRef .tc main_v218) (ix4 h x (0 : Fin 1) y)
      = W (Proc.devRef .tc main_v145) (ix4 h (⟨13, by omega⟩ : Fin 15) x y) := by
  unfold opsRows
  simp only [StableHlo.readUpto, StableHlo.unary_result', StableHlo.reshape_result']
  exact row_apply _ 13 _ h x y _

set_option maxHeartbeats 4000000 in
theorem rows1_apply (W : Contents) (h : Fin 4) (x : Fin 64) (k : Fin 12) (y : Fin 64) :
    StableHlo.upto opsRows W 152 (Proc.devRef .tc main_v295) (ix5 h (0 : Fin 1) x k y)
      = W (Proc.devRef .tc main_v145) (ix4 h (⟨k.val + 3 - 1, by omega⟩ : Fin 15) x y) := by
  unfold opsRows
  simp only [StableHlo.readUpto, StableHlo.unary_result', main_v219_result]
  rw [wide_apply, cat12_apply]
  fin_cases k
  exacts [row1_0_apply W h x y, row1_1_apply W h x y, row1_2_apply W h x y, row1_3_apply W h x y, row1_4_apply W h x y, row1_5_apply W h x y, row1_6_apply W h x y, row1_7_apply W h x y, row1_8_apply W h x y, row1_9_apply W h x y, row1_10_apply W h x y, row1_11_apply W h x y]

theorem row2_0_apply (W : Contents) (h : Fin 4) (x y : Fin 64) :
    StableHlo.upto opsRows W 110 (Proc.devRef .tc main_v244) (ix4 h x (0 : Fin 1) y)
      = W (Proc.devRef .tc main_v145) (ix4 h (⟨1, by omega⟩ : Fin 15) x y) := by
  unfold opsRows
  simp only [StableHlo.readUpto, StableHlo.unary_result', StableHlo.reshape_result']
  exact row_apply _ 1 _ h x y _

theorem row2_1_apply (W : Contents) (h : Fin 4) (x y : Fin 64) :
    StableHlo.upto opsRows W 110 (Proc.devRef .tc main_v245) (ix4 h x (0 : Fin 1) y)
      = W (Proc.devRef .tc main_v145) (ix4 h (⟨2, by omega⟩ : Fin 15) x y) := by
  unfold opsRows
  simp only [StableHlo.readUpto, StableHlo.unary_result', StableHlo.reshape_result']
  exact row_apply _ 2 _ h x y _

theorem row2_2_apply (W : Contents) (h : Fin 4) (x y : Fin 64) :
    StableHlo.upto opsRows W 110 (Proc.devRef .tc main_v246) (ix4 h x (0 : Fin 1) y)
      = W (Proc.devRef .tc main_v145) (ix4 h (⟨3, by omega⟩ : Fin 15) x y) := by
  unfold opsRows
  simp only [StableHlo.readUpto, StableHlo.unary_result', StableHlo.reshape_result']
  exact row_apply _ 3 _ h x y _

theorem row2_3_apply (W : Contents) (h : Fin 4) (x y : Fin 64) :
    StableHlo.upto opsRows W 110 (Proc.devRef .tc main_v247) (ix4 h x (0 : Fin 1) y)
      = W (Proc.devRef .tc main_v145) (ix4 h (⟨4, by omega⟩ : Fin 15) x y) := by
  unfold opsRows
  simp only [StableHlo.readUpto, StableHlo.unary_result', StableHlo.reshape_result']
  exact row_apply _ 4 _ h x y _

theorem row2_4_apply (W : Contents) (h : Fin 4) (x y : Fin 64) :
    StableHlo.upto opsRows W 110 (Proc.devRef .tc main_v248) (ix4 h x (0 : Fin 1) y)
      = W (Proc.devRef .tc main_v145) (ix4 h (⟨5, by omega⟩ : Fin 15) x y) := by
  unfold opsRows
  simp only [StableHlo.readUpto, StableHlo.unary_result', StableHlo.reshape_result']
  exact row_apply _ 5 _ h x y _

theorem row2_5_apply (W : Contents) (h : Fin 4) (x y : Fin 64) :
    StableHlo.upto opsRows W 110 (Proc.devRef .tc main_v249) (ix4 h x (0 : Fin 1) y)
      = W (Proc.devRef .tc main_v145) (ix4 h (⟨6, by omega⟩ : Fin 15) x y) := by
  unfold opsRows
  simp only [StableHlo.readUpto, StableHlo.unary_result', StableHlo.reshape_result']
  exact row_apply _ 6 _ h x y _

theorem row2_6_apply (W : Contents) (h : Fin 4) (x y : Fin 64) :
    StableHlo.upto opsRows W 110 (Proc.devRef .tc main_v250) (ix4 h x (0 : Fin 1) y)
      = W (Proc.devRef .tc main_v145) (ix4 h (⟨7, by omega⟩ : Fin 15) x y) := by
  unfold opsRows
  simp only [StableHlo.readUpto, StableHlo.unary_result', StableHlo.reshape_result']
  exact row_apply _ 7 _ h x y _

theorem row2_7_apply (W : Contents) (h : Fin 4) (x y : Fin 64) :
    StableHlo.upto opsRows W 110 (Proc.devRef .tc main_v251) (ix4 h x (0 : Fin 1) y)
      = W (Proc.devRef .tc main_v145) (ix4 h (⟨8, by omega⟩ : Fin 15) x y) := by
  unfold opsRows
  simp only [StableHlo.readUpto, StableHlo.unary_result', StableHlo.reshape_result']
  exact row_apply _ 8 _ h x y _

theorem row2_8_apply (W : Contents) (h : Fin 4) (x y : Fin 64) :
    StableHlo.upto opsRows W 110 (Proc.devRef .tc main_v252) (ix4 h x (0 : Fin 1) y)
      = W (Proc.devRef .tc main_v145) (ix4 h (⟨9, by omega⟩ : Fin 15) x y) := by
  unfold opsRows
  simp only [StableHlo.readUpto, StableHlo.unary_result', StableHlo.reshape_result']
  exact row_apply _ 9 _ h x y _

theorem row2_9_apply (W : Contents) (h : Fin 4) (x y : Fin 64) :
    StableHlo.upto opsRows W 110 (Proc.devRef .tc main_v253) (ix4 h x (0 : Fin 1) y)
      = W (Proc.devRef .tc main_v145) (ix4 h (⟨10, by omega⟩ : Fin 15) x y) := by
  unfold opsRows
  simp only [StableHlo.readUpto, StableHlo.unary_result', StableHlo.reshape_result']
  exact row_apply _ 10 _ h x y _

theorem row2_10_apply (W : Contents) (h : Fin 4) (x y : Fin 64) :
    StableHlo.upto opsRows W 110 (Proc.devRef .tc main_v254) (ix4 h x (0 : Fin 1) y)
      = W (Proc.devRef .tc main_v145) (ix4 h (⟨11, by omega⟩ : Fin 15) x y) := by
  unfold opsRows
  simp only [StableHlo.readUpto, StableHlo.unary_result', StableHlo.reshape_result']
  exact row_apply _ 11 _ h x y _

theorem row2_11_apply (W : Contents) (h : Fin 4) (x y : Fin 64) :
    StableHlo.upto opsRows W 110 (Proc.devRef .tc main_v255) (ix4 h x (0 : Fin 1) y)
      = W (Proc.devRef .tc main_v145) (ix4 h (⟨12, by omega⟩ : Fin 15) x y) := by
  unfold opsRows
  simp only [StableHlo.readUpto, StableHlo.unary_result', StableHlo.reshape_result']
  exact row_apply _ 12 _ h x y _

set_option maxHeartbeats 4000000 in
theorem rows2_apply (W : Contents) (h : Fin 4) (x : Fin 64) (k : Fin 12) (y : Fin 64) :
    StableHlo.upto opsRows W 152 (Proc.devRef .tc main_v296) (ix5 h (0 : Fin 1) x k y)
      = W (Proc.devRef .tc main_v145) (ix4 h (⟨k.val + 3 - 2, by omega⟩ : Fin 15) x y) := by
  unfold opsRows
  simp only [StableHlo.readUpto, StableHlo.unary_result', main_v256_result]
  rw [wide_apply, cat12_apply]
  fin_cases k
  exacts [row2_0_apply W h x y, row2_1_apply W h x y, row2_2_apply W h x y, row2_3_apply W h x y, row2_4_apply W h x y, row2_5_apply W h x y, row2_6_apply W h x y, row2_7_apply W h x y, row2_8_apply W h x y, row2_9_apply W h x y, row2_10_apply W h x y, row2_11_apply W h x y]

theorem row3_0_apply (W : Contents) (h : Fin 4) (x y : Fin 64) :
    StableHlo.upto opsRows W 147 (Proc.devRef .tc main_v281) (ix4 h x (0 : Fin 1) y)
      = W (Proc.devRef .tc main_v145) (ix4 h (⟨0, by omega⟩ : Fin 15) x y) := by
  unfold opsRows
  simp only [StableHlo.readUpto, StableHlo.unary_result', StableHlo.reshape_result']
  exact row_apply _ 0 _ h x y _

theorem row3_1_apply (W : Contents) (h : Fin 4) (x y : Fin 64) :
    StableHlo.upto opsRows W 147 (Proc.devRef .tc main_v282) (ix4 h x (0 : Fin 1) y)
      = W (Proc.devRef .tc main_v145) (ix4 h (⟨1, by omega⟩ : Fin 15) x y) := by
  unfold opsRows
  simp only [StableHlo.readUpto, StableHlo.unary_result', StableHlo.reshape_result']
  exact row_apply _ 1 _ h x y _

theorem row3_2_apply (W : Contents) (h : Fin 4) (x y : Fin 64) :
    StableHlo.upto opsRows W 147 (Proc.devRef .tc main_v283) (ix4 h x (0 : Fin 1) y)
      = W (Proc.devRef .tc main_v145) (ix4 h (⟨2, by omega⟩ : Fin 15) x y) := by
  unfold opsRows
  simp only [StableHlo.readUpto, StableHlo.unary_result', StableHlo.reshape_result']
  exact row_apply _ 2 _ h x y _

theorem row3_3_apply (W : Contents) (h : Fin 4) (x y : Fin 64) :
    StableHlo.upto opsRows W 147 (Proc.devRef .tc main_v284) (ix4 h x (0 : Fin 1) y)
      = W (Proc.devRef .tc main_v145) (ix4 h (⟨3, by omega⟩ : Fin 15) x y) := by
  unfold opsRows
  simp only [StableHlo.readUpto, StableHlo.unary_result', StableHlo.reshape_result']
  exact row_apply _ 3 _ h x y _

theorem row3_4_apply (W : Contents) (h : Fin 4) (x y : Fin 64) :
    StableHlo.upto opsRows W 147 (Proc.devRef .tc main_v285) (ix4 h x (0 : Fin 1) y)
      = W (Proc.devRef .tc main_v145) (ix4 h (⟨4, by omega⟩ : Fin 15) x y) := by
  unfold opsRows
  simp only [StableHlo.readUpto, StableHlo.unary_result', StableHlo.reshape_result']
  exact row_apply _ 4 _ h x y _

theorem row3_5_apply (W : Contents) (h : Fin 4) (x y : Fin 64) :
    StableHlo.upto opsRows W 147 (Proc.devRef .tc main_v286) (ix4 h x (0 : Fin 1) y)
      = W (Proc.devRef .tc main_v145) (ix4 h (⟨5, by omega⟩ : Fin 15) x y) := by
  unfold opsRows
  simp only [StableHlo.readUpto, StableHlo.unary_result', StableHlo.reshape_result']
  exact row_apply _ 5 _ h x y _

theorem row3_6_apply (W : Contents) (h : Fin 4) (x y : Fin 64) :
    StableHlo.upto opsRows W 147 (Proc.devRef .tc main_v287) (ix4 h x (0 : Fin 1) y)
      = W (Proc.devRef .tc main_v145) (ix4 h (⟨6, by omega⟩ : Fin 15) x y) := by
  unfold opsRows
  simp only [StableHlo.readUpto, StableHlo.unary_result', StableHlo.reshape_result']
  exact row_apply _ 6 _ h x y _

theorem row3_7_apply (W : Contents) (h : Fin 4) (x y : Fin 64) :
    StableHlo.upto opsRows W 147 (Proc.devRef .tc main_v288) (ix4 h x (0 : Fin 1) y)
      = W (Proc.devRef .tc main_v145) (ix4 h (⟨7, by omega⟩ : Fin 15) x y) := by
  unfold opsRows
  simp only [StableHlo.readUpto, StableHlo.unary_result', StableHlo.reshape_result']
  exact row_apply _ 7 _ h x y _

theorem row3_8_apply (W : Contents) (h : Fin 4) (x y : Fin 64) :
    StableHlo.upto opsRows W 147 (Proc.devRef .tc main_v289) (ix4 h x (0 : Fin 1) y)
      = W (Proc.devRef .tc main_v145) (ix4 h (⟨8, by omega⟩ : Fin 15) x y) := by
  unfold opsRows
  simp only [StableHlo.readUpto, StableHlo.unary_result', StableHlo.reshape_result']
  exact row_apply _ 8 _ h x y _

theorem row3_9_apply (W : Contents) (h : Fin 4) (x y : Fin 64) :
    StableHlo.upto opsRows W 147 (Proc.devRef .tc main_v290) (ix4 h x (0 : Fin 1) y)
      = W (Proc.devRef .tc main_v145) (ix4 h (⟨9, by omega⟩ : Fin 15) x y) := by
  unfold opsRows
  simp only [StableHlo.readUpto, StableHlo.unary_result', StableHlo.reshape_result']
  exact row_apply _ 9 _ h x y _

theorem row3_10_apply (W : Contents) (h : Fin 4) (x y : Fin 64) :
    StableHlo.upto opsRows W 147 (Proc.devRef .tc main_v291) (ix4 h x (0 : Fin 1) y)
      = W (Proc.devRef .tc main_v145) (ix4 h (⟨10, by omega⟩ : Fin 15) x y) := by
  unfold opsRows
  simp only [StableHlo.readUpto, StableHlo.unary_result', StableHlo.reshape_result']
  exact row_apply _ 10 _ h x y _

theorem row3_11_apply (W : Contents) (h : Fin 4) (x y : Fin 64) :
    StableHlo.upto opsRows W 147 (Proc.devRef .tc main_v292) (ix4 h x (0 : Fin 1) y)
      = W (Proc.devRef .tc main_v145) (ix4 h (⟨11, by omega⟩ : Fin 15) x y) := by
  unfold opsRows
  simp only [StableHlo.readUpto, StableHlo.unary_result', StableHlo.reshape_result']
  exact row_apply _ 11 _ h x y _

set_option maxHeartbeats 4000000 in
theorem rows3_apply (W : Contents) (h : Fin 4) (x : Fin 64) (k : Fin 12) (y : Fin 64) :
    StableHlo.upto opsRows W 152 (Proc.devRef .tc main_v297) (ix5 h (0 : Fin 1) x k y)
      = W (Proc.devRef .tc main_v145) (ix4 h (⟨k.val + 3 - 3, by omega⟩ : Fin 15) x y) := by
  unfold opsRows
  simp only [StableHlo.readUpto, StableHlo.unary_result', main_v293_result]
  rw [wide_apply, cat12_apply]
  fin_cases k
  exacts [row3_0_apply W h x y, row3_1_apply W h x y, row3_2_apply W h x y, row3_3_apply W h x y, row3_4_apply W h x y, row3_5_apply W h x y, row3_6_apply W h x y, row3_7_apply W h x y, row3_8_apply W h x y, row3_9_apply W h x y, row3_10_apply W h x y, row3_11_apply W h x y]

/-- The table of a block: at row g and column x, and at row k and column y of its window. -/
theorem table_apply (W : Contents) (h g : Fin 4) (x : Fin 64) (k : Fin 12) (y : Fin 64) :
    StableHlo.after opsRows W (Proc.devRef .tc main_v299)
        (ix3 h (⟨64 * g.val + x.val, by omega⟩ : Fin 256) (⟨64 * k.val + y.val, by omega⟩ : Fin 768))
      = W (Proc.devRef .tc main_v145) (ix4 h (⟨k.val + 3 - g.val, by omega⟩ : Fin 15) x y) := by
  unfold opsRows
  simp only [StableHlo.readAfter, StableHlo.readUpto, StableHlo.reshape_result', main_v298_result]
  refine (cat4rows_apply _ _ _ _ _ h g x k y).trans ?_
  fin_cases g
  exacts [rows0_apply W h x k y, rows1_apply W h x k y, rows2_apply W h x k y, rows3_apply W h x k y]

theorem mask_apply (W : Contents) (i : Fin 256) (j : Fin 768) :
    StableHlo.after opsRows W (Proc.devRef .tc main_v300) (ix3 (0 : Fin 1) i j) = W (Proc.devRef .tc main_v11) (ix2 i j) := by
  unfold opsRows
  simp only [StableHlo.readAfter, StableHlo.readUpto, StableHlo.unary_result']
  pointwise

theorem ninf_apply (W : Contents) :
    StableHlo.after opsRows W (Proc.devRef .tc main_cst) = constant (F := Ideal) S_ .f32 0xFF800000#32 := by
  unfold opsRows
  simp only [StableHlo.readAfter, StableHlo.readUpto, StableHlo.nullary_result']

end Cert.Na

end
-- ==== Proof.Na.Table.lean ====
/- The table that the kernel reads, at an element: the bias of the difference of the two positions where the key's column
   is in reach of the query's, and minus infinity elsewhere. -/
module

public import proofs.«01_k».proof.Proof.Na.Rows
public import proofs.«01_k».proof.Proof.Na.RefA

@[expose] public section

set_option maxRecDepth 16384

noncomputable section

namespace Cert.Na

open Idealize.ShloMosaic Idealize.SL.Sem Cert.KernelIdeal Cert.KernelIdeal.Gen

/-- The operations that compute the columns of queries and keys. -/
def opsCols : List (HloOp τ sig (Elt Ideal)) := hostOps0 ++ (hostOps0_1 ++ (hostOps0_2 ++ hostOps0_3))
/-- The operations that compare the columns, and that pad the bias table. -/
def opsCmp : List (HloOp τ sig (Elt Ideal)) := hostOps0_4 ++ (hostOps0_5 ++ (hostOps0_6 ++ hostOps0_7))

theorem qcol_word (W : Contents) (i : Fin 256) (j : Fin 768) :
    StableHlo.after opsCols W (Proc.devRef .tc main_v1) (ix2 i j) = BitVec.ofNat 32 (i.val % 64) := by
  unfold opsCols
  after_reads_simp
  simp -implicitDefEqProofs only [StableHlo.TRef.toBuf, StableHlo.TRef.ofBuf, cast_cast, cast_eq, id]
  pointwise
  revert i
  decide +kernel

theorem kcol_word (W : Contents) (i : Fin 256) (j : Fin 768) :
    StableHlo.after opsCols W (Proc.devRef .tc main_v3) (ix2 i j) = BitVec.ofNat 32 (j.val % 64) := by
  unfold opsCols
  after_reads_simp
  simp -implicitDefEqProofs only [StableHlo.TRef.toBuf, StableHlo.TRef.ofBuf, cast_cast, cast_eq, id]
  pointwise
  revert j
  decide +kernel

/-- Whether key column y is in reach of query column x, as a word. -/
def reachWord (x y : ℕ) : BitVec 1 := if colStart x ≤ y ∧ y < colStart x + 16 then 1#1 else 0#1

theorem cmp_word (W : Contents) (i : Fin 256) (j : Fin 768) (x y : Fin 64)
    (hx : W (Proc.devRef .tc main_v1) (ix2 i j) = BitVec.ofNat 32 x.val)
    (hy : W (Proc.devRef .tc main_v3) (ix2 i j) = BitVec.ofNat 32 y.val) :
    StableHlo.after opsCmp W (Proc.devRef .tc main_v11) (ix2 i j) = reachWord x.val y.val := by
  unfold opsCmp
  after_reads_simp
  simp -implicitDefEqProofs only [StableHlo.TRef.toBuf, StableHlo.TRef.ofBuf, cast_cast, cast_eq, id]
  pointwise
  rw [hx, hy]
  clear hx hy
  change (_ : BitVec 1) = _
  revert x y
  decide +kernel

theorem pad_apply (W : Contents) (h : Fin 4) (a : Fin 15) (i : Fin 31) :
    StableHlo.after opsCmp W (Proc.devRef .tc main_v12) (ix3 h a (⟨48 + i.val, by omega⟩ : Fin 127))
      = W (Proc.devRef .tc main_arg1) (ix3 h a i) := by
  unfold opsCmp
  after_reads_simp
  simp -implicitDefEqProofs only [StableHlo.TRef.toBuf, StableHlo.TRef.ofBuf, cast_cast, cast_eq, id]
  pointwise

theorem sel_apply (U : Contents) (h : Fin 4) (i : Fin 256) (j : Fin 768) :
    StableHlo.after (hostOps0_9 ++ hostOps0_10) U (Proc.devRef .tc main_v301) (ix3 h i j)
      = Scalar.select (U (Proc.devRef .tc main_v300) (ix3 (0 : Fin 1) i j)) (U (Proc.devRef .tc main_v299) (ix3 h i j))
          (U (Proc.devRef .tc main_cst) ix0) := by
  after_reads_simp
  simp -implicitDefEqProofs only [StableHlo.TRef.toBuf, StableHlo.TRef.ofBuf, cast_cast, cast_eq, id]
  pointwise

theorem gain2_apply (U : Contents) (d : Fin 128) :
    StableHlo.after (hostOps0_9 ++ hostOps0_10) U (Proc.devRef .tc main_v302) (ix2 (0 : Fin 1) d)
      = U (Proc.devRef .tc main_arg2) (ix1 d) := by
  after_reads_simp
  pointwise

theorem gain3_apply (U : Contents) (d : Fin 128) :
    StableHlo.after (hostOps0_9 ++ hostOps0_10) U (Proc.devRef .tc main_v303) (ix2 (0 : Fin 1) d)
      = U (Proc.devRef .tc main_arg3) (ix1 d) := by
  after_reads_simp
  pointwise

theorem keep_mask (W : Contents) : StableHlo.after opsShift W (Proc.devRef .tc main_v11) = W (Proc.devRef .tc main_v11) := by
  unfold opsShift
  after_reads_simp
theorem keep_arg1 (W : Contents) : StableHlo.after opsCols W (Proc.devRef .tc main_arg1) = W (Proc.devRef .tc main_arg1) := by
  unfold opsCols
  after_reads_simp
theorem keep_arg2 (W : Contents) : StableHlo.after opsRows (StableHlo.after opsShift (StableHlo.after opsCmp (StableHlo.after opsCols W)))
    (Proc.devRef .tc main_arg2) = W (Proc.devRef .tc main_arg2) := by
  unfold opsRows opsShift opsCmp opsCols
  after_reads_simp
theorem keep_arg3 (W : Contents) : StableHlo.after opsRows (StableHlo.after opsShift (StableHlo.after opsCmp (StableHlo.after opsCols W)))
    (Proc.devRef .tc main_arg3) = W (Proc.devRef .tc main_arg3) := by
  unfold opsRows opsShift opsCmp opsCols
  after_reads_simp

theorem host_split (W : Contents) :
    StableHlo.after (List.flatten [hostOps0, hostOps0_1, hostOps0_2, hostOps0_3, hostOps0_4, hostOps0_5, hostOps0_6, hostOps0_7, hostOps0_8, hostOps0_9, hostOps0_10]) W
      = StableHlo.after (hostOps0_9 ++ hostOps0_10) (StableHlo.after opsRows (StableHlo.after opsShift
          (StableHlo.after opsCmp (StableHlo.after opsCols W)))) := by
  have e : List.flatten [hostOps0, hostOps0_1, hostOps0_2, hostOps0_3, hostOps0_4, hostOps0_5, hostOps0_6, hostOps0_7, hostOps0_8, hostOps0_9, hostOps0_10]
      = opsCols ++ (opsCmp ++ ((opsShift ++ opsRows) ++ (hostOps0_9 ++ hostOps0_10))) := by
    rw [opsShift, opsRows, List.take_append_drop]
    rfl
  rw [e]
  simp only [StableHlo.after_append]

/-- The kernel's table at an element. -/
theorem bias_apply (W : Contents) (h g : Fin 4) (x : Fin 64) (k : Fin 12) (y : Fin 64) :
    StableHlo.after (List.flatten [hostOps0, hostOps0_1, hostOps0_2, hostOps0_3, hostOps0_4, hostOps0_5, hostOps0_6, hostOps0_7, hostOps0_8, hostOps0_9, hostOps0_10]) W
        (Proc.devRef .tc main_v301) (ix3 h (⟨64 * g.val + x.val, by omega⟩ : Fin 256) (⟨64 * k.val + y.val, by omega⟩ : Fin 768))
      = if hw : colStart x.val ≤ y.val ∧ y.val < colStart x.val + 16 then
          W (Proc.devRef .tc main_arg1) (ix3 h (⟨k.val + 3 - g.val, by omega⟩ : Fin 15)
            (⟨y.val + 15 - x.val, by unfold colStart at hw; omega⟩ : Fin 31))
        else (⊥ : EReal) := by
  rw [host_split, sel_apply, table_apply, mask_apply, ninf_apply, keep_mask, shift_apply]
  rw [cmp_word _ _ _ x y]
  · by_cases hw : colStart x.val ≤ y.val ∧ y.val < colStart x.val + 16
    · rw [dif_pos hw, reachWord, if_pos hw, ← keep_arg1 W]
      have hb : y.val + 15 - x.val < 31 := by unfold colStart at hw; omega
      have e : (⟨63 - x.val + y.val, by omega⟩ : Fin 127) = ⟨48 + (⟨y.val + 15 - x.val, hb⟩ : Fin 31).val, by simp only []; omega⟩ :=
        Fin.ext (by unfold colStart at hw; simp only []; omega)
      exact (congrArg _ (congrArg (ix3 h _) e)).trans (pad_apply _ h _ ⟨y.val + 15 - x.val, hb⟩)
    · rw [dif_neg hw, reachWord, if_neg hw]
      exact ofBits_ninf
  · rw [qcol_word]
    exact congrArg _ (by simp only []; omega)
  · rw [kcol_word]
    exact congrArg _ (by simp only []; omega)

theorem gainQ_apply (W : Contents) (d : Fin 128) :
    StableHlo.after (List.flatten [hostOps0, hostOps0_1, hostOps0_2, hostOps0_3, hostOps0_4, hostOps0_5, hostOps0_6, hostOps0_7, hostOps0_8, hostOps0_9, hostOps0_10]) W
        (Proc.devRef .tc main_v302) (ix2 (0 : Fin 1) d) = W (Proc.devRef .tc main_arg2) (ix1 d) := by
  rw [host_split, gain2_apply, keep_arg2]

theorem gainK_apply (W : Contents) (d : Fin 128) :
    StableHlo.after (List.flatten [hostOps0, hostOps0_1, hostOps0_2, hostOps0_3, hostOps0_4, hostOps0_5, hostOps0_6, hostOps0_7, hostOps0_8, hostOps0_9, hostOps0_10]) W
        (Proc.devRef .tc main_v303) (ix2 (0 : Fin 1) d) = W (Proc.devRef .tc main_arg3) (ix1 d) := by
  rw [host_split, gain3_apply, keep_arg3]

end Cert.Na

end
-- ==== Proof.Na.Ref.lean ====
/- The reference's result, read at a context token and at a latent token. -/
module

public import proofs.«01_k».proof.Proof.Na.RefA

@[expose] public section

set_option maxRecDepth 16384

noncomputable section

namespace Cert.Na

open Idealize.ShloMosaic Idealize.SL.Sem Cert.ReferenceIdeal Cert.ReferenceIdeal.Gen Cert.ReferenceIdeal.Value

/-- The values of the latent tokens, by head, row and column. -/
def refVal (V : RefContents) : S2x4x256x64x128.Idx → EReal :=
  (shapeCast _ (transpose S2x4x16384x128 [0, 2, 1, 3] (shapeCast _ (extractStridedSlice S2x16384x512 ![0, 0, 1024] (res_main_v3 V) slices_S2x16384x1536_S2x16384x512_0_0_1024) shapeCasts_S2x16384x512_S2x16384x4x128) transposes_S2x16384x4x128_S2x4x16384x128_0_2_1_3) shapeCasts_S2x4x16384x128_S2x4x256x64x128)

/-- The attention of the latent tokens, and of the context tokens, by head. -/
def refLatT (V : RefContents) : S2x4x256x64x128.Idx → EReal :=
  (addf (Host.dotGeneral (φ₁ := .f32) (φ₂ := .f32) dot_S2x4x256x64x8x16_S2x4x256x8x64x16x128_S2x4x256x64x128_54_53_n_6_0123_0124 none (shapeCast _ (extractStridedSlice S2x4x256x64x128 ![0, 0, 0, 0, 0] (res_main_v143 V) slices_S2x4x256x64x384_S2x4x256x64x128_0_0_0_0_0) shapeCasts_S2x4x256x64x128_S2x4x256x64x8x16) (Host.gather gather_S2x4x256x8x64x128_S64x16x1_S2x4x256x8x64x16x128_01236_4_n_n_4_2_2425681128 (Host.gather gather_S2x4x256x64x128_S256x8x1_S2x4x256x8x64x128_0145_2_n_n_2_2_24164128 (refVal V) (broadcastInDim S256x8x1 ![0, 1] bcast_S256x8_S256x8x1_0_1 (res_main_v109 V))) (broadcastInDim S64x16x1 ![0, 1] bcast_S64x16_S64x16x1_0_1 (res_main_v90 V)))) (Host.dotGeneral (φ₁ := .f32) (φ₂ := .f32) dot_S2x4x256x64x256_S2x4x256x128_S2x4x256x64x128_4_2_23_3_01_01 none (extractStridedSlice S2x4x256x64x256 ![0, 0, 0, 0, 128] (res_main_v143 V) slices_S2x4x256x64x384_S2x4x256x64x256_0_0_0_0_128) (res_main_v40 V)))

def refCtxT (V : RefContents) : S2x4x256x128.Idx → EReal :=
  (Host.dotGeneral (φ₁ := .f32) (φ₂ := .f32) dot_S2x4x256x256_S2x4x256x128_S2x4x256x128_3_2_2_3_01_01 none (Host.divf (res_main_v158 V) (broadcastInDim S2x4x256x256 ![0, 1, 2, 3] bcast_S2x4x256x1_S2x4x256x256_0_1_2_3 (broadcastInDim S2x4x256x1 ![0, 1, 2] bcast_S2x4x256_S2x4x256x1_0_1_2 (Host.reduceAdd (res_main_v158 V) (constant S_ .f32 0x00000000#32) reducesTo_S2x4x256x256_S2x4x256_d3 h_S_)))) (res_main_v40 V))

/-- The reference's result. -/
def refOut (V : RefContents) : S33280x512.Idx → EReal :=
  concatenate S33280x512 0 [⟨S512x512, (shapeCast _ (shapeCast _ (transpose S2x256x4x128 [0, 2, 1, 3] (refCtxT V) transposes_S2x4x256x128_S2x256x4x128_0_2_1_3) shapeCasts_S2x256x4x128_S2x256x512) shapeCasts_S2x256x512_S512x512)⟩, ⟨S32768x512, (shapeCast _ (shapeCast _ (transpose S2x16384x4x128 [0, 2, 1, 3] (shapeCast _ (refLatT V) shapeCasts_S2x4x256x64x128_S2x4x16384x128) transposes_S2x4x16384x128_S2x16384x4x128_0_2_1_3) shapeCasts_S2x16384x4x128_S2x16384x512) shapeCasts_S2x16384x512_S32768x512)⟩] concatenates_S512x512_S32768x512_S33280x512_d0

theorem refVal_apply (V : RefContents) (b : Fin 2) (h : Fin 4) (y : Fin 256) (x : Fin 64) (d : Fin 128) :
    refVal V (ix5 b h y x d) = part (argP V) 2 h (latTok b y x) d := by
  unfold refVal
  pointwise
  unfold res_main_v3
  pointwise
  unfold part latTok
  blk_ext []

theorem refCtxT_apply (V : RefContents) (b : Fin 2) (h : Fin 4) (r : Fin 256) (d : Fin 128) :
    refCtxT V (ix4 b h r d) = refCtx (argP V) (argG V) (argK V) b h r d := by
  unfold refCtxT refCtx soft
  clean_types
  pointwise
  simp only [v40_apply]
  rw [Finset.univ_eq_empty (α := Fin 0), Finset.sum_empty, Finset.sum_empty, zero_add, zero_add]
  have e : ∀ c, res_main_v158 V (ix4 b h r c) = _ := v158_apply V b h r
  simp only [e, ctxMax]
  rfl

theorem winDot_apply (w : S2x4x256x64x8x16.Idx → EReal) (g : S2x4x256x8x64x16x128.Idx → EReal) (b : Fin 2) (h : Fin 4)
    (y : Fin 256) (x : Fin 64) (d : Fin 128) :
    Host.dotGeneral (F := Ideal) (φ₁ := .f32) (φ₂ := .f32) dot_S2x4x256x64x8x16_S2x4x256x8x64x16x128_S2x4x256x64x128_54_53_n_6_0123_0124 none w g
        (ix5 b h y x d)
      = ∑ i : Fin 8 × Fin 16, w (ix6 b h y x i.1 i.2) * g (ix7 b h y i.1 x i.2 d) := by
  pointwise
  rw [Fintype.sum_prod_type_right]

theorem ctxDot_apply (w : S2x4x256x64x256.Idx → EReal) (g : S2x4x256x128.Idx → EReal) (b : Fin 2) (h : Fin 4)
    (y : Fin 256) (x : Fin 64) (d : Fin 128) :
    Host.dotGeneral (F := Ideal) (φ₁ := .f32) (φ₂ := .f32) dot_S2x4x256x64x256_S2x4x256x128_S2x4x256x64x128_4_2_23_3_01_01 none w g
        (ix5 b h y x d)
      = ∑ c : Fin 256, w (ix5 b h y x c) * g (ix4 b h c d) := by
  pointwise

/-- The weights of a window, and those of the context, in the row of all weights. -/
theorem winWeight_apply (w : S2x4x256x64x384.Idx → EReal) (b : Fin 2) (h : Fin 4) (y : Fin 256) (x : Fin 64) (r : Fin 8)
    (c : Fin 16) :
    shapeCast _ (extractStridedSlice S2x4x256x64x128 ![0, 0, 0, 0, 0] w slices_S2x4x256x64x384_S2x4x256x64x128_0_0_0_0_0)
        shapeCasts_S2x4x256x64x128_S2x4x256x64x8x16 (ix6 b h y x r c)
      = w (ix5 b h y x ⟨16 * r.val + c.val, by omega⟩) := by
  pointwise
  blk_ext []

theorem ctxWeight_apply (w : S2x4x256x64x384.Idx → EReal) (b : Fin 2) (h : Fin 4) (y : Fin 256) (x : Fin 64) (c : Fin 256) :
    extractStridedSlice S2x4x256x64x256 ![0, 0, 0, 0, 128] w slices_S2x4x256x64x384_S2x4x256x64x256_0_0_0_0_128
        (ix5 b h y x c)
      = w (ix5 b h y x ⟨128 + c.val, by omega⟩) := by
  pointwise

/-- The values of a window. -/
theorem winVal_apply (V : RefContents) (g : S2x4x256x64x128.Idx → EReal) (b : Fin 2) (h : Fin 4) (y : Fin 256) (x : Fin 64)
    (r : Fin 8) (c : Fin 16) (d : Fin 128) :
    Host.gather gather_S2x4x256x8x64x128_S64x16x1_S2x4x256x8x64x16x128_01236_4_n_n_4_2_2425681128
        (Host.gather gather_S2x4x256x64x128_S256x8x1_S2x4x256x8x64x128_0145_2_n_n_2_2_24164128 g
          (broadcastInDim S256x8x1 ![0, 1] bcast_S256x8_S256x8x1_0_1 (res_main_v109 V)))
        (broadcastInDim S64x16x1 ![0, 1] bcast_S64x16_S64x16x1_0_1 (res_main_v90 V)) (ix7 b h y r x c d)
      = g (ix5 b h (winRow y r) (winCol x c) d) := by
  rw [gatherCols_apply _ _ b h y r x c d (winCol x c) (winCol_word V x c),
    gatherRows_apply _ _ b h y r _ d (winRow y r) (winRow_word V y r)]

theorem latWeight (V : RefContents) (b : Fin 2) (h : Fin 4) (y : Fin 256) (x : Fin 64) (r : Fin 8) (c : Fin 16) :
    r143 V (ix5 b h y x ⟨16 * r.val + c.val, by omega⟩)
      = Ideal.div (Ideal.exp (latScore (argP V) (argB V) (argG V) (argK V) b h y x (r, c) - latMax (argP V) (argB V) (argG V) (argK V) b h y x))
          ((∑ i, Ideal.exp (latScore (argP V) (argB V) (argG V) (argK V) b h y x i - latMax (argP V) (argB V) (argG V) (argK V) b h y x))
            + ∑ c, Ideal.exp (ctxScore (argP V) (argG V) (argK V) b h (latTok b y x) c - latMax (argP V) (argB V) (argG V) (argK V) b h y x)) := by
  rw [v143_apply, v139_apply, r134, v134_lat]

theorem latCtxWeight (V : RefContents) (b : Fin 2) (h : Fin 4) (y : Fin 256) (x : Fin 64) (c : Fin 256) :
    r143 V (ix5 b h y x ⟨128 + c.val, by omega⟩)
      = Ideal.div (Ideal.exp (ctxScore (argP V) (argG V) (argK V) b h (latTok b y x) c - latMax (argP V) (argB V) (argG V) (argK V) b h y x))
          ((∑ i, Ideal.exp (latScore (argP V) (argB V) (argG V) (argK V) b h y x i - latMax (argP V) (argB V) (argG V) (argK V) b h y x))
            + ∑ c, Ideal.exp (ctxScore (argP V) (argG V) (argK V) b h (latTok b y x) c - latMax (argP V) (argB V) (argG V) (argK V) b h y x)) := by
  rw [v143_apply, v139_apply, r134, v134_ctx]

/-- The attention with any weights, values and context values. -/
def latMix (V : RefContents) (w : S2x4x256x64x384.Idx → EReal) (g : S2x4x256x64x128.Idx → EReal) (k : S2x4x256x128.Idx → EReal) :
    S2x4x256x64x128.Idx → EReal :=
  (addf (F := Ideal) (φ := .f32) (Host.dotGeneral (φ₁ := .f32) (φ₂ := .f32) dot_S2x4x256x64x8x16_S2x4x256x8x64x16x128_S2x4x256x64x128_54_53_n_6_0123_0124 none (shapeCast _ (extractStridedSlice S2x4x256x64x128 ![0, 0, 0, 0, 0] w slices_S2x4x256x64x384_S2x4x256x64x128_0_0_0_0_0) shapeCasts_S2x4x256x64x128_S2x4x256x64x8x16) (Host.gather gather_S2x4x256x8x64x128_S64x16x1_S2x4x256x8x64x16x128_01236_4_n_n_4_2_2425681128 (Host.gather gather_S2x4x256x64x128_S256x8x1_S2x4x256x8x64x128_0145_2_n_n_2_2_24164128 g (broadcastInDim S256x8x1 ![0, 1] bcast_S256x8_S256x8x1_0_1 (res_main_v109 V))) (broadcastInDim S64x16x1 ![0, 1] bcast_S64x16_S64x16x1_0_1 (res_main_v90 V)))) (Host.dotGeneral (φ₁ := .f32) (φ₂ := .f32) dot_S2x4x256x64x256_S2x4x256x128_S2x4x256x64x128_4_2_23_3_01_01 none (extractStridedSlice S2x4x256x64x256 ![0, 0, 0, 0, 128] w slices_S2x4x256x64x384_S2x4x256x64x256_0_0_0_0_128) k))

theorem latMix_apply (V : RefContents) (w : S2x4x256x64x384.Idx → EReal) (g : S2x4x256x64x128.Idx → EReal) (k : S2x4x256x128.Idx → EReal)
    (b : Fin 2) (h : Fin 4) (y : Fin 256) (x : Fin 64) (d : Fin 128) :
    latMix V w g k (ix5 b h y x d)
      = (∑ i : Fin 8 × Fin 16, w (ix5 b h y x ⟨16 * i.1.val + i.2.val, by omega⟩) * g (ix5 b h (winRow y i.1) (winCol x i.2) d))
        + ∑ c : Fin 256, w (ix5 b h y x ⟨128 + c.val, by omega⟩) * k (ix4 b h c d) := by
  unfold latMix
  rw [addf_apply, winDot_apply, ctxDot_apply]
  simp only [winWeight_apply, ctxWeight_apply]
  exact congrArg₂ (fun u v : EReal => u + v)
    (Finset.sum_congr rfl fun i _ => congrArg _ (winVal_apply V g b h y x i.1 i.2 d)) rfl

theorem refLatT_apply (V : RefContents) (b : Fin 2) (h : Fin 4) (y : Fin 256) (x : Fin 64) (d : Fin 128) :
    refLatT V (ix5 b h y x d) = refLat (argP V) (argB V) (argG V) (argK V) b h y x d := by
  show latMix V (r143 V) (refVal V) (res_main_v40 V) (ix5 b h y x d) = _
  rw [latMix_apply]
  unfold refLat soft
  simp only [latWeight, latCtxWeight, refVal_apply, v40_apply, latMax]

theorem refOut_ctx (V : RefContents) (b : Fin 2) (h : Fin 4) (r : Fin 256) (d : Fin 128) :
    refOut V (ix2 (ctxTok b r) ⟨128 * h.val + d.val, by omega⟩) = refCtx (argP V) (argG V) (argK V) b h r d := by
  rw [← refCtxT_apply]
  unfold refOut ctxTok
  pointwise
  rw [dif_pos (show 256 * b.val + r.val < 512 by omega)]

theorem refOut_lat (V : RefContents) (b : Fin 2) (h : Fin 4) (y : Fin 256) (x : Fin 64) (d : Fin 128) :
    refOut V (ix2 (latTok b y x) ⟨128 * h.val + d.val, by omega⟩)
      = refLat (argP V) (argB V) (argG V) (argK V) b h y x d := by
  rw [← refLatT_apply]
  unfold refOut latTok
  pointwise
  rw [dif_neg (by omega)]
  blk_ext []

end Cert.Na

end
-- ==== Proof.Na.Kernel.lean ====
/- The kernel's result: the reference's output, block by block. -/
module

public import proofs.«01_k».proof.Proof.Na.Blocks
public import proofs.«01_k».proof.Proof.Na.Table
public import proofs.«01_k».proof.Proof.Na.Ref

@[expose] public section

set_option maxRecDepth 16384

noncomputable section

namespace Cert.Na

open Idealize.ShloMosaic Idealize.ShloMosaic.TcCoe Idealize.SL.Sem Cert.KernelIdeal Cert.KernelIdeal.Gen

variable (m : (ℓ : Loc nD τ sig) → Buf (Elt Ideal) ℓ) (c : Dev nD)

/-- The kernel's table and gains, from the arguments. -/
theorem table_at (h g : Fin 4) (x : Fin 64) (k : Fin 12) (y : Fin 64) :
    V m c main_v301 (ix3 h (⟨64 * g.val + x.val, by omega⟩ : Fin 256) (⟨64 * k.val + y.val, by omega⟩ : Fin 768))
      = if hw : colStart x.val ≤ y.val ∧ y.val < colStart x.val + 16 then
          V m c main_arg1 (ix3 h (⟨k.val + 3 - g.val, by omega⟩ : Fin 15)
            (⟨y.val + 15 - x.val, by unfold colStart at hw; omega⟩ : Fin 31))
        else (⊥ : EReal) := by
  rw [V_main_arg1]
  exact bias_apply (fun b => m (c, b)) h g x k y

theorem gainQ_at (e : Fin 128) : V m c main_v302 (ix2 0 e) = V m c main_arg2 (ix1 e) := by
  rw [V_main_arg2]
  exact gainQ_apply (fun b => m (c, b)) e

theorem gainK_at (e : Fin 128) : V m c main_v303 (ix2 0 e) = V m c main_arg3 (ix1 e) := by
  rw [V_main_arg3]
  exact gainK_apply (fun b => m (c, b)) e

/-- What a grid point leaves at a row of a head: the masked softmax over the keys of its windows. -/
theorem point_apply (t : Fin cfg0.N) (r : Fin 256) (h : Fin 4) (d : Fin 128) :
    out0_12 (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (ix2 r (headCol h d))
      = attn (fun j => Scalar.select (validAt (grid0.coords t) (ix2 r j))
          (score (part (V m c main_arg0) 0 h (tok (rowBlk (tb t) (ts t)) r)) (part (V m c main_arg0) 1 h (catTok (tb t) (ts t) j))
            (fun e => V m c main_arg2 (ix1 e)) (fun e => V m c main_arg3 (ix1 e)) + V m c main_v301 (ix3 h r j)) ⊥)
        (ctxScore (V m c main_arg0) (V m c main_arg2) (V m c main_arg3) (tb t) h (tok (rowBlk (tb t) (ts t)) r))
        (fun j => part (V m c main_arg0) 2 h (catTok (tb t) (ts t) j) d)
        (fun a => part (V m c main_arg0) 2 h (ctxTok (tb t) a) d) := by
  rw [out_apply, headVec_apply]
  have hq : (fun e => headCols (iblk m c 0 t) h (ix2 r e)) = part (V m c main_arg0) 0 h (tok (rowBlk (tb t) (ts t)) r) :=
    funext fun e => blk0 m c t h r e
  have hk : ∀ j, cat3 (headCols (iblk m c 1 t) h) (headCols (iblk m c 2 t) h) (headCols (iblk m c 3 t) h) j
      = part (V m c main_arg0) 1 h (catTok (tb t) (ts t) j) := fun j => funext fun e =>
    cat3_part _ 1 h _ _ _ _ _ (blk1 m c t h) (blk2 m c t h) (blk3 m c t h) j e
  have hv : ∀ j, cat3 (headCols (iblk m c 4 t) h) (headCols (iblk m c 5 t) h) (headCols (iblk m c 6 t) h) j d
      = part (V m c main_arg0) 2 h (catTok (tb t) (ts t) j) d := fun j =>
    cat3_part _ 2 h _ _ _ _ _ (blk4 m c t h) (blk5 m c t h) (blk6 m c t h) j d
  have hkc : ∀ a, (fun e => headCols (iblk m c 7 t) h (ix2 a e)) = part (V m c main_arg0) 1 h (ctxTok (tb t) a) :=
    fun a => funext fun e => blk7 m c t h a e
  have hvc : ∀ a, headCols (iblk m c 8 t) h (ix2 a d) = part (V m c main_arg0) 2 h (ctxTok (tb t) a) d :=
    fun a => blk8 m c t h a d
  have hqg : (fun e => (iblk m c 10 t : Vec Ideal S1x128 .f32) (ix2 0 e)) = fun e => V m c main_arg2 (ix1 e) :=
    funext fun e => (blk10 m c t e).trans (gainQ_at m c e)
  have hkg : (fun e => (iblk m c 11 t : Vec Ideal S1x128 .f32) (ix2 0 e)) = fun e => V m c main_arg3 (ix1 e) :=
    funext fun e => (blk11 m c t e).trans (gainK_at m c e)
  have hb : ∀ j, headBias (iblk m c 9 t) h (ix3 0 r j) = V m c main_v301 (ix3 h r j) := fun j => blk9 m c t h r j
  rw [hq, hqg, hkg]
  simp only [hk, hv, hkc, hvc, hb]
  rfl

theorem point_eq (t : Fin cfg0.N) (r : Fin 256) (h : Fin 4) (d : Fin 128) (hr : ∀ i, Fin' (V m c main_arg1 i))
    (hq : ∀ i, Fin' (V m c main_arg2 i)) (hk : ∀ i, Fin' (V m c main_arg3 i)) (W : RefContents)
    (e0 : argP W = V m c main_arg0) (e1 : argB W = V m c main_arg1) (e2 : argG W = V m c main_arg2) (e3 : argK W = V m c main_arg3) :
    out0_12 (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (ix2 r (headCol h d))
      = refOut W (ix2 (tok (rowBlk (tb t) (ts t)) r) ⟨128 * h.val + d.val, by omega⟩) := by
  rw [point_apply]
  by_cases hs : (ts t).val = 0
  · have er : tok (rowBlk (tb t) (ts t)) r = ctxTok (tb t) r := by
      unfold rowBlk
      rw [if_pos hs]
      rfl
    rw [er, refOut_ctx, e0, e2, e3]
    refine ctx_core _ _ _ _ _ _ _ (fun e => hq _) (fun e => hk _) _ _ fun j => ?_
    rw [valid_word (grid0.coords t) r j ⟨r.val / 64, by omega⟩ ⟨j.val / 64, by omega⟩ rfl rfl]
    unfold rowReach
    rw [if_neg (fun hh => by have := hh.1; have e := val_ts t; omega)]
    rfl
  · have hs' : 0 < (ts t).val := by omega
    have er : tok (rowBlk (tb t) (ts t)) r
        = latTok (tb t) (stepRow (ts t) ⟨r.val / 64, by omega⟩ hs') ⟨r.val % 64, by omega⟩ := by
      unfold rowBlk
      rw [if_neg hs]
      apply Fin.ext
      unfold tok latTok stepRow
      dsimp only
      omega
    have err : r = (⟨64 * (⟨r.val / 64, by omega⟩ : Fin 4).val + (⟨r.val % 64, by omega⟩ : Fin 64).val, by dsimp only; omega⟩ : Fin 256) :=
      Fin.ext (by dsimp only; omega)
    rw [er, refOut_lat, e0, e1, e2, e3]
    refine lat_core (V m c main_arg0) (V m c main_arg1) (V m c main_arg2) (V m c main_arg3) (tb t) h (ts t) hs'
      ⟨r.val / 64, by omega⟩ ⟨r.val % 64, by omega⟩ d hr (fun e => hq _) (fun e => hk _)
      (fun j => V m c main_v301 (ix3 h r j)) (fun j => validAt (grid0.coords t) (ix2 r j)) (fun k y => ?_) (fun k y => ?_)
    · refine Eq.trans ?_ (table_at m c h ⟨r.val / 64, by omega⟩ ⟨r.val % 64, by omega⟩ k y)
      exact congrArg (fun z => V m c main_v301 (ix3 h z (⟨64 * k.val + y.val, by omega⟩ : Fin 768))) err
    · refine valid_word (grid0.coords t) r _ ⟨r.val / 64, by omega⟩ k rfl ?_
      dsimp only
      omega

/-- The kernel's array is the reference's output. -/
theorem kernel_value (hr : ∀ i, Fin' (V m c main_arg1 i))
    (hq : ∀ i, Fin' (V m c main_arg2 i)) (hk : ∀ i, Fin' (V m c main_arg3 i)) (W : RefContents)
    (e0 : argP W = V m c main_arg0) (e1 : argB W = V m c main_arg1) (e2 : argG W = V m c main_arg2) (e3 : argK W = V m c main_arg3) :
    (dats m 0 c).arrAt 12 cfg0.N = refOut W := by
  refine (dats m 0 c).arrAt_eq_of_covers 12 _ (by decide +kernel) fun t hf y => ?_
  blk_simp
  rw [after0_12]
  have y0 : (y 0).val < 256 := (y 0).isLt
  have y1 : (y 1).val < 512 := (y 1).isLt
  have ey : y = ix2 (⟨(y 0).val, y0⟩ : Fin 256) (headCol ⟨(y 1).val / 128, by omega⟩ ⟨(y 1).val % 128, by omega⟩) := by
    funext a
    fin_cases a
    · rfl
    · exact Fin.ext (show (y 1).val = 128 * ((y 1).val / 128) + (y 1).val % 128 by omega)
  have ee : (win0_12.blk t).view.emb y = ix2 (tok (rowBlk (tb t) (ts t)) ⟨(y 0).val, y0⟩)
      (⟨128 * ((y 1).val / 128) + (y 1).val % 128, by omega⟩ : Fin 512) := by
    unfold tok
    blk_ext [idx12]
  refine (congrArg _ ey).trans ((point_eq m c t _ _ _ hr hq hk W e0 e1 e2 e3).trans (congrArg (refOut W) ?_))
  exact ee.symm

end Cert.Na

end
-- ==== Proof.Na.Claims.lean ====
/- The attention's claims: the frames, the named constant, and the value. -/
module

public import proofs.«01_k».proof.Defs
public import proofs.«01_k».proof.Proof.Gen.Kernel
public import proofs.«01_k».proof.Proof.Gen.Kernel.Frame
public import proofs.«01_k».proof.Proof.Na.Kernel
public import Idealize.ShloMosaic.Adequacy
public import Idealize.ShloMosaic.Init

@[expose] public section

set_option maxRecDepth 16384

noncomputable section

namespace Cert.Na

open Idealize.ShloMosaic Idealize.SL.Sem

/-- The precondition's shapes broadcast as it says. -/
instance preFacts : Cert.Pre_finite_tables.Facts where
  bcast_S_S4x15x31 := by decide +kernel
  bcast_S_S128 := by decide +kernel

theorem fin_of_bit (x : EReal)
    (h : BitVec.ofBool (decide (FloatOps.absf (F := Ideal) (φ := .f32) x < Ideal.ofBits .f32 0x7F800000#32)) = 1#1) : Fin' x := by
  have h' : FloatOps.absf (F := Ideal) (φ := .f32) x < Ideal.ofBits .f32 0x7F800000#32 := by
    by_contra hn
    rw [decide_eq_false hn] at h
    exact absurd h (by decide)
  have e : Ideal.ofBits .f32 0x7F800000#32 = (⊤ : EReal) := by simp [Ideal.ofBits, Ideal.ieee]
  rw [e] at h'
  refine fin'_of_abs_lt (fun hx => ?_) (fun hx => ?_) <;> subst hx
  · exact absurd h' (by simp [FloatOps.absf])
  · exact absurd h' (by simp [FloatOps.absf])

theorem pre_fin (P : FVec Ideal Cert.Pre_finite_tables.S33280x14336 .f32) (r : FVec Ideal Cert.Pre_finite_tables.S4x15x31 .f32)
    (g k : FVec Ideal Cert.Pre_finite_tables.S128 .f32)
    (h : (Cert.Pre_finite_tables.fn (F := Ideal) P r g k).1 = (fun _ => 1#1)
      ∧ (Cert.Pre_finite_tables.fn (F := Ideal) P r g k).2.1 = (fun _ => 1#1)
      ∧ (Cert.Pre_finite_tables.fn (F := Ideal) P r g k).2.2 = (fun _ => 1#1)) :
    (∀ i, Fin' (r i)) ∧ (∀ i, Fin' (g i)) ∧ (∀ i, Fin' (k i)) := by
  obtain ⟨h1, h2, h3⟩ := h
  refine ⟨fun i => ?_, fun i => ?_, fun i => ?_⟩
  · have e := congrFun h1 i
    unfold Cert.Pre_finite_tables.fn at e
    pointwise at e
    exact fin_of_bit _ e
  · have e := congrFun h2 i
    unfold Cert.Pre_finite_tables.fn at e
    pointwise at e
    exact fin_of_bit _ e
  · have e := congrFun h3 i
    unfold Cert.Pre_finite_tables.fn at e
    pointwise at e
    exact fin_of_bit _ e

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_tables := fun m ρ _ => Cert.KernelIdeal.Gen.frame m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_pre : Cert.quiescent_ReferenceIdeal_pre_finite_tables := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mask's constant is named, with the value minus infinity. -/
theorem preserves : Cert.preserves_Kernel_KernelIdeal :=
  IdealRules.named_const.statement Cert.KernelIdeal.κ "mask" .f32 0xF149F2CA#32 ⊥ rfl

set_option maxHeartbeats 4000000 in
/-- The reference's run, its result by name. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v168)
          = refOut (StableHlo.launchContents m c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  Cert.ReferenceIdeal.Value.run (F := Ideal) m ρ

/-- The kernel's result is the reference's. -/
theorem algebraic : Cert.algebraic_KernelIdeal_ReferenceIdeal_pre_finite_tables := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩) (ref_run m' ρ')
  obtain ⟨f1, f2, f3⟩ := pre_fin _ _ _ _ (hpre c)
  refine (kernel_value m c (fun i => ?_) (fun i => ?_) (fun i => ?_) (StableHlo.launchContents m' c) ?_ ?_ ?_ ?_).symm
  · rw [Cert.KernelIdeal.Gen.V_main_arg1]; exact f1 i
  · rw [Cert.KernelIdeal.Gen.V_main_arg2]; exact f2 i
  · rw [Cert.KernelIdeal.Gen.V_main_arg3]; exact f3 i
  · rw [Cert.KernelIdeal.Gen.V_main_arg0]; exact (hagree c).1
  · rw [Cert.KernelIdeal.Gen.V_main_arg1]; exact (hagree c).2.1
  · rw [Cert.KernelIdeal.Gen.V_main_arg2]; exact (hagree c).2.2.1
  · rw [Cert.KernelIdeal.Gen.V_main_arg3]; exact (hagree c).2.2.2

end Cert.Na

end
-- ==== Proof.Proj.Math.lean ====
/- The projection's plain mathematics: a token's row normalised and modulated, against a column of weights. -/
module

public import Idealize.ShloMosaic.PureOps.Ideal
public import Idealize.ShloMosaic.Lib.Pointwise

@[expose] public section

noncomputable section

namespace Cert.Proj

open Idealize.ShloMosaic

/-- A token's row: the context tokens of the two batches come first, then their latent tokens. -/
def tokRow (x : Fin 2 → Fin 16384 → Fin 2048 → EReal) (ctx : Fin 2 → Fin 256 → Fin 2048 → EReal) (t : Fin 33280) :
    Fin 2048 → EReal :=
  if h : t.val < 512 then ctx ⟨t.val / 256, by omega⟩ ⟨t.val % 256, by omega⟩
  else x ⟨(t.val - 512) / 16384, by omega⟩ ⟨(t.val - 512) % 16384, by omega⟩

/-- The conditioning row of a segment: segment 0 is the context's, segments 1 and 2 are the batches'. -/
def condRow (cl : Fin 2 → Fin 2048 → EReal) (cc : Fin 2048 → EReal) (s : Fin 3) : Fin 2048 → EReal :=
  if h : s.val < 1 then cc else cl ⟨s.val - 1, by omega⟩

/-- A token's segment. -/
def seg (t : Fin 33280) : Fin 3 := if h : t.val < 512 then 0 else ⟨1 + (t.val - 512) / 16384, by omega⟩

/-- One entry of a conditioning row's modulation: its gated row against a column, and that column's bias. -/
def ada (w : Fin 2048 → Fin 12288 → EReal) (b : Fin 12288 → EReal) (cond : Fin 2048 → EReal) (q : Fin 12288) : EReal :=
  (∑ k, cond k * Ideal.div 1 (1 + Ideal.exp (-cond k)) * w k q) + b q

/-- A row divided by its root mean square, scaled by the gains and modulated. -/
def normed (x g sc sh : Fin 2048 → EReal) (k : Fin 2048) : EReal :=
  x k * Ideal.rsqrt (Ideal.div (∑ j, x j * x j) (Ideal.ofBits .f32 0x45000000#32) + Ideal.ofBits .f32 0x358637BD#32)
    * g k * (1 + sc k) + sh k

/-- The column of the weights that a column of the result takes: the sixteen gate columns are left out. -/
def srcCol (q : Fin 14336) : Fin 14352 := if h : q.val < 3584 then ⟨q.val, by omega⟩ else ⟨3600 + (q.val - 3584), by omega⟩

/-- The normalised and modulated row of a token, and its projection on a column. -/
def hrow (x : Fin 2 → Fin 16384 → Fin 2048 → EReal) (cl : Fin 2 → Fin 2048 → EReal) (ctx : Fin 2 → Fin 256 → Fin 2048 → EReal)
    (cc g : Fin 2048 → EReal) (w : Fin 2048 → Fin 12288 → EReal) (b : Fin 12288 → EReal) (t : Fin 33280) : Fin 2048 → EReal :=
  normed (tokRow x ctx t) g (fun k => ada w b (condRow cl cc (seg t)) ⟨2048 + k.val, by omega⟩)
    (fun k => ada w b (condRow cl cc (seg t)) ⟨k.val, by omega⟩)

def proj (x : Fin 2 → Fin 16384 → Fin 2048 → EReal) (cl : Fin 2 → Fin 2048 → EReal) (ctx : Fin 2 → Fin 256 → Fin 2048 → EReal)
    (cc g : Fin 2048 → EReal) (w : Fin 2048 → Fin 12288 → EReal) (b : Fin 12288 → EReal) (wi : Fin 2048 → Fin 14352 → EReal)
    (t : Fin 33280) (q : Fin 14336) : EReal :=
  ∑ k, hrow x cl ctx cc g w b t k * wi k (srcCol q)

end Cert.Proj

end
-- ==== Proof.Proj.Host.lean ====
/- What the projection's host operations leave in the kernel's arrays, read at an element of the arguments. -/
module

public import proofs.«01_k».proof.Proof.Gen.Kernel2Ideal.Value
public import proofs.«01_k».proof.Proof.Proj.Math
public import Idealize.ShloMosaic.Lib.Pipeline.ValueKit
public import Idealize.ShloMosaic.Lib.Pointwise
public import Idealize.ShloMosaic.Lib.StableHlo.ReadAt
public import Idealize.ShloMosaic.Lib.StableHlo.RunRead
public import Idealize.ShloMosaic.Lib.Tactic.CleanTypes

@[expose] public section

set_option maxRecDepth 16384

noncomputable section

namespace Cert.Proj

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The arguments by their coordinates. -/
def ax (b : Fin 2) (s : Fin 16384) (k : Fin 2048) : EReal := m ((c : Thread nD τ).loc main_arg0) (ix3 b s k)
def acl (b : Fin 2) (k : Fin 2048) : EReal := m ((c : Thread nD τ).loc main_arg1) (ix2 b k)
def actx (b : Fin 2) (s : Fin 256) (k : Fin 2048) : EReal := m ((c : Thread nD τ).loc main_arg2) (ix3 b s k)
def acc (k : Fin 2048) : EReal := m ((c : Thread nD τ).loc main_arg3) (ix1 k)
def ag (k : Fin 2048) : EReal := m ((c : Thread nD τ).loc main_arg4) (ix1 k)
def aw (k : Fin 2048) (q : Fin 12288) : EReal := m ((c : Thread nD τ).loc main_arg5) (ix2 k q)
def ab (q : Fin 12288) : EReal := m ((c : Thread nD τ).loc main_arg6) (ix1 q)
def awi (k : Fin 2048) (q : Fin 14352) : EReal := m ((c : Thread nD τ).loc main_arg7) (ix2 k q)

/-- The tokens' rows. -/
theorem rows_apply (t : Fin 33280) (k : Fin 2048) : V m c main_v2 (ix2 t k) = tokRow (ax m c) (actx m c) t k := by
  unfold V
  after_reads_simp
  pointwise
  unfold tokRow
  split <;> rfl

/-- The shift (part 0) and the scale (part 1) of a segment. -/
theorem mod_apply (s : Fin 3) (a : Fin 2) (k : Fin 2048) :
    V m c main_v11 (ix3 s a k) = ada (aw m c) (ab m c) (condRow (acl m c) (acc m c) s) ⟨a.val * 2048 + k.val, by omega⟩ := by
  unfold V
  after_reads_simp
  simp -implicitDefEqProofs only [StableHlo.TRef.toBuf, StableHlo.TRef.ofBuf, cast_cast, cast_eq, id]
  pointwise
  after_reads_simp
  pointwise
  unfold ada condRow
  by_cases h : s.val < 1
  · simp only [dif_pos h]; rfl
  · simp only [dif_neg h]; rfl

/-- The weights without the gate columns. -/
theorem weight_apply (k : Fin 2048) (q : Fin 14336) : V m c main_v15 (ix2 k q) = awi m c k (srcCol q) := by
  unfold V
  after_reads_simp
  pointwise
  after_reads_simp
  pointwise
  unfold srcCol
  split <;> rfl

/-- The gains. -/
theorem gain_apply (k : Fin 2048) : V m c main_v16 (ix2 0 k) = ag m c k := by
  unfold V
  after_reads_simp
  pointwise
  rfl

end Cert.Proj

end
-- ==== Proof.Proj.Kernel.lean ====
/- The projection kernel's array: the normalised rows a row block keeps between its column blocks, and their projections. -/
module

public import proofs.«01_k».proof.Proof.Proj.Host
public import Idealize.ShloMosaic.Lib.Pipeline.ReadBack

@[expose] public section

set_option maxRecDepth 16384

noncomputable section

namespace Cert.Proj

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The body's two payloads at an element. -/
theorem pay1_apply (x : Vec Ideal S512x2048 .f32) (g : Vec Ideal S1x2048 .f32) (s0 s1 : Vec Ideal S1x1x2048 .f32)
    (r : Fin 512) (k : Fin 2048) :
    k0_pay1 (F := Ideal) x g s0 s1 (ix2 r k)
      = normed (fun k => x (ix2 r k)) (fun k => g (ix2 0 k)) (fun k => s1 (ix3 0 0 k)) (fun k => s0 (ix3 0 0 k)) k := by
  unfold k0_pay1
  pointwise
  rfl

theorem pay2_apply (h : Vec Ideal S512x2048 .bf16) (w : Vec Ideal S2048x1024 .bf16) (r : Fin 512) (q : Fin 1024) :
    k0_pay2 (F := Ideal) h w (ix2 r q) = ∑ k : Fin 2048, h (ix2 r k) * w (ix2 k q) := by
  unfold k0_pay2
  pointwise

/-- Where the windows lie. -/
theorem idx0 : ∀ t : Fin cfg0.N, win0_0.index t = ![t.val / 14, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![if t.val / 14 < 1 then 0 else 1 + (t.val / 14 - 1) / 32, 0, 0] :=
  (by decide +kernel : ∀ t : Fin grid0.N, _)
theorem idx3 : ∀ t : Fin cfg0.N, win0_3.index t = ![0, t.val % 14] := (by decide +kernel : ∀ t : Fin grid0.N, _)
theorem idx4 : ∀ t : Fin cfg0.N, win0_4.index t = ![t.val / 14, t.val % 14] := (by decide +kernel : ∀ t : Fin grid0.N, _)

theorem lt_N (t : Fin cfg0.N) : t.val < 910 := lt_of_lt_of_eq t.isLt N_0

/-- A row of a point's block as a token, and a column of its block as a column of the result. -/
def rowTok (n : ℕ) (hn : n < 910) (r : Fin 512) : Fin 33280 := ⟨n / 14 * 512 + r.val, by omega⟩
def colOf (n : ℕ) (hn : n < 910) (q : Fin 1024) : Fin 14336 := ⟨n % 14 * 1024 + q.val, by omega⟩

theorem blk0 (t : Fin cfg0.N) (r : Fin 512) (k : Fin 2048) :
    (iblk m c 0 t : Vec Ideal S512x2048 .f32) (ix2 r k) = tokRow (ax m c) (actx m c) (rowTok t.val (lt_N t) r) k := by
  refine Eq.trans ?_ (rows_apply m c _ k)
  blk_simp [iblk]
  refine congrArg (V m c main_v2) ?_
  unfold rowTok
  blk_ext [idx0]

theorem blk1 (t : Fin cfg0.N) (k : Fin 2048) : (iblk m c 1 t : Vec Ideal S1x2048 .f32) (ix2 0 k) = ag m c k := by
  refine Eq.trans ?_ (gain_apply m c k)
  blk_simp [iblk]
  refine congrArg (V m c main_v16) ?_
  blk_ext [idx1]

theorem blk2 (t : Fin cfg0.N) (a : Fin 2) (r : Fin 512) (k : Fin 2048) :
    (iblk m c 2 t : Vec Ideal S1x2x2048 .f32) (ix3 0 a k)
      = ada (aw m c) (ab m c) (condRow (acl m c) (acc m c) (seg (rowTok t.val (lt_N t) r))) ⟨a.val * 2048 + k.val, by omega⟩ := by
  refine Eq.trans ?_ (mod_apply m c _ a k)
  blk_simp [iblk]
  refine congrArg (V m c main_v11) ?_
  have h := lt_N t
  have e : (seg (rowTok t.val (lt_N t) r)).val = if t.val / 14 < 1 then 0 else 1 + (t.val / 14 - 1) / 32 := by
    unfold seg rowTok
    dsimp only
    split <;> split
    · rfl
    · omega
    · omega
    · show 1 + (t.val / 14 * 512 + r.val - 512) / 16384 = _
      omega
  blk_ext [idx2, e]

theorem blk3 (t : Fin cfg0.N) (k : Fin 2048) (q : Fin 1024) :
    (iblk m c 3 t : Vec Ideal S2048x1024 .bf16) (ix2 k q) = awi m c k (srcCol (colOf t.val (lt_N t) q)) := by
  refine Eq.trans ?_ (weight_apply m c k _)
  blk_simp [iblk]
  refine congrArg (V m c main_v15) ?_
  unfold colOf
  blk_ext [idx3]

/-- The normalised rows of a point's row block. -/
theorem pay1_eq (t : Fin cfg0.N) (r : Fin 512) (k : Fin 2048) :
    k0_pay1 (F := Ideal) (iblk m c 0 t) (iblk m c 1 t)
        (View.ld (iblk m c 2 t) (Rect.unit ![0, 0, 0] ![1, 1, 2048] inb_S1x2x2048_S1x1x2048_0_0_0))
        (View.ld (iblk m c 2 t) (Rect.unit ![0, 1, 0] ![1, 1, 2048] inb_S1x2x2048_S1x1x2048_0_1_0)) (ix2 r k)
      = hrow (ax m c) (acl m c) (actx m c) (acc m c) (ag m c) (aw m c) (ab m c) (rowTok t.val (lt_N t) r) k := by
  rw [pay1_apply]
  unfold hrow
  have e1 : (fun k => (iblk m c 1 t : Vec Ideal S1x2048 .f32) (ix2 0 k)) = ag m c := funext (blk1 m c t)
  have e0 : (fun k => (iblk m c 0 t : Vec Ideal S512x2048 .f32) (ix2 r k)) = tokRow (ax m c) (actx m c) (rowTok t.val (lt_N t) r) :=
    funext (blk0 m c t r)
  have e2 : (fun k => View.ld (iblk m c 2 t : Vec Ideal S1x2x2048 .f32) (Rect.unit ![0, 1, 0] ![1, 1, 2048] inb_S1x2x2048_S1x1x2048_0_1_0) (ix3 0 0 k))
      = fun k : Fin 2048 => ada (aw m c) (ab m c) (condRow (acl m c) (acc m c) (seg (rowTok t.val (lt_N t) r))) ⟨2048 + k.val, by omega⟩ := by
    funext k
    refine Eq.trans ?_ ((blk2 m c t 1 r k).trans (congrArg _ (Fin.ext (by show 1 * 2048 + k.val = 2048 + k.val; omega))))
    pointwise
  have e3 : (fun k => View.ld (iblk m c 2 t : Vec Ideal S1x2x2048 .f32) (Rect.unit ![0, 0, 0] ![1, 1, 2048] inb_S1x2x2048_S1x1x2048_0_0_0) (ix3 0 0 k))
      = fun k : Fin 2048 => ada (aw m c) (ab m c) (condRow (acl m c) (acc m c) (seg (rowTok t.val (lt_N t) r))) ⟨k.val, by omega⟩ := by
    funext k
    refine Eq.trans ?_ ((blk2 m c t 0 r k).trans (congrArg _ (Fin.ext (by show 0 * 2048 + k.val = k.val; omega))))
    pointwise
  rw [e0, e1]
  exact congrArg₂ (fun s0 s1 => normed (tokRow (ax m c) (actx m c) (rowTok t.val (lt_N t) r)) (ag m c) s0 s1 k) e2 e3

/-- What a point leaves in the kept rows. -/
theorem kept (n : ℕ) : ∀ (hn : n < cfg0.N) (r : Fin 512) (k : Fin 2048), (outsAt0 m c n hn).2 (ix2 r k)
    = hrow (ax m c) (acl m c) (actx m c) (acc m c) (ag m c) (aw m c) (ab m c) (rowTok n (lt_of_lt_of_eq hn N_0) r) k := by
  induction n with
  | zero =>
    intro hn r k
    have e := outsAt0_A m c ⟨0, hn⟩ (Nat.zero_mod _)
    dsimp only at e
    rw [e]
    dsimp only
    frame_out
    exact pay1_eq m c ⟨0, hn⟩ r k
  | succ n ih =>
    intro hn r k
    by_cases h : (n + 1) % 14 = 0
    · have e := outsAt0_A m c ⟨n + 1, hn⟩ h
      dsimp only at e
      rw [e]
      dsimp only
      frame_out
      exact pay1_eq m c ⟨n + 1, hn⟩ r k
    · have e := outsAt0_B m c ⟨n + 1, hn⟩ h
      dsimp only at e
      rw [e]
      unfold sout0_B_0
      dsimp only
      refine (ih (Nat.lt_of_succ_lt hn) r k).trans (congrArg (fun z => hrow _ _ _ _ _ _ _ z k) (Fin.ext ?_))
      unfold rowTok
      dsimp only
      omega

/-- What a point leaves in its block. -/
theorem block_apply (t : Fin cfg0.N) (r : Fin 512) (q : Fin 1024) : (outsAt0 m c t.val t.isLt).1 (ix2 r q)
    = proj (ax m c) (acl m c) (actx m c) (acc m c) (ag m c) (aw m c) (ab m c) (awi m c) (rowTok t.val (lt_N t) r)
        (colOf t.val (lt_N t) q) := by
  unfold proj
  by_cases h : t.val % 14 = 0
  · rw [outsAt0_A m c t h]
    dsimp only
    frame_out
    rw [pay2_apply]
    exact Finset.sum_congr rfl fun k _ => congrArg₂ (· * ·) (pay1_eq m c t r k) (blk3 m c t k q)
  · rw [outsAt0_B m c t h]
    dsimp only
    frame_out
    simp only [read_unread_whole]
    rw [pay2_apply]
    refine Finset.sum_congr rfl fun k _ => congrArg₂ (· * ·) ?_ (blk3 m c t k q)
    refine (kept m c (t.val - 1) _ r k).trans (congrArg (fun z => hrow _ _ _ _ _ _ _ z k) (Fin.ext ?_))
    unfold rowTok
    dsimp only
    omega

/-- The kernel's array is the projection. -/
theorem kernel_value : (dats m 0 c).arrAt 4 cfg0.N
    = fun i => proj (ax m c) (acl m c) (actx m c) (acc m c) (ag m c) (aw m c) (ab m c) (awi m c) (i 0) (i 1) := by
  refine (dats m 0 c).arrAt_eq_of_covers 4 _ (by decide +kernel) fun t hf y => ?_
  blk_simp
  rw [after0_4]
  have ey : y = ix2 (y 0) (y 1) := by
    funext a
    fin_cases a <;> rfl
  have ee : (win0_4.blk t).view.emb y = ix2 (rowTok t.val (lt_N t) (y 0)) (colOf t.val (lt_N t) (y 1)) := by
    unfold rowTok colOf
    blk_ext [idx4]
  refine (congrArg _ ey).trans ((block_apply m c t (y 0) (y 1)).trans ?_)
  rw [ee]
  rfl

end Cert.Proj

end
-- ==== Proof.Proj.Ref.lean ====
/- The projection's reference, read at an element of its arguments. -/
module

public import proofs.«01_k».proof.Proof.Gen.Reference2Ideal.Run
public import proofs.«01_k».proof.Proof.Proj.Math
public import Idealize.ShloMosaic.Lib.Pointwise
public import Idealize.ShloMosaic.Lib.StableHlo.ReadAt
public import Idealize.ShloMosaic.Lib.StableHlo.RunRead
public import Idealize.ShloMosaic.Lib.Tactic.CleanTypes

@[expose] public section

set_option maxRecDepth 16384

noncomputable section

namespace Cert.Proj

open Idealize.ShloMosaic Idealize.ShloMosaic.TcCoe Idealize.SL.Sem Cert.Reference2Ideal Cert.Reference2Ideal.Gen
open Cert.Reference2Ideal.Value

variable (m : (ℓ : Loc nD τ sig) → Buf (Elt Ideal) ℓ) (c : Dev nD)

theorem ref_apply (t : Fin 33280) (q : Fin 14336) : res_main_v68 (F := Ideal) m c (ix2 t q)
    = proj (fun b s k => m ((c.tc : Thread nD τ).loc main_arg0) (ix3 b s k)) (fun b k => m ((c.tc : Thread nD τ).loc main_arg1) (ix2 b k))
        (fun b s k => m ((c.tc : Thread nD τ).loc main_arg2) (ix3 b s k)) (fun k => m ((c.tc : Thread nD τ).loc main_arg3) (ix1 k))
        (fun k => m ((c.tc : Thread nD τ).loc main_arg4) (ix1 k)) (fun k q => m ((c.tc : Thread nD τ).loc main_arg5) (ix2 k q))
        (fun q => m ((c.tc : Thread nD τ).loc main_arg6) (ix1 q)) (fun k q => m ((c.tc : Thread nD τ).loc main_arg7) (ix2 k q)) t q := by
  unfold res_main_v68
  pointwise
  unfold proj hrow normed tokRow seg srcCol ada condRow
  have hs : ∀ b : ℕ, ¬ (1 + b) < 1 := fun b => by omega
  by_cases hq : q.val < 3584
  · by_cases ht : t.val < 512
    · simp only [dif_pos hq, dif_pos ht]
      rfl
    · simp only [dif_pos hq, dif_neg ht, dif_neg (hs _), Nat.add_sub_cancel_left]
  · by_cases ht : t.val < 512
    · simp only [dif_neg hq, dif_pos ht]
      rfl
    · simp only [dif_neg hq, dif_neg ht, dif_neg (hs _), Nat.add_sub_cancel_left]

end Cert.Proj

end
-- ==== Proof.Proj.Claims.lean ====
/- The projection's claims: the frames and the value. -/
module

public import proofs.«01_k».proof.Defs
public import proofs.«01_k».proof.Proof.Gen.Kernel2
public import proofs.«01_k».proof.Proof.Gen.Kernel2.Frame
public import proofs.«01_k».proof.Proof.Proj.Kernel
public import proofs.«01_k».proof.Proof.Proj.Ref
public import Idealize.ShloMosaic.Adequacy
public import Idealize.ShloMosaic.Init

@[expose] public section

set_option maxRecDepth 16384

noncomputable section

namespace Cert.Proj

open Idealize.ShloMosaic Idealize.SL.Sem

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem preserves : Cert.preserves_Kernel2_Kernel2Ideal := trivial

/-- The kernel's result is the reference's. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨e0, e1, e2, e3, e4, e5, e6, e7⟩ := hagree c
  refine Eq.trans ?_ (kernel_value m c).symm
  funext i
  have ei : i = ix2 (i 0) (i 1) := by
    funext a
    fin_cases a <;> rfl
  refine (congrArg _ ei).trans ((ref_apply m' c (i 0) (i 1)).trans ?_)
  unfold ax acl actx acc ag aw ab awi
  rw [← e0, ← e1, ← e2, ← e3, ← e4, ← e5, ← e6, ← e7]

end Cert.Proj

end
-- ==== Proof.Merge.Math.lean ====
/- The merge's plain mathematics: the four gated branches added, against the output weights, over the residual. -/
module

public import Idealize.ShloMosaic.PureOps.Ideal
public import Idealize.ShloMosaic.Lib.Pointwise

@[expose] public section

noncomputable section

namespace Cert.Merge

open Idealize.ShloMosaic

/-- A gate: the logistic function of a projected value and its bias. -/
def gate (p b : EReal) : EReal := Ideal.div 1 (1 + Ideal.exp (-(p + b)))

/-- A token's segment: segment 0 is the context's, segments 1 and 2 are the batches'. -/
def seg (t : Fin 33280) : Fin 3 := if h : t.val < 512 then 0 else ⟨1 + (t.val - 512) / 16384, by omega⟩

/-- The four gated branches added, at a token and a channel. -/
def branches (y0 y1 y2 y3 : Fin 33280 → Fin 512 → EReal) (p : Fin 33280 → Fin 14336 → EReal) (b : Fin 4 → Fin 2048 → EReal)
    (w : Fin 4 → Fin 512 → Fin 2048 → EReal) (t : Fin 33280) (j : Fin 2048) : EReal :=
  gate (p t ⟨6144 + j.val, by omega⟩) (b 0 j) * (∑ e, y0 t e * w 0 e j)
    + gate (p t ⟨6144 + (2048 + j.val), by omega⟩) (b 1 j) * (∑ e, y1 t e * w 1 e j)
    + gate (p t ⟨6144 + (4096 + j.val), by omega⟩) (b 2 j) * (∑ e, y2 t e * w 2 e j)
    + gate (p t ⟨6144 + (6144 + j.val), by omega⟩) (b 3 j) * (∑ e, y3 t e * w 3 e j)

/-- The channel at a place of a block of 512 channels. -/
def chan (i : ℕ) (k : Fin 512) : Fin 2048 := ⟨(i * 512 + k.val) % 2048, by omega⟩

/-- One block of 512 channels against the output weights, and the blocks up to one added in order. -/
def part (z : Fin 2048 → EReal) (v : Fin 2048 → EReal) (i : ℕ) : EReal := ∑ k : Fin 512, z (chan i k) * v (chan i k)
def upto (z : Fin 2048 → EReal) (v : Fin 2048 → EReal) : ℕ → EReal
  | 0 => part z v 0
  | i + 1 => upto z v i + part z v (i + 1)

/-- The four blocks are all the channels. -/
theorem upto_three (z v : Fin 2048 → EReal) : upto z v 3 = ∑ j, z j * v j := by
  have e := (finProdFinEquiv (m := 4) (n := 512)).sum_comp (fun j : Fin 2048 => z j * v j)
  refine Eq.trans ?_ e
  rw [Fintype.sum_prod_type, Fin.sum_univ_four]
  have h : ∀ i : Fin 4, (∑ k : Fin 512, z (finProdFinEquiv (i, k)) * v (finProdFinEquiv (i, k))) = part z v i.val := by
    intro i
    unfold part
    refine Finset.sum_congr rfl fun k _ => ?_
    have hk : (finProdFinEquiv (i, k) : Fin 2048) = chan i.val k := by
      apply Fin.ext
      show k.val + 512 * i.val = (i.val * 512 + k.val) % 2048
      omega
    rw [hk]
  rw [h, h, h, h]
  rfl

/-- The merge: the residual and the gated output. -/
def merged (y0 y1 y2 y3 : Fin 33280 → Fin 512 → EReal) (p : Fin 33280 → Fin 14336 → EReal) (b : Fin 4 → Fin 2048 → EReal)
    (w : Fin 4 → Fin 512 → Fin 2048 → EReal) (v : Fin 2048 → Fin 2048 → EReal) (x : Fin 33280 → Fin 2048 → EReal)
    (g : Fin 3 → Fin 2048 → EReal) (t : Fin 33280) (q : Fin 2048) : EReal :=
  x t q + g (seg t) q * ∑ j, branches y0 y1 y2 y3 p b w t j * v j q

end Cert.Merge

end
-- ==== Proof.Merge.Blocks.lean ====
/- The merge kernel's blocks, read at an element of the arguments. -/
module

public import proofs.«01_k».proof.Proof.Gen.Kernel3Ideal.Value
public import proofs.«01_k».proof.Proof.Merge.Math
public import Idealize.ShloMosaic.Lib.Pipeline.ValueKit
public import Idealize.ShloMosaic.Lib.Pointwise
public import Idealize.ShloMosaic.Lib.StableHlo.ReadAt
public import Idealize.ShloMosaic.Lib.StableHlo.RunRead
public import Idealize.ShloMosaic.Lib.Tactic.CleanTypes

@[expose] public section

set_option maxRecDepth 16384

noncomputable section

namespace Cert.Merge

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-- The arguments by their coordinates. -/
def ay0 (t : Fin 33280) (e : Fin 512) : EReal := m ((c : Thread nD τ).loc main_arg0) (ix2 t e)
def ay1 (t : Fin 33280) (e : Fin 512) : EReal := m ((c : Thread nD τ).loc main_arg1) (ix2 t e)
def ay2 (t : Fin 33280) (e : Fin 512) : EReal := m ((c : Thread nD τ).loc main_arg2) (ix2 t e)
def ay3 (t : Fin 33280) (e : Fin 512) : EReal := m ((c : Thread nD τ).loc main_arg3) (ix2 t e)
def ap (t : Fin 33280) (q : Fin 14336) : EReal := m ((c : Thread nD τ).loc main_arg4) (ix2 t q)
def ab (b : Fin 4) (j : Fin 2048) : EReal := m ((c : Thread nD τ).loc main_arg5) (ix2 b j)
def aw (b : Fin 4) (e : Fin 512) (j : Fin 2048) : EReal := m ((c : Thread nD τ).loc main_arg6) (ix3 b e j)
def av (j q : Fin 2048) : EReal := m ((c : Thread nD τ).loc main_arg7) (ix2 j q)
def ax (t : Fin 33280) (q : Fin 2048) : EReal := m ((c : Thread nD τ).loc main_arg8) (ix2 t q)
def ag (s : Fin 3) (q : Fin 2048) : EReal := m ((c : Thread nD τ).loc main_arg9) (ix3 s 0 q)

/-- Where the windows lie. -/
theorem idx0 : ∀ t : Fin cfg0.N, win0_0.index t = ![t.val / 4, 0] := (by decide +kernel : ∀ t : Fin grid0.N, _)
theorem idx1 : ∀ t : Fin cfg0.N, win0_1.index t = ![t.val / 4, 0] := (by decide +kernel : ∀ t : Fin grid0.N, _)
theorem idx2 : ∀ t : Fin cfg0.N, win0_2.index t = ![t.val / 4, 0] := (by decide +kernel : ∀ t : Fin grid0.N, _)
theorem idx3 : ∀ t : Fin cfg0.N, win0_3.index t = ![t.val / 4, 0] := (by decide +kernel : ∀ t : Fin grid0.N, _)
theorem idx4 : ∀ t : Fin cfg0.N, win0_4.index t = ![t.val / 4, 12 + t.val % 4] := (by decide +kernel : ∀ t : Fin grid0.N, _)
theorem idx5 : ∀ t : Fin cfg0.N, win0_5.index t = ![t.val / 4, 16 + t.val % 4] := (by decide +kernel : ∀ t : Fin grid0.N, _)
theorem idx6 : ∀ t : Fin cfg0.N, win0_6.index t = ![t.val / 4, 20 + t.val % 4] := (by decide +kernel : ∀ t : Fin grid0.N, _)
theorem idx7 : ∀ t : Fin cfg0.N, win0_7.index t = ![t.val / 4, 24 + t.val % 4] := (by decide +kernel : ∀ t : Fin grid0.N, _)
theorem idx8 : ∀ t : Fin cfg0.N, win0_8.index t = ![0, t.val % 4] := (by decide +kernel : ∀ t : Fin grid0.N, _)
theorem idx9 : ∀ t : Fin cfg0.N, win0_9.index t = ![0, 0, t.val % 4] := (by decide +kernel : ∀ t : Fin grid0.N, _)
theorem idx10 : ∀ t : Fin cfg0.N, win0_10.index t = ![t.val % 4, 0] := (by decide +kernel : ∀ t : Fin grid0.N, _)
theorem idx11 : ∀ t : Fin cfg0.N, win0_11.index t = ![t.val / 4, 0] := (by decide +kernel : ∀ t : Fin grid0.N, _)
theorem idx12 : ∀ t : Fin cfg0.N, win0_12.index t = ![if t.val / 4 < 1 then 0 else 1 + (t.val / 4 - 1) / 32, 0, 0] := (by decide +kernel : ∀ t : Fin grid0.N, _)
theorem idx13 : ∀ t : Fin cfg0.N, win0_13.index t = ![t.val / 4, 0] := (by decide +kernel : ∀ t : Fin grid0.N, _)

theorem lt_N (t : Fin cfg0.N) : t.val < 260 := lt_of_lt_of_eq t.isLt N_0

/-- A row of a point's block as a token. -/
def rowTok (n : ℕ) (hn : n < 260) (r : Fin 512) : Fin 33280 := ⟨n / 4 * 512 + r.val, by omega⟩

theorem blk0 (t : Fin cfg0.N) (r e : Fin 512) :
    (iblk m c 0 t : Vec Ideal S512x512 .f32) (ix2 r e) = ay0 m c (rowTok t.val (lt_N t) r) e := by
  unfold ay0
  rw [← V_main_arg0 m c]
  blk_simp [iblk]
  refine congrArg (V m c main_arg0) ?_
  unfold rowTok
  blk_ext [idx0]

theorem blk1 (t : Fin cfg0.N) (r e : Fin 512) :
    (iblk m c 1 t : Vec Ideal S512x512 .f32) (ix2 r e) = ay1 m c (rowTok t.val (lt_N t) r) e := by
  unfold ay1
  rw [← V_main_arg1 m c]
  blk_simp [iblk]
  refine congrArg (V m c main_arg1) ?_
  unfold rowTok
  blk_ext [idx1]

theorem blk2 (t : Fin cfg0.N) (r e : Fin 512) :
    (iblk m c 2 t : Vec Ideal S512x512 .f32) (ix2 r e) = ay2 m c (rowTok t.val (lt_N t) r) e := by
  unfold ay2
  rw [← V_main_arg2 m c]
  blk_simp [iblk]
  refine congrArg (V m c main_arg2) ?_
  unfold rowTok
  blk_ext [idx2]

theorem blk3 (t : Fin cfg0.N) (r e : Fin 512) :
    (iblk m c 3 t : Vec Ideal S512x512 .f32) (ix2 r e) = ay3 m c (rowTok t.val (lt_N t) r) e := by
  unfold ay3
  rw [← V_main_arg3 m c]
  blk_simp [iblk]
  refine congrArg (V m c main_arg3) ?_
  unfold rowTok
  blk_ext [idx3]

theorem blk4 (t : Fin cfg0.N) (r k : Fin 512) :
    (iblk m c 4 t : Vec Ideal S512x512 .f32) (ix2 r k) = ap m c (rowTok t.val (lt_N t) r) ⟨6144 + (chan (t.val % 4) k).val, by omega⟩ := by
  unfold ap
  rw [← V_main_arg4 m c]
  blk_simp [iblk]
  refine congrArg (V m c main_arg4) ?_
  unfold rowTok chan
  blk_ext [idx4]

theorem blk5 (t : Fin cfg0.N) (r k : Fin 512) :
    (iblk m c 5 t : Vec Ideal S512x512 .f32) (ix2 r k) = ap m c (rowTok t.val (lt_N t) r) ⟨6144 + (2048 + (chan (t.val % 4) k).val), by omega⟩ := by
  unfold ap
  rw [← V_main_arg4 m c]
  blk_simp [iblk]
  refine congrArg (V m c main_arg4) ?_
  unfold rowTok chan
  blk_ext [idx5]

theorem blk6 (t : Fin cfg0.N) (r k : Fin 512) :
    (iblk m c 6 t : Vec Ideal S512x512 .f32) (ix2 r k) = ap m c (rowTok t.val (lt_N t) r) ⟨6144 + (4096 + (chan (t.val % 4) k).val), by omega⟩ := by
  unfold ap
  rw [← V_main_arg4 m c]
  blk_simp [iblk]
  refine congrArg (V m c main_arg4) ?_
  unfold rowTok chan
  blk_ext [idx6]

theorem blk7 (t : Fin cfg0.N) (r k : Fin 512) :
    (iblk m c 7 t : Vec Ideal S512x512 .f32) (ix2 r k) = ap m c (rowTok t.val (lt_N t) r) ⟨6144 + (6144 + (chan (t.val % 4) k).val), by omega⟩ := by
  unfold ap
  rw [← V_main_arg4 m c]
  blk_simp [iblk]
  refine congrArg (V m c main_arg4) ?_
  unfold rowTok chan
  blk_ext [idx7]

theorem blk8 (t : Fin cfg0.N) (b : Fin 4) (k : Fin 512) :
    (iblk m c 8 t : Vec Ideal S4x512 .f32) (ix2 b k) = ab m c b (chan (t.val % 4) k) := by
  unfold ab
  rw [← V_main_arg5 m c]
  blk_simp [iblk]
  refine congrArg (V m c main_arg5) ?_
  unfold chan
  blk_ext [idx8]

theorem branchWeight_apply (b : Fin 4) (e : Fin 512) (k : Fin 2048) : V m c main_v0 (ix3 b e k) = aw m c b e k := by
  unfold V
  after_reads_simp
  pointwise
  rfl

theorem outWeight_apply (j q : Fin 2048) : V m c main_v1 (ix2 j q) = av m c j q := by
  unfold V
  after_reads_simp
  pointwise
  rfl

theorem blk9 (t : Fin cfg0.N) (b : Fin 4) (e k : Fin 512) :
    (iblk m c 9 t : Vec Ideal S4x512x512 .bf16) (ix3 b e k) = aw m c b e (chan (t.val % 4) k) := by
  refine Eq.trans ?_ (branchWeight_apply m c b e _)
  blk_simp [iblk]
  refine congrArg (V m c main_v0) ?_
  unfold chan
  blk_ext [idx9]

theorem blk10 (t : Fin cfg0.N) (k : Fin 512) (q : Fin 2048) :
    (iblk m c 10 t : Vec Ideal S512x2048 .bf16) (ix2 k q) = av m c (chan (t.val % 4) k) q := by
  refine Eq.trans ?_ (outWeight_apply m c _ q)
  blk_simp [iblk]
  refine congrArg (V m c main_v1) ?_
  unfold chan
  blk_ext [idx10]

theorem blk11 (t : Fin cfg0.N) (r : Fin 512) (q : Fin 2048) :
    (iblk m c 11 t : Vec Ideal S512x2048 .f32) (ix2 r q) = ax m c (rowTok t.val (lt_N t) r) q := by
  unfold ax
  rw [← V_main_arg8 m c]
  blk_simp [iblk]
  refine congrArg (V m c main_arg8) ?_
  unfold rowTok
  blk_ext [idx11]

theorem blk12 (t : Fin cfg0.N) (r : Fin 512) (q : Fin 2048) :
    (iblk m c 12 t : Vec Ideal S1x1x2048 .f32) (ix3 0 0 q) = ag m c (seg (rowTok t.val (lt_N t) r)) q := by
  unfold ag
  rw [← V_main_arg9 m c]
  blk_simp [iblk]
  refine congrArg (V m c main_arg9) ?_
  have h := lt_N t
  have e : (seg (rowTok t.val (lt_N t) r)).val = if t.val / 4 < 1 then 0 else 1 + (t.val / 4 - 1) / 32 := by
    unfold seg rowTok
    dsimp only
    split <;> split
    · rfl
    · omega
    · omega
    · show 1 + (t.val / 4 * 512 + r.val - 512) / 16384 = _
      omega
  blk_ext [idx12, e]

theorem bias0 (t : Fin cfg0.N) (k : Fin 512) :
    View.ld (iblk m c 8 t : Vec Ideal S4x512 .f32) (Rect.unit ![0, 0] ![1, 512] inb_S4x512_S1x512_0_0) (ix2 0 k)
      = ab m c 0 (chan (t.val % 4) k) := by
  refine Eq.trans ?_ (blk8 m c t 0 k)
  pointwise

theorem weight0 (t : Fin cfg0.N) (e k : Fin 512) :
    View.ld (iblk m c 9 t : Vec Ideal S4x512x512 .bf16) (Rect.unit ![0, 0, 0] ![1, 512, 512] inb_S4x512x512_S1x512x512_0_0_0) (ix3 0 e k)
      = aw m c 0 e (chan (t.val % 4) k) := by
  refine Eq.trans ?_ (blk9 m c t 0 e k)
  pointwise

theorem bias1 (t : Fin cfg0.N) (k : Fin 512) :
    View.ld (iblk m c 8 t : Vec Ideal S4x512 .f32) (Rect.unit ![1, 0] ![1, 512] inb_S4x512_S1x512_1_0) (ix2 0 k)
      = ab m c 1 (chan (t.val % 4) k) := by
  refine Eq.trans ?_ (blk8 m c t 1 k)
  pointwise

theorem weight1 (t : Fin cfg0.N) (e k : Fin 512) :
    View.ld (iblk m c 9 t : Vec Ideal S4x512x512 .bf16) (Rect.unit ![1, 0, 0] ![1, 512, 512] inb_S4x512x512_S1x512x512_1_0_0) (ix3 0 e k)
      = aw m c 1 e (chan (t.val % 4) k) := by
  refine Eq.trans ?_ (blk9 m c t 1 e k)
  pointwise

theorem bias2 (t : Fin cfg0.N) (k : Fin 512) :
    View.ld (iblk m c 8 t : Vec Ideal S4x512 .f32) (Rect.unit ![2, 0] ![1, 512] inb_S4x512_S1x512_2_0) (ix2 0 k)
      = ab m c 2 (chan (t.val % 4) k) := by
  refine Eq.trans ?_ (blk8 m c t 2 k)
  pointwise

theorem weight2 (t : Fin cfg0.N) (e k : Fin 512) :
    View.ld (iblk m c 9 t : Vec Ideal S4x512x512 .bf16) (Rect.unit ![2, 0, 0] ![1, 512, 512] inb_S4x512x512_S1x512x512_2_0_0) (ix3 0 e k)
      = aw m c 2 e (chan (t.val % 4) k) := by
  refine Eq.trans ?_ (blk9 m c t 2 e k)
  pointwise

theorem bias3 (t : Fin cfg0.N) (k : Fin 512) :
    View.ld (iblk m c 8 t : Vec Ideal S4x512 .f32) (Rect.unit ![3, 0] ![1, 512] inb_S4x512_S1x512_3_0) (ix2 0 k)
      = ab m c 3 (chan (t.val % 4) k) := by
  refine Eq.trans ?_ (blk8 m c t 3 k)
  pointwise

theorem weight3 (t : Fin cfg0.N) (e k : Fin 512) :
    View.ld (iblk m c 9 t : Vec Ideal S4x512x512 .bf16) (Rect.unit ![3, 0, 0] ![1, 512, 512] inb_S4x512x512_S1x512x512_3_0_0) (ix3 0 e k)
      = aw m c 3 e (chan (t.val % 4) k) := by
  refine Eq.trans ?_ (blk9 m c t 3 e k)
  pointwise

end Cert.Merge

end
-- ==== Proof.Merge.Kernel.lean ====
/- The merge kernel's array: the blocks of channels a row block adds up, and the residual. -/
module

public import proofs.«01_k».proof.Proof.Merge.Blocks
public import Idealize.ShloMosaic.Lib.Pipeline.ReadBack

@[expose] public section

set_option maxRecDepth 16384

noncomputable section

namespace Cert.Merge

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-- The body's payloads at an element. -/
theorem term_apply (y0 y1 y2 y3 p0 p1 p2 p3 : Vec Ideal S512x512 .f32) (w0 w1 w2 w3 : Vec Ideal S1x512x512 .bf16)
    (b0 b1 b2 b3 : Vec Ideal S1x512 .f32) (v : Vec Ideal S512x2048 .bf16) (r : Fin 512) (q : Fin 2048) :
    k0_pay1 (F := Ideal) (k0_pay5 y0 w0 p0 b0 y1 w1 p1 b1) (k0_pay6 y2 w2) p2 b2 y3 w3 p3 b3 v (ix2 r q)
      = ∑ k : Fin 512, (gate (p0 (ix2 r k)) (b0 (ix2 0 k)) * (∑ e, y0 (ix2 r e) * w0 (ix3 0 e k))
          + gate (p1 (ix2 r k)) (b1 (ix2 0 k)) * (∑ e, y1 (ix2 r e) * w1 (ix3 0 e k))
          + gate (p2 (ix2 r k)) (b2 (ix2 0 k)) * (∑ e, y2 (ix2 r e) * w2 (ix3 0 e k))
          + gate (p3 (ix2 r k)) (b3 (ix2 0 k)) * (∑ e, y3 (ix2 r e) * w3 (ix3 0 e k))) * v (ix2 k q) := by
  unfold k0_pay1 k0_pay5 k0_pay6
  pointwise
  rfl

theorem pay2_eq (a b : FVec Ideal S512x512 .f32) (p : Vec Ideal S512x512 .f32) (s : Vec Ideal S1x512 .f32) (y : Vec Ideal S512x512 .f32)
    (w : Vec Ideal S1x512x512 .bf16) (p' : Vec Ideal S512x512 .f32) (s' : Vec Ideal S1x512 .f32) (v : Vec Ideal S512x2048 .bf16)
    (r : Fin 512) (q : Fin 2048) : k0_pay2 (F := Ideal) a b p s y w p' s' v (ix2 r q) = k0_pay1 a b p s y w p' s' v (ix2 r q) := by
  unfold k0_pay2
  pointwise

theorem pay3_eq (a b : FVec Ideal S512x512 .f32) (p : Vec Ideal S512x512 .f32) (s : Vec Ideal S1x512 .f32) (y : Vec Ideal S512x512 .f32)
    (w : Vec Ideal S1x512x512 .bf16) (p' : Vec Ideal S512x512 .f32) (s' : Vec Ideal S1x512 .f32) (v : Vec Ideal S512x2048 .bf16)
    (o : Vec Ideal S512x2048 .f32) (r : Fin 512) (q : Fin 2048) :
    k0_pay3 (F := Ideal) a b p s y w p' s' v o (ix2 r q) = o (ix2 r q) + k0_pay1 a b p s y w p' s' v (ix2 r q) := by
  unfold k0_pay3
  pointwise

theorem pay4_apply (x : Vec Ideal S512x2048 .f32) (g : Vec Ideal S1x1x2048 .f32) (o : Vec Ideal S512x2048 .f32) (r : Fin 512) (q : Fin 2048) :
    k0_pay4 (F := Ideal) x g o (ix2 r q) = x (ix2 r q) + g (ix3 0 0 q) * o (ix2 r q) := by
  unfold k0_pay4
  pointwise

/-- The branches of a token, and a column of the output weights. -/
abbrev zrow (t : Fin 33280) : Fin 2048 → EReal := branches (ay0 m c) (ay1 m c) (ay2 m c) (ay3 m c) (ap m c) (ab m c) (aw m c) t
abbrev vcol (q : Fin 2048) : Fin 2048 → EReal := fun j => av m c j q

/-- What a point adds. -/
theorem term_eq (t : Fin cfg0.N) (r : Fin 512) (q : Fin 2048) :
    k0_pay1 (F := Ideal) (k0_pay5 (iblk m c 0 t) (View.ld (iblk m c 9 t) (Rect.unit ![0, 0, 0] ![1, 512, 512] inb_S4x512x512_S1x512x512_0_0_0)) (iblk m c 4 t) (View.ld (iblk m c 8 t) (Rect.unit ![0, 0] ![1, 512] inb_S4x512_S1x512_0_0))
        (iblk m c 1 t) (View.ld (iblk m c 9 t) (Rect.unit ![1, 0, 0] ![1, 512, 512] inb_S4x512x512_S1x512x512_1_0_0)) (iblk m c 5 t) (View.ld (iblk m c 8 t) (Rect.unit ![1, 0] ![1, 512] inb_S4x512_S1x512_1_0)))
      (k0_pay6 (iblk m c 2 t) (View.ld (iblk m c 9 t) (Rect.unit ![2, 0, 0] ![1, 512, 512] inb_S4x512x512_S1x512x512_2_0_0))) (iblk m c 6 t) (View.ld (iblk m c 8 t) (Rect.unit ![2, 0] ![1, 512] inb_S4x512_S1x512_2_0))
      (iblk m c 3 t) (View.ld (iblk m c 9 t) (Rect.unit ![3, 0, 0] ![1, 512, 512] inb_S4x512x512_S1x512x512_3_0_0)) (iblk m c 7 t) (View.ld (iblk m c 8 t) (Rect.unit ![3, 0] ![1, 512] inb_S4x512_S1x512_3_0)) (iblk m c 10 t) (ix2 r q)
      = part (zrow m c (rowTok t.val (lt_N t) r)) (vcol m c q) (t.val % 4) := by
  rw [term_apply]
  unfold part
  refine Finset.sum_congr rfl fun k _ => ?_
  simp only [blk0 m c t, blk1 m c t, blk2 m c t, blk3 m c t, blk4 m c t, blk5 m c t, blk6 m c t, blk7 m c t, blk10 m c t,
    bias0 m c t, bias1 m c t, bias2 m c t, bias3 m c t, weight0 m c t, weight1 m c t, weight2 m c t, weight3 m c t]
  rfl

/-- What a point leaves in the accumulator. -/
theorem kept (n : ℕ) : ∀ (hn : n < cfg0.N) (r : Fin 512) (q : Fin 2048), (outsAt0 m c n hn).2 (ix2 r q)
    = upto (zrow m c (rowTok n (lt_of_lt_of_eq hn N_0) r)) (vcol m c q) (n % 4) := by
  have first : ∀ (n : ℕ) (hn : n < cfg0.N) (h : n % 4 = 0) (r : Fin 512) (q : Fin 2048), (outsAt0 m c n hn).2 (ix2 r q)
      = upto (zrow m c (rowTok n (lt_of_lt_of_eq hn N_0) r)) (vcol m c q) (n % 4) := by
    intro n hn h r q
    have e := outsAt0_A m c ⟨n, hn⟩ h (by dsimp only; omega) (by dsimp only; omega)
    dsimp only at e
    rw [e]
    dsimp only
    frame_out
    rw [pay2_eq]
    refine (term_eq m c ⟨n, hn⟩ r q).trans ?_
    dsimp only
    rw [h]
    rfl
  induction n with
  | zero => exact fun hn r q => first 0 hn rfl r q
  | succ n ih =>
    intro hn r q
    by_cases h : (n + 1) % 4 = 0
    · exact first (n + 1) hn h r q
    · have e4 : (n + 1) % 4 = n % 4 + 1 := by omega
      have er : rowTok n (lt_of_lt_of_eq (Nat.lt_of_succ_lt hn) N_0) r = rowTok (n + 1) (lt_of_lt_of_eq hn N_0) r := by
        unfold rowTok
        apply Fin.ext
        dsimp only
        omega
      have hi := ih (Nat.lt_of_succ_lt hn) r q
      have ht := term_eq m c ⟨n + 1, hn⟩ r q
      dsimp only at ht
      rw [er] at hi
      by_cases h3 : (n + 1) % 4 = 3
      · have e := outsAt0_C m c ⟨n + 1, hn⟩ h (by dsimp only; omega) h3
        dsimp only at e
        rw [e]
        dsimp only
        frame_out
        simp only [read_unread_whole]
        rw [pay3_eq]
        refine (congrArg₂ (· + ·) hi ht).trans ?_
        rw [e4]
        rfl
      · have e := outsAt0_B m c ⟨n + 1, hn⟩ h (by dsimp only; omega) h3
        dsimp only at e
        rw [e]
        dsimp only
        frame_out
        simp only [read_unread_whole]
        rw [pay3_eq]
        refine (congrArg₂ (· + ·) hi ht).trans ?_
        rw [e4]
        rfl

/-- What a row block's last point leaves in its block. -/
theorem block_apply (t : Fin cfg0.N) (h : t.val % 4 = 3) (r : Fin 512) (q : Fin 2048) : (outsAt0 m c t.val t.isLt).1 (ix2 r q)
    = merged (ay0 m c) (ay1 m c) (ay2 m c) (ay3 m c) (ap m c) (ab m c) (aw m c) (av m c) (ax m c) (ag m c)
        (rowTok t.val (lt_N t) r) q := by
  have hk := kept m c t.val t.isLt r q
  rw [h, upto_three] at hk
  unfold merged
  refine Eq.trans ?_ (congrArg₂ (fun a b => a + b) (blk11 m c t r q) (congrArg₂ (fun a b => a * b) (blk12 m c t r q) hk))
  rw [outsAt0_C m c t (by omega) (by omega) h]
  dsimp only
  frame_out
  simp only [read_unread_whole]
  exact pay4_apply _ _ _ r q

/-- The kernel's array is the merge. -/
theorem kernel_value : (dats m 0 c).arrAt 13 cfg0.N
    = fun i => merged (ay0 m c) (ay1 m c) (ay2 m c) (ay3 m c) (ap m c) (ab m c) (aw m c) (av m c) (ax m c) (ag m c) (i 0) (i 1) := by
  refine (dats m 0 c).arrAt_eq_of_covers 13 _ (by decide +kernel) fun t hf y => ?_
  have h : t.val % 4 = 3 := (by decide +kernel : ∀ t : Fin grid0.N, win0_13.flush t = true → t.val % 4 = 3) t hf
  blk_simp
  rw [after0_13]
  have ey : y = ix2 (y 0) (y 1) := by
    funext a
    fin_cases a <;> rfl
  have ee : (win0_13.blk t).view.emb y = ix2 (rowTok t.val (lt_N t) (y 0)) (y 1) := by
    unfold rowTok
    blk_ext [idx13]
  refine (congrArg _ ey).trans ((block_apply m c t h (y 0) (y 1)).trans ?_)
  rw [ee]
  rfl

end Cert.Merge

end
-- ==== Proof.Merge.Ref.lean ====
/- The merge's reference, read at an element of its arguments. -/
module

public import proofs.«01_k».proof.Proof.Gen.Reference3Ideal.Run
public import proofs.«01_k».proof.Proof.Merge.Math
public import Idealize.ShloMosaic.Lib.Pointwise
public import Idealize.ShloMosaic.Lib.StableHlo.ReadAt
public import Idealize.ShloMosaic.Lib.StableHlo.RunRead
public import Idealize.ShloMosaic.Lib.Tactic.CleanTypes

@[expose] public section

set_option maxRecDepth 16384

noncomputable section

namespace Cert.Merge

open Idealize.ShloMosaic Idealize.ShloMosaic.TcCoe Idealize.SL.Sem Cert.Reference3Ideal Cert.Reference3Ideal.Gen
open Cert.Reference3Ideal.Value

variable (m : (ℓ : Loc nD τ sig) → Buf (Elt Ideal) ℓ) (c : Dev nD)

theorem ref_apply (t : Fin 33280) (q : Fin 2048) : res_main_v57 (F := Ideal) m c (ix2 t q)
    = merged (fun t e => m ((c.tc : Thread nD τ).loc main_arg0) (ix2 t e)) (fun t e => m ((c.tc : Thread nD τ).loc main_arg1) (ix2 t e))
        (fun t e => m ((c.tc : Thread nD τ).loc main_arg2) (ix2 t e)) (fun t e => m ((c.tc : Thread nD τ).loc main_arg3) (ix2 t e))
        (fun t q => m ((c.tc : Thread nD τ).loc main_arg4) (ix2 t q)) (fun b j => m ((c.tc : Thread nD τ).loc main_arg5) (ix2 b j))
        (fun b e j => m ((c.tc : Thread nD τ).loc main_arg6) (ix3 b e j)) (fun j q => m ((c.tc : Thread nD τ).loc main_arg7) (ix2 j q))
        (fun t q => m ((c.tc : Thread nD τ).loc main_arg8) (ix2 t q)) (fun s q => m ((c.tc : Thread nD τ).loc main_arg9) (ix3 s 0 q)) t q := by
  unfold res_main_v57
  pointwise
  unfold merged branches gate seg
  by_cases ht : t.val < 512
  · simp only [dif_pos ht]
  · have et : ∀ h, (⟨512 + ((t.val - 512) / 16384 * 16384 + (t.val - 512) % 16384), h⟩ : Fin 33280) = t :=
      fun h => Fin.ext (by dsimp only; omega)
    simp only [dif_neg ht, et]

end Cert.Merge

end
-- ==== Proof.Merge.Claims.lean ====
/- The merge's claims: the frames and the value. -/
module

public import proofs.«01_k».proof.Defs
public import proofs.«01_k».proof.Proof.Gen.Kernel3
public import proofs.«01_k».proof.Proof.Gen.Kernel3.Frame
public import proofs.«01_k».proof.Proof.Merge.Kernel
public import proofs.«01_k».proof.Proof.Merge.Ref
public import Idealize.ShloMosaic.Adequacy
public import Idealize.ShloMosaic.Init

@[expose] public section

set_option maxRecDepth 16384

noncomputable section

namespace Cert.Merge

open Idealize.ShloMosaic Idealize.SL.Sem

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal := trivial

/-- The kernel's result is the reference's. -/
theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  obtain ⟨e0, e1, e2, e3, e4, e5, e6, e7, e8, e9⟩ := hagree c
  refine Eq.trans ?_ (kernel_value m c).symm
  funext i
  have ei : i = ix2 (i 0) (i 1) := by
    funext a
    fin_cases a <;> rfl
  refine (congrArg _ ei).trans ((ref_apply m' c (i 0) (i 1)).trans ?_)
  unfold ay0 ay1 ay2 ay3 ap ab aw av ax ag
  rw [← e0, ← e1, ← e2, ← e3, ← e4, ← e5, ← e6, ← e7, ← e8, ← e9]

end Cert.Merge

end
-- ==== Proof.Gates.Math.lean ====
/- The gates' projection: a token's normalised row against the sixteen gate columns, and zeros up to 128 columns. -/
module

public import proofs.«01_k».proof.Proof.Proj.Math
public import Idealize.ShloMosaic.Lib.KernelVsHost

@[expose] public section

noncomputable section

namespace Cert.Gates

open Idealize.ShloMosaic Cert.Proj

/-- The whole number zero is the zero the columns are padded with. -/
theorem pad_zero : (FloatOps.sitofp .f32 0#32 : Ideal .f32) = 0 := sitofp_zero

/-- The gates' weights, padded with columns of zeros. -/
def padded (wi : Fin 2048 → Fin 14352 → EReal) (k : Fin 2048) (q : Fin 128) : EReal :=
  if h : q.val < 16 then wi k ⟨3584 + q.val, by omega⟩ else 0

/-- The gates' projection of a token. -/
def gates (x : Fin 2 → Fin 16384 → Fin 2048 → EReal) (cl : Fin 2 → Fin 2048 → EReal) (ctx : Fin 2 → Fin 256 → Fin 2048 → EReal)
    (cc g : Fin 2048 → EReal) (w : Fin 2048 → Fin 12288 → EReal) (b : Fin 12288 → EReal) (wi : Fin 2048 → Fin 14352 → EReal)
    (t : Fin 33280) (q : Fin 128) : EReal :=
  if h : q.val < 16 then ∑ k, hrow x cl ctx cc g w b t k * wi k ⟨3584 + q.val, by omega⟩ else 0

/-- A column of zeros gives zero, whatever the row. -/
theorem sum_padded (f : Fin 2048 → EReal) (wi : Fin 2048 → Fin 14352 → EReal) (q : Fin 128) :
    ∑ k, f k * padded wi k q = if h : q.val < 16 then ∑ k, f k * wi k ⟨3584 + q.val, by omega⟩ else 0 := by
  unfold padded
  split
  · rfl
  · simp only [mul_zero, Finset.sum_const_zero]

end Cert.Gates

end
-- ==== Proof.Gates.Host.lean ====
/- What the gates' projection's host operations leave in the kernel's arrays, read at an element of the arguments. -/
module

public import proofs.«01_k».proof.Proof.Gen.Kernel4Ideal.Value
public import proofs.«01_k».proof.Proof.Gates.Math
public import Idealize.ShloMosaic.Lib.Pipeline.ValueKit
public import Idealize.ShloMosaic.Lib.Pointwise
public import Idealize.ShloMosaic.Lib.StableHlo.ReadAt
public import Idealize.ShloMosaic.Lib.StableHlo.RunRead
public import Idealize.ShloMosaic.Lib.Tactic.CleanTypes

@[expose] public section

set_option maxRecDepth 16384

noncomputable section

namespace Cert.Gates

open Cert.Proj Idealize.ShloMosaic Idealize.ShloMosaic.TcCoe Idealize.SL.Sem Cert.Kernel4Ideal Cert.Kernel4Ideal.Gen

variable (m : (ℓ : Loc nD τ sig) → Buf (Elt Ideal) ℓ) (c : Dev nD)

/-- The arguments by their coordinates. -/
def ax (b : Fin 2) (s : Fin 16384) (k : Fin 2048) : EReal := m ((c : Thread nD τ).loc main_arg0) (ix3 b s k)
def acl (b : Fin 2) (k : Fin 2048) : EReal := m ((c : Thread nD τ).loc main_arg1) (ix2 b k)
def actx (b : Fin 2) (s : Fin 256) (k : Fin 2048) : EReal := m ((c : Thread nD τ).loc main_arg2) (ix3 b s k)
def acc (k : Fin 2048) : EReal := m ((c : Thread nD τ).loc main_arg3) (ix1 k)
def ag (k : Fin 2048) : EReal := m ((c : Thread nD τ).loc main_arg4) (ix1 k)
def aw (k : Fin 2048) (q : Fin 12288) : EReal := m ((c : Thread nD τ).loc main_arg5) (ix2 k q)
def ab (q : Fin 12288) : EReal := m ((c : Thread nD τ).loc main_arg6) (ix1 q)
def awi (k : Fin 2048) (q : Fin 14352) : EReal := m ((c : Thread nD τ).loc main_arg7) (ix2 k q)

/-- The tokens' rows. -/
theorem rows_apply (t : Fin 33280) (k : Fin 2048) : V m c main_v2 (ix2 t k) = tokRow (ax m c) (actx m c) t k := by
  unfold V
  after_reads_simp
  pointwise
  unfold tokRow
  split <;> rfl

/-- The shift (part 0) and the scale (part 1) of a segment. -/
theorem mod_apply (s : Fin 3) (a : Fin 2) (k : Fin 2048) :
    V m c main_v11 (ix3 s a k) = ada (aw m c) (ab m c) (condRow (acl m c) (acc m c) s) ⟨a.val * 2048 + k.val, by omega⟩ := by
  unfold V
  after_reads_simp
  simp -implicitDefEqProofs only [StableHlo.TRef.toBuf, StableHlo.TRef.ofBuf, cast_cast, cast_eq, id]
  pointwise
  after_reads_simp
  pointwise
  unfold ada condRow
  by_cases h : s.val < 1
  · simp only [dif_pos h]; rfl
  · simp only [dif_neg h]; rfl

/-- The gates' weights. -/
theorem weight_apply (k : Fin 2048) (q : Fin 128) : V m c main_v13 (ix2 k q) = padded (awi m c) k q := by
  unfold V
  after_reads_simp
  simp -implicitDefEqProofs only [StableHlo.TRef.toBuf, StableHlo.TRef.ofBuf, cast_cast, cast_eq, id]
  pointwise
  unfold padded
  split
  · rfl
  · exact pad_zero

/-- The gains. -/
theorem gain_apply (k : Fin 2048) : V m c main_v14 (ix2 0 k) = ag m c k := by
  unfold V
  after_reads_simp
  pointwise
  rfl

end Cert.Gates

end
-- ==== Proof.Gates.Kernel.lean ====
/- The gates' projection kernel's array. -/
module

public import proofs.«01_k».proof.Proof.Gates.Host

@[expose] public section

set_option maxRecDepth 16384

noncomputable section

namespace Cert.Gates

open Cert.Proj Idealize.ShloMosaic Idealize.ShloMosaic.TcCoe Idealize.SL.Sem Cert.Kernel4Ideal Cert.Kernel4Ideal.Gen

variable (m : (ℓ : Loc nD τ sig) → Buf (Elt Ideal) ℓ) (c : Dev nD)

/-- The body's payload at an element. -/
theorem pay1_apply (x : Vec Ideal S512x2048 .f32) (g : Vec Ideal S1x2048 .f32) (s0 s1 : Vec Ideal S1x1x2048 .f32) (w : Vec Ideal S2048x128 .f32)
    (r : Fin 512) (q : Fin 128) :
    k0_pay1 (F := Ideal) x g s0 s1 w (ix2 r q)
      = ∑ k, normed (fun k => x (ix2 r k)) (fun k => g (ix2 0 k)) (fun k => s1 (ix3 0 0 k)) (fun k => s0 (ix3 0 0 k)) k * w (ix2 k q) := by
  unfold k0_pay1
  pointwise
  rfl

/-- Where the windows lie. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![if t.val < 1 then 0 else 1 + (t.val - 1) / 32, 0, 0] :=
  (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

theorem lt_N (t : Fin cfg0.N) : t.val < 65 := lt_of_lt_of_eq t.isLt N_0

/-- A row of a point's block as a token. -/
def rowTok (n : ℕ) (hn : n < 65) (r : Fin 512) : Fin 33280 := ⟨n * 512 + r.val, by omega⟩

theorem blk0 (t : Fin cfg0.N) (r : Fin 512) (k : Fin 2048) :
    (iblk m c 0 t : Vec Ideal S512x2048 .f32) (ix2 r k) = tokRow (ax m c) (actx m c) (rowTok t.val (lt_N t) r) k := by
  refine Eq.trans ?_ (rows_apply m c _ k)
  blk_simp [iblk]
  refine congrArg (V m c main_v2) ?_
  unfold rowTok
  blk_ext [idx0]

theorem blk1 (t : Fin cfg0.N) (k : Fin 2048) : (iblk m c 1 t : Vec Ideal S1x2048 .f32) (ix2 0 k) = ag m c k := by
  refine Eq.trans ?_ (gain_apply m c k)
  blk_simp [iblk]
  refine congrArg (V m c main_v14) ?_
  blk_ext [idx1]

theorem blk2 (t : Fin cfg0.N) (a : Fin 2) (r : Fin 512) (k : Fin 2048) :
    (iblk m c 2 t : Vec Ideal S1x2x2048 .f32) (ix3 0 a k)
      = ada (aw m c) (ab m c) (condRow (acl m c) (acc m c) (seg (rowTok t.val (lt_N t) r))) ⟨a.val * 2048 + k.val, by omega⟩ := by
  refine Eq.trans ?_ (mod_apply m c _ a k)
  blk_simp [iblk]
  refine congrArg (V m c main_v11) ?_
  have h := lt_N t
  have e : (seg (rowTok t.val (lt_N t) r)).val = if t.val < 1 then 0 else 1 + (t.val - 1) / 32 := by
    unfold seg rowTok
    dsimp only
    split <;> split
    · rfl
    · omega
    · omega
    · show 1 + (t.val * 512 + r.val - 512) / 16384 = _
      omega
  blk_ext [idx2, e]

theorem blk3 (t : Fin cfg0.N) (k : Fin 2048) (q : Fin 128) :
    (iblk m c 3 t : Vec Ideal S2048x128 .f32) (ix2 k q) = padded (awi m c) k q := by
  refine Eq.trans ?_ (weight_apply m c k q)
  blk_simp [iblk]
  refine congrArg (V m c main_v13) ?_
  blk_ext [idx3]

/-- The shift and the scale of a point's rows. -/
theorem scale_eq (t : Fin cfg0.N) (r : Fin 512) (k : Fin 2048) :
    View.ld (iblk m c 2 t : Vec Ideal S1x2x2048 .f32) (Rect.unit ![0, 1, 0] ![1, 1, 2048] inb_S1x2x2048_S1x1x2048_0_1_0) (ix3 0 0 k)
      = ada (aw m c) (ab m c) (condRow (acl m c) (acc m c) (seg (rowTok t.val (lt_N t) r))) ⟨2048 + k.val, by omega⟩ := by
  refine Eq.trans ?_ ((blk2 m c t 1 r k).trans (congrArg _ (Fin.ext (by show 1 * 2048 + k.val = 2048 + k.val; omega))))
  pointwise

theorem shift_eq (t : Fin cfg0.N) (r : Fin 512) (k : Fin 2048) :
    View.ld (iblk m c 2 t : Vec Ideal S1x2x2048 .f32) (Rect.unit ![0, 0, 0] ![1, 1, 2048] inb_S1x2x2048_S1x1x2048_0_0_0) (ix3 0 0 k)
      = ada (aw m c) (ab m c) (condRow (acl m c) (acc m c) (seg (rowTok t.val (lt_N t) r))) ⟨k.val, by omega⟩ := by
  refine Eq.trans ?_ ((blk2 m c t 0 r k).trans (congrArg _ (Fin.ext (by show 0 * 2048 + k.val = k.val; omega))))
  pointwise

/-- What a point leaves in its block. -/
theorem block_apply (t : Fin cfg0.N) (r : Fin 512) (q : Fin 128) :
    out0_4 (F := Ideal) (iblk m c 0 t) (iblk m c 1 t) (iblk m c 2 t) (iblk m c 3 t) (ix2 r q)
      = gates (ax m c) (acl m c) (actx m c) (acc m c) (ag m c) (aw m c) (ab m c) (awi m c) (rowTok t.val (lt_N t) r) q := by
  unfold gates
  refine Eq.trans ?_ (sum_padded (hrow (ax m c) (acl m c) (actx m c) (acc m c) (ag m c) (aw m c) (ab m c) (rowTok t.val (lt_N t) r)) (awi m c) q)
  frame_out
  rw [pay1_apply]
  unfold hrow
  simp only [blk0 m c t, blk1 m c t, blk3 m c t, scale_eq m c t r, shift_eq m c t r]

/-- The kernel's array 4: the gates' projection. -/
theorem kernel_value : (dats m 0 c).arrAt 4 cfg0.N = fun i => gates (ax m c) (acl m c) (actx m c) (acc m c) (ag m c) (aw m c) (ab m c) (awi m c) (i 0) (i 1) := by
  refine (dats m 0 c).arrAt_eq_of_covers 4 _ (by decide +kernel) fun t hf y => ?_
  blk_simp
  rw [after0_4]
  have ey : y = ix2 (y 0) (y 1) := by
    funext a
    fin_cases a <;> rfl
  have ee : (win0_4.blk t).view.emb y = ix2 (rowTok t.val (lt_N t) (y 0)) (y 1) := by
    unfold rowTok
    blk_ext [idx4]
  refine (congrArg _ ey).trans ((block_apply m c t (y 0) (y 1)).trans ?_)
  rw [ee]
  rfl

end Cert.Gates

end
-- ==== Proof.Gates.Ref.lean ====
/- The gates' projection's reference, read at an element of its arguments. -/
module

public import proofs.«01_k».proof.Proof.Gen.Reference4Ideal.Run
public import proofs.«01_k».proof.Proof.Gates.Math
public import Idealize.ShloMosaic.Lib.Pointwise
public import Idealize.ShloMosaic.Lib.StableHlo.ReadAt
public import Idealize.ShloMosaic.Lib.StableHlo.RunRead
public import Idealize.ShloMosaic.Lib.Tactic.CleanTypes

@[expose] public section

set_option maxRecDepth 16384

noncomputable section

namespace Cert.Gates

open Cert.Proj Idealize.ShloMosaic Idealize.ShloMosaic.TcCoe Idealize.SL.Sem Cert.Reference4Ideal Cert.Reference4Ideal.Gen
open Cert.Reference4Ideal.Value

variable (m : (ℓ : Loc nD τ sig) → Buf (Elt Ideal) ℓ) (c : Dev nD)

theorem ref_apply (t : Fin 33280) (q : Fin 128) : res_main_v67 (F := Ideal) m c (ix2 t q)
    = gates (fun b s k => m ((c.tc : Thread nD τ).loc main_arg0) (ix3 b s k)) (fun b k => m ((c.tc : Thread nD τ).loc main_arg1) (ix2 b k))
        (fun b s k => m ((c.tc : Thread nD τ).loc main_arg2) (ix3 b s k)) (fun k => m ((c.tc : Thread nD τ).loc main_arg3) (ix1 k))
        (fun k => m ((c.tc : Thread nD τ).loc main_arg4) (ix1 k)) (fun k q => m ((c.tc : Thread nD τ).loc main_arg5) (ix2 k q))
        (fun q => m ((c.tc : Thread nD τ).loc main_arg6) (ix1 q)) (fun k q => m ((c.tc : Thread nD τ).loc main_arg7) (ix2 k q)) t q := by
  unfold res_main_v67
  pointwise
  unfold gates hrow normed tokRow seg ada condRow
  have hs : ∀ b : ℕ, ¬ (1 + b) < 1 := fun b => by omega
  by_cases hq : q.val < 16
  · by_cases ht : t.val < 512
    · simp only [dif_pos hq, dif_pos ht]
      rfl
    · simp only [dif_pos hq, dif_neg ht, dif_neg (hs _), Nat.add_sub_cancel_left]
  · simp only [dif_neg hq]
    exact pad_zero

end Cert.Gates

end
-- ==== Proof.Gates.Claims.lean ====
/- The gates' projection's claims: the frames and the value. -/
module

public import proofs.«01_k».proof.Defs
public import proofs.«01_k».proof.Proof.Gen.Kernel4
public import proofs.«01_k».proof.Proof.Gen.Kernel4.Frame
public import proofs.«01_k».proof.Proof.Gates.Kernel
public import proofs.«01_k».proof.Proof.Gates.Ref
public import Idealize.ShloMosaic.Adequacy
public import Idealize.ShloMosaic.Init

@[expose] public section

set_option maxRecDepth 16384

noncomputable section

namespace Cert.Gates

open Idealize.ShloMosaic Idealize.SL.Sem

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem preserves : Cert.preserves_Kernel4_Kernel4Ideal := trivial

/-- The kernel's result is the reference's. -/
theorem algebraic : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨e0, e1, e2, e3, e4, e5, e6, e7⟩ := hagree c
  refine Eq.trans ?_ (kernel_value m c).symm
  funext i
  have ei : i = ix2 (i 0) (i 1) := by
    funext a
    fin_cases a <;> rfl
  refine (congrArg _ ei).trans ((ref_apply m' c (i 0) (i 1)).trans ?_)
  unfold ax acl actx acc ag aw ab awi
  rw [← e0, ← e1, ← e2, ← e3, ← e4, ← e5, ← e6, ← e7]

end Cert.Gates

end
-- ==== Proof.Router.Math.lean ====
/- The router's product: a token's row normalised and modulated for the feed-forward part, against the router's weights. -/
module

public import proofs.«01_k».proof.Proof.Proj.Math

@[expose] public section

noncomputable section

namespace Cert.Router

open Idealize.ShloMosaic Cert.Proj

/-- The normalised row of a token, under the second shift and scale of its segment. -/
def hrow2 (x : Fin 33280 → Fin 2048 → EReal) (cl : Fin 2 → Fin 2048 → EReal) (cc g : Fin 2048 → EReal)
    (w : Fin 2048 → Fin 12288 → EReal) (b : Fin 12288 → EReal) (t : Fin 33280) : Fin 2048 → EReal :=
  normed (x t) g (fun k => ada w b (condRow cl cc (seg t)) ⟨8192 + k.val, by omega⟩)
    (fun k => ada w b (condRow cl cc (seg t)) ⟨6144 + k.val, by omega⟩)

/-- A token's score of an expert, before the logistic function. -/
def logit (x : Fin 33280 → Fin 2048 → EReal) (cl : Fin 2 → Fin 2048 → EReal) (cc g : Fin 2048 → EReal)
    (w : Fin 2048 → Fin 12288 → EReal) (b : Fin 12288 → EReal) (r : Fin 2048 → Fin 128 → EReal) (t : Fin 33280) (q : Fin 128) :
    EReal :=
  ∑ k, hrow2 x cl cc g w b t k * r k q

end Cert.Router

end
-- ==== Proof.Router.Host.lean ====
/- What the router's host operations leave in the kernel's arrays, read at an element of the arguments. -/
module

public import proofs.«01_k».proof.Proof.Gen.Kernel5Ideal.Value
public import proofs.«01_k».proof.Proof.Router.Math
public import Idealize.ShloMosaic.Lib.Pipeline.ValueKit
public import Idealize.ShloMosaic.Lib.Pointwise
public import Idealize.ShloMosaic.Lib.StableHlo.ReadAt
public import Idealize.ShloMosaic.Lib.StableHlo.RunRead
public import Idealize.ShloMosaic.Lib.Tactic.CleanTypes

@[expose] public section

set_option maxRecDepth 16384

noncomputable section

namespace Cert.Router

open Cert.Proj Idealize.ShloMosaic Idealize.ShloMosaic.TcCoe Idealize.SL.Sem Cert.Kernel5Ideal Cert.Kernel5Ideal.Gen

variable (m : (ℓ : Loc nD τ sig) → Buf (Elt Ideal) ℓ) (c : Dev nD)

/-- The arguments by their coordinates. -/
def ax (t : Fin 33280) (k : Fin 2048) : EReal := m ((c : Thread nD τ).loc main_arg0) (ix2 t k)
def acl (b : Fin 2) (k : Fin 2048) : EReal := m ((c : Thread nD τ).loc main_arg1) (ix2 b k)
def acc (k : Fin 2048) : EReal := m ((c : Thread nD τ).loc main_arg2) (ix1 k)
def ag (k : Fin 2048) : EReal := m ((c : Thread nD τ).loc main_arg3) (ix1 k)
def aw (k : Fin 2048) (q : Fin 12288) : EReal := m ((c : Thread nD τ).loc main_arg4) (ix2 k q)
def ab (q : Fin 12288) : EReal := m ((c : Thread nD τ).loc main_arg5) (ix1 q)
def ar (k : Fin 2048) (q : Fin 128) : EReal := m ((c : Thread nD τ).loc main_arg6) (ix2 k q)

/-- The shift (part 0) and the scale (part 1) of a segment. -/
theorem mod_apply (s : Fin 3) (a : Fin 2) (k : Fin 2048) :
    V m c main_v8 (ix3 s a k) = ada (aw m c) (ab m c) (condRow (acl m c) (acc m c) s) ⟨(3 + a.val) * 2048 + k.val, by omega⟩ := by
  unfold V
  after_reads_simp
  simp -implicitDefEqProofs only [StableHlo.TRef.toBuf, StableHlo.TRef.ofBuf, cast_cast, cast_eq, id]
  pointwise
  after_reads_simp
  pointwise
  unfold ada condRow
  by_cases h : s.val < 1
  · simp only [dif_pos h]; rfl
  · simp only [dif_neg h]; rfl

/-- The gains. -/
theorem gain_apply (k : Fin 2048) : V m c main_v9 (ix2 0 k) = ag m c k := by
  unfold V
  after_reads_simp
  pointwise
  rfl

end Cert.Router

end
-- ==== Proof.Router.Kernel.lean ====
/- The router kernel's two arrays: the experts' scores and the normalised rows. -/
module

public import proofs.«01_k».proof.Proof.Router.Host

@[expose] public section

set_option maxRecDepth 16384

noncomputable section

namespace Cert.Router

open Cert.Proj Idealize.ShloMosaic Idealize.ShloMosaic.TcCoe Idealize.SL.Sem Cert.Kernel5Ideal Cert.Kernel5Ideal.Gen

variable (m : (ℓ : Loc nD τ sig) → Buf (Elt Ideal) ℓ) (c : Dev nD)

/-- The body's payloads at an element. -/
theorem pay1_apply (x : Vec Ideal S512x2048 .f32) (g : Vec Ideal S1x2048 .f32) (s0 s1 : Vec Ideal S1x1x2048 .f32) (r : Fin 512) (k : Fin 2048) :
    k0_pay1 (F := Ideal) x g s0 s1 (ix2 r k) = normed (fun k => x (ix2 r k)) (fun k => g (ix2 0 k)) (fun k => s1 (ix3 0 0 k)) (fun k => s0 (ix3 0 0 k)) k := by
  unfold k0_pay1
  pointwise
  rfl

theorem pay2_apply (x : Vec Ideal S512x2048 .f32) (g : Vec Ideal S1x2048 .f32) (s0 s1 : Vec Ideal S1x1x2048 .f32) (w : Vec Ideal S2048x128 .f32)
    (r : Fin 512) (q : Fin 128) :
    k0_pay2 (F := Ideal) x g s0 s1 w (ix2 r q) = ∑ k, k0_pay1 (F := Ideal) x g s0 s1 (ix2 r k) * w (ix2 k q) := by
  unfold k0_pay2
  pointwise

/-- Where the windows lie. -/
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![if t.val < 1 then 0 else 1 + (t.val - 1) / 32, 0, 0] :=
  (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem lt_N (t : Fin cfg0.N) : t.val < 65 := lt_of_lt_of_eq t.isLt N_0

/-- A row of a point's block as a token. -/
def rowTok (n : ℕ) (hn : n < 65) (r : Fin 512) : Fin 33280 := ⟨n * 512 + r.val, by omega⟩

theorem blk0 (t : Fin cfg0.N) (r : Fin 512) (k : Fin 2048) :
    (iblk m c 0 t : Vec Ideal S512x2048 .f32) (ix2 r k) = ax m c (rowTok t.val (lt_N t) r) k := by
  unfold ax
  rw [← V_main_arg0 m c]
  blk_simp [iblk]
  refine congrArg (V m c main_arg0) ?_
  unfold rowTok
  blk_ext [idx0]

theorem blk1 (t : Fin cfg0.N) (k : Fin 2048) : (iblk m c 1 t : Vec Ideal S1x2048 .f32) (ix2 0 k) = ag m c k := by
  refine Eq.trans ?_ (gain_apply m c k)
  blk_simp [iblk]
  refine congrArg (V m c main_v9) ?_
  blk_ext [idx1]

theorem blk2 (t : Fin cfg0.N) (a : Fin 2) (r : Fin 512) (k : Fin 2048) :
    (iblk m c 2 t : Vec Ideal S1x2x2048 .f32) (ix3 0 a k)
      = ada (aw m c) (ab m c) (condRow (acl m c) (acc m c) (seg (rowTok t.val (lt_N t) r))) ⟨(3 + a.val) * 2048 + k.val, by omega⟩ := by
  refine Eq.trans ?_ (mod_apply m c _ a k)
  blk_simp [iblk]
  refine congrArg (V m c main_v8) ?_
  have h := lt_N t
  have e : (seg (rowTok t.val (lt_N t) r)).val = if t.val < 1 then 0 else 1 + (t.val - 1) / 32 := by
    unfold seg rowTok
    dsimp only
    split <;> split
    · rfl
    · omega
    · omega
    · show 1 + (t.val * 512 + r.val - 512) / 16384 = _
      omega
  blk_ext [idx2, e]

theorem blk3 (t : Fin cfg0.N) (k : Fin 2048) (q : Fin 128) :
    (iblk m c 3 t : Vec Ideal S2048x128 .f32) (ix2 k q) = ar m c k q := by
  unfold ar
  rw [← V_main_arg6 m c]
  blk_simp [iblk]
  refine congrArg (V m c main_arg6) ?_
  blk_ext [idx3]

/-- The shift and the scale of a point's rows. -/
theorem scale_eq (t : Fin cfg0.N) (r : Fin 512) (k : Fin 2048) :
    View.ld (iblk m c 2 t : Vec Ideal S1x2x2048 .f32) (Rect.unit ![0, 1, 0] ![1, 1, 2048] inb_S1x2x2048_S1x1x2048_0_1_0) (ix3 0 0 k)
      = ada (aw m c) (ab m c) (condRow (acl m c) (acc m c) (seg (rowTok t.val (lt_N t) r))) ⟨8192 + k.val, by omega⟩ := by
  refine Eq.trans ?_ ((blk2 m c t 1 r k).trans (congrArg _ (Fin.ext (by show (3 + 1) * 2048 + k.val = 8192 + k.val; omega))))
  pointwise

theorem shift_eq (t : Fin cfg0.N) (r : Fin 512) (k : Fin 2048) :
    View.ld (iblk m c 2 t : Vec Ideal S1x2x2048 .f32) (Rect.unit ![0, 0, 0] ![1, 1, 2048] inb_S1x2x2048_S1x1x2048_0_0_0) (ix3 0 0 k)
      = ada (aw m c) (ab m c) (condRow (acl m c) (acc m c) (seg (rowTok t.val (lt_N t) r))) ⟨6144 + k.val, by omega⟩ := by
  refine Eq.trans ?_ ((blk2 m c t 0 r k).trans (congrArg _ (Fin.ext (by show (3 + 0) * 2048 + k.val = 6144 + k.val; omega))))
  pointwise

/-- The normalised rows of a point's row block. -/
theorem pay1_eq (t : Fin cfg0.N) (r : Fin 512) (k : Fin 2048) :
    k0_pay1 (F := Ideal) (iblk m c 0 t) (iblk m c 1 t)
        (View.ld (iblk m c 2 t) (Rect.unit ![0, 0, 0] ![1, 1, 2048] inb_S1x2x2048_S1x1x2048_0_0_0))
        (View.ld (iblk m c 2 t) (Rect.unit ![0, 1, 0] ![1, 1, 2048] inb_S1x2x2048_S1x1x2048_0_1_0)) (ix2 r k)
      = hrow2 (ax m c) (acl m c) (acc m c) (ag m c) (aw m c) (ab m c) (rowTok t.val (lt_N t) r) k := by
  rw [pay1_apply]
  unfold hrow2
  simp only [blk0 m c t, blk1 m c t, scale_eq m c t r, shift_eq m c t r]

/-- What a point leaves in its two blocks. -/
theorem logits_apply (t : Fin cfg0.N) (r : Fin 512) (q : Fin 128) :
    out0_4 (F := Ideal) (iblk m c 0 t) (iblk m c 1 t) (iblk m c 2 t) (iblk m c 3 t) (ix2 r q)
      = logit (ax m c) (acl m c) (acc m c) (ag m c) (aw m c) (ab m c) (ar m c) (rowTok t.val (lt_N t) r) q := by
  unfold logit
  frame_out
  rw [pay2_apply]
  exact Finset.sum_congr rfl fun k _ => congrArg₂ (· * ·) (pay1_eq m c t r k) (blk3 m c t k q)

theorem rows_apply (t : Fin cfg0.N) (r : Fin 512) (k : Fin 2048) :
    out0_5 (F := Ideal) (iblk m c 0 t) (iblk m c 1 t) (iblk m c 2 t) (iblk m c 3 t) (ix2 r k)
      = hrow2 (ax m c) (acl m c) (acc m c) (ag m c) (aw m c) (ab m c) (rowTok t.val (lt_N t) r) k := by
  frame_out
  exact pay1_eq m c t r k

/-- The kernel's array 4: the experts' scores. -/
theorem logits_value : (dats m 0 c).arrAt 4 cfg0.N = fun i => logit (ax m c) (acl m c) (acc m c) (ag m c) (aw m c) (ab m c) (ar m c) (i 0) (i 1) := by
  refine (dats m 0 c).arrAt_eq_of_covers 4 _ (by decide +kernel) fun t hf y => ?_
  blk_simp
  rw [after0_4]
  have ey : y = ix2 (y 0) (y 1) := by
    funext a
    fin_cases a <;> rfl
  have ee : (win0_4.blk t).view.emb y = ix2 (rowTok t.val (lt_N t) (y 0)) (y 1) := by
    unfold rowTok
    blk_ext [idx4]
  refine (congrArg _ ey).trans ((logits_apply m c t (y 0) (y 1)).trans ?_)
  rw [ee]
  rfl

/-- The kernel's array 5: the normalised rows. -/
theorem rows_value : (dats m 0 c).arrAt 5 cfg0.N = fun i => hrow2 (ax m c) (acl m c) (acc m c) (ag m c) (aw m c) (ab m c) (i 0) (i 1) := by
  refine (dats m 0 c).arrAt_eq_of_covers 5 _ (by decide +kernel) fun t hf y => ?_
  blk_simp
  rw [after0_5]
  have ey : y = ix2 (y 0) (y 1) := by
    funext a
    fin_cases a <;> rfl
  have ee : (win0_5.blk t).view.emb y = ix2 (rowTok t.val (lt_N t) (y 0)) (y 1) := by
    unfold rowTok
    blk_ext [idx5]
  refine (congrArg _ ey).trans ((rows_apply m c t (y 0) (y 1)).trans ?_)
  rw [ee]
  rfl

end Cert.Router

end
-- ==== Proof.Router.Ref.lean ====
/- The router's reference, read at an element of its arguments. -/
module

public import proofs.«01_k».proof.Proof.Gen.Reference5Ideal.Run
public import proofs.«01_k».proof.Proof.Router.Math
public import Idealize.ShloMosaic.Lib.Pointwise
public import Idealize.ShloMosaic.Lib.StableHlo.ReadAt
public import Idealize.ShloMosaic.Lib.StableHlo.RunRead
public import Idealize.ShloMosaic.Lib.Tactic.CleanTypes

@[expose] public section

set_option maxRecDepth 16384

noncomputable section

namespace Cert.Router

open Cert.Proj Idealize.ShloMosaic Idealize.ShloMosaic.TcCoe Idealize.SL.Sem Cert.Reference5Ideal Cert.Reference5Ideal.Gen
open Cert.Reference5Ideal.Value

variable (m : (ℓ : Loc nD τ sig) → Buf (Elt Ideal) ℓ) (c : Dev nD)

theorem rows_ref (t : Fin 33280) (k : Fin 2048) : res_main_v67 (F := Ideal) m c (ix2 t k)
    = hrow2 (fun t k => m ((c.tc : Thread nD τ).loc main_arg0) (ix2 t k)) (fun b k => m ((c.tc : Thread nD τ).loc main_arg1) (ix2 b k))
        (fun k => m ((c.tc : Thread nD τ).loc main_arg2) (ix1 k)) (fun k => m ((c.tc : Thread nD τ).loc main_arg3) (ix1 k))
        (fun k q => m ((c.tc : Thread nD τ).loc main_arg4) (ix2 k q)) (fun q => m ((c.tc : Thread nD τ).loc main_arg5) (ix1 q)) t k := by
  unfold res_main_v67
  pointwise
  unfold hrow2 normed seg ada condRow
  have hs : ∀ b : ℕ, ¬ (1 + b) < 1 := fun b => by omega
  by_cases ht : t.val < 512
  · simp only [dif_pos ht, Nat.div_add_mod']
    rfl
  · simp only [dif_neg ht, dif_neg (hs _), Nat.add_sub_cancel_left, Nat.div_add_mod', Nat.add_sub_cancel' (not_lt.mp ht)]

theorem logits_ref (t : Fin 33280) (q : Fin 128) : res_main_v68 (F := Ideal) m c (ix2 t q)
    = logit (fun t k => m ((c.tc : Thread nD τ).loc main_arg0) (ix2 t k)) (fun b k => m ((c.tc : Thread nD τ).loc main_arg1) (ix2 b k))
        (fun k => m ((c.tc : Thread nD τ).loc main_arg2) (ix1 k)) (fun k => m ((c.tc : Thread nD τ).loc main_arg3) (ix1 k))
        (fun k q => m ((c.tc : Thread nD τ).loc main_arg4) (ix2 k q)) (fun q => m ((c.tc : Thread nD τ).loc main_arg5) (ix1 q))
        (fun k q => m ((c.tc : Thread nD τ).loc main_arg6) (ix2 k q)) t q := by
  unfold res_main_v68
  pointwise
  unfold logit hrow2 normed seg ada condRow
  have hs : ∀ b : ℕ, ¬ (1 + b) < 1 := fun b => by omega
  by_cases ht : t.val < 512
  · simp only [dif_pos ht, Nat.div_add_mod']
    rfl
  · simp only [dif_neg ht, dif_neg (hs _), Nat.add_sub_cancel_left, Nat.div_add_mod', Nat.add_sub_cancel' (not_lt.mp ht)]

end Cert.Router

end
-- ==== Proof.Router.Claims.lean ====
/- The router's claims: the frames and the value. -/
module

public import proofs.«01_k».proof.Defs
public import proofs.«01_k».proof.Proof.Gen.Kernel5
public import proofs.«01_k».proof.Proof.Gen.Kernel5.Frame
public import proofs.«01_k».proof.Proof.Router.Kernel
public import proofs.«01_k».proof.Proof.Router.Ref
public import Idealize.ShloMosaic.Adequacy
public import Idealize.ShloMosaic.Init

@[expose] public section

set_option maxRecDepth 16384

noncomputable section

namespace Cert.Router

open Idealize.ShloMosaic Idealize.SL.Sem

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

theorem preserves : Cert.preserves_Kernel5_Kernel5Ideal := trivial

/-- The kernel's two results are the reference's. -/
theorem algebraic : Cert.algebraic_Kernel5Ideal_Reference5Ideal := by
  intro m ρ m' ρ' _ hagree
  refine ⟨_, _, Cert.Kernel5Ideal.Value.run_blocks (F := Ideal) m ρ, ?_⟩
  refine (θ_run Cert.Reference5Ideal.defs _ _).mono (fun _ h c => ⟨(h c).1.trans ?_, (h c).2.1.trans ?_, (h c).2.2⟩)
    (Cert.Reference5Ideal.Value.run (F := Ideal) m' ρ')
  · obtain ⟨e0, e1, e2, e3, e4, e5, e6⟩ := hagree c
    refine Eq.trans ?_ (logits_value m c).symm
    funext i
    have ei : i = ix2 (i 0) (i 1) := by
      funext a
      fin_cases a <;> rfl
    refine (congrArg _ ei).trans ((logits_ref m' c (i 0) (i 1)).trans ?_)
    unfold ax acl acc ag aw ab ar
    rw [← e0, ← e1, ← e2, ← e3, ← e4, ← e5, ← e6]
  · obtain ⟨e0, e1, e2, e3, e4, e5, _⟩ := hagree c
    refine Eq.trans ?_ (rows_value m c).symm
    funext i
    have ei : i = ix2 (i 0) (i 1) := by
      funext a
      fin_cases a <;> rfl
    refine (congrArg _ ei).trans ((rows_ref m' c (i 0) (i 1)).trans ?_)
    unfold ax acl acc ag aw ab
    rw [← e0, ← e1, ← e2, ← e3, ← e4, ← e5]

end Cert.Router

end
-- ==== Proof.Conv.Math.lean ====
/- The centred convolution over three neighbours in a batch's sequence of latent tokens, on the columns of the long
   convolutions. -/
module

public import Idealize.ShloMosaic.Lib.Pointwise

@[expose] public section

noncomputable section

namespace Cert.Conv

open Idealize.ShloMosaic

/-- The neighbour before a latent token, zero at the start of its batch. -/
def before (p : Fin 33280 → Fin 14336 → EReal) (i : Fin 32768) (q : Fin 1536) : EReal :=
  if h : i.val % 16384 = 0 then 0 else p ⟨512 + (i.val - 1), by omega⟩ ⟨4608 + q.val, by omega⟩

/-- The latent token itself. -/
def here (p : Fin 33280 → Fin 14336 → EReal) (i : Fin 32768) (q : Fin 1536) : EReal :=
  p ⟨512 + i.val, by omega⟩ ⟨4608 + q.val, by omega⟩

/-- The neighbour after a latent token, zero at the end of its batch. -/
def after (p : Fin 33280 → Fin 14336 → EReal) (i : Fin 32768) (q : Fin 1536) : EReal :=
  if h : i.val % 16384 = 16383 then 0 else p ⟨512 + (i.val + 1), by omega⟩ ⟨4608 + q.val, by omega⟩

/-- The convolution at a latent token. -/
def conv (p : Fin 33280 → Fin 14336 → EReal) (w : Fin 3 → Fin 1536 → EReal) (b : Fin 1536 → EReal) (i : Fin 32768)
    (q : Fin 1536) : EReal :=
  b q + before p i q * w 0 q + here p i q * w 1 q + after p i q * w 2 q

/-- A third of the convolution's columns. -/
def part (p : Fin 33280 → Fin 14336 → EReal) (w : Fin 3 → Fin 1536 → EReal) (b : Fin 1536 → EReal) (o : Fin 3) (i : Fin 32768)
    (q : Fin 512) : EReal :=
  conv p w b i ⟨o.val * 512 + q.val, by omega⟩

end Cert.Conv

end
-- ==== Proof.Conv.Kernel.lean ====
/- The convolution kernel's three arrays. -/
module

public import proofs.«01_k».proof.Proof.Conv.Math
public import proofs.«01_k».proof.Proof.Gen.Kernel6Ideal.Value
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.StableHlo.RunRead
public import Idealize.ShloMosaic.Lib.Tactic.CleanTypes

@[expose] public section

set_option maxRecDepth 16384

noncomputable section

namespace Cert.Conv

open Idealize.ShloMosaic Idealize.ShloMosaic.TcCoe Idealize.SL.Sem Cert.Kernel6Ideal Cert.Kernel6Ideal.Gen

variable (m : (ℓ : Loc nD τ sig) → Buf (Elt Ideal) ℓ) (c : Dev nD)

def ap (t : Fin 33280) (q : Fin 14336) : EReal := m ((c : Thread nD τ).loc main_arg0) (ix2 t q)
def aw (j : Fin 3) (q : Fin 1536) : EReal := m ((c : Thread nD τ).loc main_arg1) (ix2 j q)
def ab (q : Fin 1536) : EReal := m ((c : Thread nD τ).loc main_arg2) (ix1 q)

/-- The bias as a row. -/
theorem bias_apply (q : Fin 1536) : V m c main_v0 (ix2 0 q) = ab m c q := by
  unfold V
  after_reads_simp
  pointwise
  rfl

/-- Where the windows lie. -/
theorem idx0 : ∀ t : Fin cfg0.N, win0_0.index t = ![1 + t.val, 3] := (by decide +kernel : ∀ t : Fin grid0.N, _)
theorem idx1 : ∀ t : Fin cfg0.N, win0_1.index t = ![(1 + t.val) * 64 - 1, 3] := (by decide +kernel : ∀ t : Fin grid0.N, _)
theorem idx2 : ∀ t : Fin cfg0.N, win0_2.index t = ![min ((2 + t.val) * 64) 4159, 3] :=
  (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- A point's place in its batch. -/
theorem coord1 : ∀ t : Fin cfg0.N, (grid0.coords t 1).val = t.val % 32 := (by decide +kernel : ∀ t : Fin grid0.N, _)

theorem lt_N (t : Fin cfg0.N) : t.val < 64 := lt_of_lt_of_eq t.isLt N_0

/-- A row of a point's block as a latent token. -/
def rowTok (n : ℕ) (hn : n < 64) (r : Fin 512) : Fin 32768 := ⟨n * 512 + r.val, by omega⟩

theorem blk0 (t : Fin cfg0.N) (r : Fin 512) (q : Fin 1536) :
    (X0_0 m c t : Vec Ideal S512x1536 .f32) (ix2 r q) = here (ap m c) (rowTok t.val (lt_N t) r) q := by
  unfold here ap X0_0 Pipeline.Window.fill
  rw [← V_main_arg0 m c, dif_pos (moved0_0 t _)]
  blk_simp [iblk]
  refine congrArg (V m c main_arg0) ?_
  unfold rowTok
  blk_ext [idx0]

theorem blk1 (t : Fin cfg0.N) (r : Fin 8) (q : Fin 1536) :
    (X0_1 m c t : Vec Ideal S8x1536 .f32) (ix2 r q)
      = ap m c ⟨((1 + t.val) * 64 - 1) * 8 + r.val, by have := lt_N t; omega⟩ ⟨4608 + q.val, by omega⟩ := by
  unfold ap X0_1 Pipeline.Window.fill
  rw [← V_main_arg0 m c, dif_pos (moved0_1 t _)]
  blk_simp [iblk]
  refine congrArg (V m c main_arg0) ?_
  blk_ext [idx1]

theorem blk2 (t : Fin cfg0.N) (r : Fin 8) (q : Fin 1536) :
    (X0_2 m c t : Vec Ideal S8x1536 .f32) (ix2 r q)
      = ap m c ⟨min ((2 + t.val) * 64) 4159 * 8 + r.val, by have := lt_N t; omega⟩ ⟨4608 + q.val, by omega⟩ := by
  unfold ap X0_2 Pipeline.Window.fill
  rw [← V_main_arg0 m c, dif_pos (moved0_2 t _)]
  blk_simp [iblk]
  refine congrArg (V m c main_arg0) ?_
  blk_ext [idx2]

theorem blk3 (t : Fin cfg0.N) (j : Fin 3) (q : Fin 1536) : (iblk m c 3 t : Vec Ideal S3x1536 .f32) (ix2 j q) = aw m c j q := by
  unfold aw
  rw [← V_main_arg1 m c]
  blk_simp [iblk]
  refine congrArg (V m c main_arg1) ?_
  blk_ext [idx3]

theorem blk4 (t : Fin cfg0.N) (q : Fin 1536) : (iblk m c 4 t : Vec Ideal S1x1536 .f32) (ix2 0 q) = ab m c q := by
  refine Eq.trans ?_ (bias_apply m c q)
  blk_simp [iblk]
  refine congrArg (V m c main_v0) ?_
  blk_ext [idx4]

/-- The body's comparisons of row numbers and of grid coordinates. -/
theorem cmp_first : ∀ r : Fin 512, IntOp.cmpi .eq (BitVec.ofNat 32 r.val) 0#32 = if r.val = 0 then 1#1 else 0#1 := by decide +kernel
theorem cmp_last : ∀ r : Fin 512, IntOp.cmpi .eq (BitVec.ofNat 32 r.val) 511#32 = if r.val = 511 then 1#1 else 0#1 := by
  decide +kernel
theorem cmp_start : ∀ n : Fin 32, Scalar.cmpi .sgt (BitVec.ofNat 32 n.val) 0#32 = if n.val = 0 then 0#1 else 1#1 := by decide +kernel
theorem cmp_end : ∀ n : Fin 32, Scalar.cmpi .slt (BitVec.ofNat 32 n.val) 31#32 = if n.val = 31 then 0#1 else 1#1 := by
  decide +kernel

/-- The row before, as the body finds it: rotated within the block, from the block before, or zero. -/
theorem before_eq (t : Fin cfg0.N) (r : Fin 512) (q : Fin 1536) :
    Scalar.select (α := EReal) (IntOp.cmpi .eq (BitVec.ofNat 32 r.val) 0#32)
        (Scalar.select (α := EReal) (Scalar.cmpi .sgt (BitVec.ofNat 32 (grid0.coords t 1).val) 0#32)
          ((X0_1 m c t : Vec Ideal S8x1536 .f32) (ix2 7 q)) 0)
        ((X0_0 m c t : Vec Ideal S512x1536 .f32) (ix2 ⟨(r.val + 512 - 1) % 512, Nat.mod_lt _ (by omega)⟩ q))
      = before (ap m c) (rowTok t.val (lt_N t) r) q := by
  have hN := lt_N t
  rw [coord1 t, cmp_first r, cmp_start ⟨t.val % 32, Nat.mod_lt _ (by omega)⟩, blk0 m c t, blk1 m c t]
  unfold before here rowTok Scalar.select
  dsimp only
  by_cases hr : r.val = 0
  · by_cases ht : t.val % 32 = 0
    · rw [dif_pos (by omega)]
      simp [hr, ht]
    · rw [dif_neg (by omega)]
      simp only [hr, ht, if_true, if_false]
      exact congrArg (fun k => ap m c k _) (Fin.ext (by show ((1 + t.val) * 64 - 1) * 8 + 7 = 512 + (t.val * 512 + 0 - 1); omega))
  · rw [dif_neg (by omega)]
    simp only [hr, if_false]
    exact congrArg (fun k => ap m c k _) (Fin.ext (by
      show 512 + (t.val * 512 + (r.val + 512 - 1) % 512) = 512 + (t.val * 512 + r.val - 1)
      omega))

/-- The row after. -/
theorem after_eq (t : Fin cfg0.N) (r : Fin 512) (q : Fin 1536) :
    Scalar.select (α := EReal) (IntOp.cmpi .eq (BitVec.ofNat 32 r.val) 511#32)
        (Scalar.select (α := EReal) (Scalar.cmpi .slt (BitVec.ofNat 32 (grid0.coords t 1).val) 31#32)
          ((X0_2 m c t : Vec Ideal S8x1536 .f32) (ix2 0 q)) 0)
        ((X0_0 m c t : Vec Ideal S512x1536 .f32) (ix2 ⟨(r.val + 512 - 511) % 512, Nat.mod_lt _ (by omega)⟩ q))
      = after (ap m c) (rowTok t.val (lt_N t) r) q := by
  have hN := lt_N t
  rw [coord1 t, cmp_last r, cmp_end ⟨t.val % 32, Nat.mod_lt _ (by omega)⟩, blk0 m c t, blk2 m c t]
  unfold after here rowTok Scalar.select
  dsimp only
  by_cases hr : r.val = 511
  · by_cases ht : t.val % 32 = 31
    · rw [dif_pos (by omega)]
      simp [hr, ht]
    · rw [dif_neg (by omega)]
      simp only [hr, ht, if_true, if_false]
      exact congrArg (fun k => ap m c k _) (Fin.ext (by
        show min ((2 + t.val) * 64) 4159 * 8 + 0 = 512 + (t.val * 512 + 511 + 1)
        omega))
  · rw [dif_neg (by omega)]
    simp only [hr, if_false]
    exact congrArg (fun k => ap m c k _) (Fin.ext (by
      show 512 + (t.val * 512 + (r.val + 512 - 511) % 512) = 512 + (t.val * 512 + r.val + 1)
      omega))

/-- The body's sum at an element of a point's block. -/
theorem sum_eq (t : Fin cfg0.N) (r : Fin 512) (q : Fin 1536) :
    k0_pay1 (F := Ideal)
        (k0_pay5 (grid0.coords t) (X0_0 m c t) (View.ld (X0_2 m c t) (Rect.unit ![0, 0] ![1, 1536] inb_S8x1536_S1x1536_0_0)))
        (k0_pay6 (grid0.coords t) (X0_0 m c t) (View.ld (X0_1 m c t) (Rect.unit ![7, 0] ![1, 1536] inb_S8x1536_S1x1536_7_0))
          (iblk m c 4 t) (View.ld (iblk m c 3 t) (Rect.unit ![0, 0] ![1, 1536] inb_S3x1536_S1x1536_0_0))
          (View.ld (iblk m c 3 t) (Rect.unit ![1, 0] ![1, 1536] inb_S3x1536_S1x1536_1_0)))
        (View.ld (iblk m c 3 t) (Rect.unit ![2, 0] ![1, 1536] inb_S3x1536_S1x1536_2_0)) (ix2 r q)
      = conv (ap m c) (aw m c) (ab m c) (rowTok t.val (lt_N t) r) q := by
  unfold conv
  rw [← before_eq m c t r q, ← after_eq m c t r q, ← blk0 m c t r q, ← blk4 m c t q, ← blk3 m c t 0 q, ← blk3 m c t 1 q,
    ← blk3 m c t 2 q]
  unfold k0_pay1 k0_pay5 k0_pay6
  pointwise

/-- What a point leaves in its first block, and the kernel's first array. -/
theorem first_apply (t : Fin cfg0.N) (r : Fin 512) (q : Fin 512) :
    (outsAt0 m c t).1 (ix2 r q) = part (ap m c) (aw m c) (ab m c) 0 (rowTok t.val (lt_N t) r) q := by
  refine Eq.trans ?_ (sum_eq m c t r ⟨0 * 512 + q.val, by omega⟩)
  unfold outsAt0
  dsimp only
  frame_out
  unfold k0_pay2
  generalize k0_pay1 (F := Ideal) _ _ _ = z
  pointwise

theorem first_value : (dats m 0 c).arrAt 5 cfg0.N = fun i => part (ap m c) (aw m c) (ab m c) 0 (i 0) (i 1) := by
  refine (dats m 0 c).arrAt_eq_of_covers 5 _ (by decide +kernel) fun t hf y => ?_
  blk_simp
  rw [after0_5]
  have ey : y = ix2 (y 0) (y 1) := by
    funext a
    fin_cases a <;> rfl
  have ee : (win0_5.blk t).view.emb y = ix2 (rowTok t.val (lt_N t) (y 0)) (y 1) := by
    unfold rowTok
    blk_ext [idx5]
  refine (congrArg _ ey).trans ((first_apply m c t (y 0) (y 1)).trans ?_)
  rw [ee]
  rfl

/-- What a point leaves in its second block, and the kernel's second array. -/
theorem second_apply (t : Fin cfg0.N) (r : Fin 512) (q : Fin 512) :
    (outsAt0 m c t).2.1 (ix2 r q) = part (ap m c) (aw m c) (ab m c) 1 (rowTok t.val (lt_N t) r) q := by
  refine Eq.trans ?_ (sum_eq m c t r ⟨1 * 512 + q.val, by omega⟩)
  unfold outsAt0
  dsimp only
  frame_out
  unfold k0_pay3
  generalize k0_pay1 (F := Ideal) _ _ _ = z
  pointwise

theorem second_value : (dats m 0 c).arrAt 6 cfg0.N = fun i => part (ap m c) (aw m c) (ab m c) 1 (i 0) (i 1) := by
  refine (dats m 0 c).arrAt_eq_of_covers 6 _ (by decide +kernel) fun t hf y => ?_
  blk_simp
  rw [after0_6]
  have ey : y = ix2 (y 0) (y 1) := by
    funext a
    fin_cases a <;> rfl
  have ee : (win0_6.blk t).view.emb y = ix2 (rowTok t.val (lt_N t) (y 0)) (y 1) := by
    unfold rowTok
    blk_ext [idx6]
  refine (congrArg _ ey).trans ((second_apply m c t (y 0) (y 1)).trans ?_)
  rw [ee]
  rfl

/-- What a point leaves in its third block, and the kernel's third array. -/
theorem third_apply (t : Fin cfg0.N) (r : Fin 512) (q : Fin 512) :
    (outsAt0 m c t).2.2 (ix2 r q) = part (ap m c) (aw m c) (ab m c) 2 (rowTok t.val (lt_N t) r) q := by
  refine Eq.trans ?_ (sum_eq m c t r ⟨2 * 512 + q.val, by omega⟩)
  unfold outsAt0
  dsimp only
  frame_out
  unfold k0_pay4
  generalize k0_pay1 (F := Ideal) _ _ _ = z
  pointwise

theorem third_value : (dats m 0 c).arrAt 7 cfg0.N = fun i => part (ap m c) (aw m c) (ab m c) 2 (i 0) (i 1) := by
  refine (dats m 0 c).arrAt_eq_of_covers 7 _ (by decide +kernel) fun t hf y => ?_
  blk_simp
  rw [after0_7]
  have ey : y = ix2 (y 0) (y 1) := by
    funext a
    fin_cases a <;> rfl
  have ee : (win0_7.blk t).view.emb y = ix2 (rowTok t.val (lt_N t) (y 0)) (y 1) := by
    unfold rowTok
    blk_ext [idx7]
  refine (congrArg _ ey).trans ((third_apply m c t (y 0) (y 1)).trans ?_)
  rw [ee]
  rfl

end Cert.Conv

end
-- ==== Proof.Conv.Ref.lean ====
/- The convolution's reference, read at an element of its arguments. -/
module

public import proofs.«01_k».proof.Proof.Gen.Reference6Ideal.Run
public import proofs.«01_k».proof.Proof.Conv.Math
public import Idealize.ShloMosaic.Lib.KernelVsHost
public import Idealize.ShloMosaic.Lib.Pointwise
public import Idealize.ShloMosaic.Lib.StableHlo.ReadAt
public import Idealize.ShloMosaic.Lib.StableHlo.RunRead
public import Idealize.ShloMosaic.Lib.Tactic.CleanTypes

@[expose] public section

set_option maxRecDepth 16384

noncomputable section

namespace Cert.Conv

open Idealize.ShloMosaic Idealize.ShloMosaic.TcCoe Idealize.SL.Sem Cert.Reference6Ideal Cert.Reference6Ideal.Gen

variable (m : (ℓ : Loc nD τ sig) → Buf (Elt Ideal) ℓ) (c : Dev nD)

def rp (t : Fin 33280) (q : Fin 14336) : EReal := m ((c.tc : Thread nD τ).loc main_arg0) (ix2 t q)
def rk (j : Fin 3) (q : Fin 1536) : EReal := m ((c.tc : Thread nD τ).loc main_arg1) (ix2 j q)
def rb (q : Fin 1536) : EReal := m ((c.tc : Thread nD τ).loc main_arg2) (ix1 q)

/-- The sequences with a row of zeros at either end. -/
def paddedTerm : Vec Ideal S2x16386x1536 .f32 :=
  pad S2x16386x1536 ![0, 1, 0] ![0, 1, 0] ![0, 0, 0]
    (shapeCast _ (extractStridedSlice S32768x1536 ![512, 4608] (m ((c.tc : Thread nD τ).loc main_arg0))
      slices_S33280x14336_S32768x1536_512_4608) shapeCasts_S32768x1536_S2x16384x1536)
    (sitofp (F := Ideal) .f32 (constantI S_ 32 0#32)) pads_S2x16384x1536_S2x16386x1536_000_110_000 h_S_

/-- A tap's product. -/
def tap0 : FVec Ideal S2x16384x1536 .f32 :=
  mulf (extractStridedSlice S2x16384x1536 ![0, 0, 0] (paddedTerm m c) slices_S2x16386x1536_S2x16384x1536_0_0_0)
    (broadcastInDim S2x16384x1536 ![0, 1, 2] bcast_S1x1x1536_S2x16384x1536_0_1_2
      (broadcastInDim S1x1x1536 ![2] bcast_S1536_S1x1x1536_2
        (shapeCast _ (extractStridedSlice S1x1536 ![0, 0] (m ((c.tc : Thread nD τ).loc main_arg1)) slices_S3x1536_S1x1536_0_0)
          shapeCasts_S1x1536_S1536)))

/-- A tap's product. -/
def tap1 : FVec Ideal S2x16384x1536 .f32 :=
  mulf (extractStridedSlice S2x16384x1536 ![0, 1, 0] (paddedTerm m c) slices_S2x16386x1536_S2x16384x1536_0_1_0)
    (broadcastInDim S2x16384x1536 ![0, 1, 2] bcast_S1x1x1536_S2x16384x1536_0_1_2
      (broadcastInDim S1x1x1536 ![2] bcast_S1536_S1x1x1536_2
        (shapeCast _ (extractStridedSlice S1x1536 ![1, 0] (m ((c.tc : Thread nD τ).loc main_arg1)) slices_S3x1536_S1x1536_1_0)
          shapeCasts_S1x1536_S1536)))

/-- A tap's product. -/
def tap2 : FVec Ideal S2x16384x1536 .f32 :=
  mulf (extractStridedSlice S2x16384x1536 ![0, 2, 0] (paddedTerm m c) slices_S2x16386x1536_S2x16384x1536_0_2_0)
    (broadcastInDim S2x16384x1536 ![0, 1, 2] bcast_S1x1x1536_S2x16384x1536_0_1_2
      (broadcastInDim S1x1x1536 ![2] bcast_S1536_S1x1x1536_2
        (shapeCast _ (extractStridedSlice S1x1536 ![2, 0] (m ((c.tc : Thread nD τ).loc main_arg1)) slices_S3x1536_S1x1536_2_0)
          shapeCasts_S1x1536_S1536)))

/-- The convolution of the sequences. -/
def sumTerm : FVec Ideal S2x16384x1536 .f32 :=
  addf (addf (addf (broadcastInDim S2x16384x1536 ![0, 1, 2] bcast_S1x1x1536_S2x16384x1536_0_1_2
    (broadcastInDim S1x1x1536 ![2] bcast_S1536_S1x1x1536_2 (m ((c.tc : Thread nD τ).loc main_arg2)))) (tap0 m c)) (tap1 m c)) (tap2 m c)

theorem padded_eq (b : Fin 2) (l : Fin 16386) (q : Fin 1536) : paddedTerm m c (ix3 b l q)
    = if h : 1 ≤ l.val ∧ l.val - 1 < 16384 then
        rp m c ⟨512 + (b.val * 16384 + (l.val - 1)), by omega⟩ ⟨4608 + q.val, by omega⟩ else 0 := by
  unfold paddedTerm rp
  pointwise
  split
  · rfl
  · exact sitofp_zero (φ := .f32)

theorem sum_ref (b : Fin 2) (l : Fin 16384) (q : Fin 1536) : sumTerm m c (ix3 b l q)
    = rb m c q + paddedTerm m c (ix3 b ⟨l.val, by omega⟩ q) * rk m c 0 q
      + paddedTerm m c (ix3 b ⟨1 + l.val, by omega⟩ q) * rk m c 1 q
      + paddedTerm m c (ix3 b ⟨2 + l.val, by omega⟩ q) * rk m c 2 q := by
  unfold sumTerm tap0 tap1 tap2 rb rk
  generalize paddedTerm m c = z
  pointwise

/-- The reference's sum at a latent token. -/
theorem conv_ref (t : Fin 32768) (q : Fin 1536) :
    sumTerm m c (ix3 ⟨t.val / 16384, by omega⟩ ⟨t.val % 16384, by omega⟩ q) = conv (rp m c) (rk m c) (rb m c) t q := by
  have hb : paddedTerm m c (ix3 ⟨t.val / 16384, by omega⟩ ⟨t.val % 16384, by omega⟩ q) = before (rp m c) t q := by
    rw [padded_eq]
    unfold before
    by_cases h : t.val % 16384 = 0
    · rw [dif_neg (by dsimp only; omega), dif_pos h]
    · rw [dif_pos (by dsimp only; omega), dif_neg h]
      exact congrArg (fun k => rp m c k _) (Fin.ext (by
        show 512 + (t.val / 16384 * 16384 + (t.val % 16384 - 1)) = 512 + (t.val - 1)
        omega))
  have hh : paddedTerm m c (ix3 ⟨t.val / 16384, by omega⟩ ⟨1 + t.val % 16384, by omega⟩ q) = here (rp m c) t q := by
    rw [padded_eq]
    unfold here
    rw [dif_pos (by dsimp only; omega)]
    exact congrArg (fun k => rp m c k _) (Fin.ext (by
      show 512 + (t.val / 16384 * 16384 + (1 + t.val % 16384 - 1)) = 512 + t.val
      omega))
  have ha : paddedTerm m c (ix3 ⟨t.val / 16384, by omega⟩ ⟨2 + t.val % 16384, by omega⟩ q) = after (rp m c) t q := by
    rw [padded_eq]
    unfold after
    by_cases h : t.val % 16384 = 16383
    · rw [dif_neg (by dsimp only; omega), dif_pos h]
    · rw [dif_pos (by dsimp only; omega), dif_neg h]
      exact congrArg (fun k => rp m c k _) (Fin.ext (by
        show 512 + (t.val / 16384 * 16384 + (2 + t.val % 16384 - 1)) = 512 + (t.val + 1)
        omega))
  unfold conv
  rw [sum_ref, ← hb, ← hh, ← ha]

/-- The reference's three results. -/
theorem ref0 (t : Fin 32768) (q : Fin 512) :
    shapeCast S32768x512 (extractStridedSlice S2x16384x512 ![0, 0, 0] (sumTerm m c) slices_S2x16384x1536_S2x16384x512_0_0_0)
      shapeCasts_S2x16384x512_S32768x512 (ix2 t q) = part (rp m c) (rk m c) (rb m c) 0 t q := by
  refine Eq.trans ?_ (conv_ref m c t ⟨0 * 512 + q.val, by omega⟩)
  generalize sumTerm m c = z
  pointwise

theorem ref1 (t : Fin 32768) (q : Fin 512) :
    shapeCast S32768x512 (extractStridedSlice S2x16384x512 ![0, 0, 512] (sumTerm m c) slices_S2x16384x1536_S2x16384x512_0_0_512)
      shapeCasts_S2x16384x512_S32768x512 (ix2 t q) = part (rp m c) (rk m c) (rb m c) 1 t q := by
  refine Eq.trans ?_ (conv_ref m c t ⟨1 * 512 + q.val, by omega⟩)
  generalize sumTerm m c = z
  pointwise

theorem ref2 (t : Fin 32768) (q : Fin 512) :
    shapeCast S32768x512 (extractStridedSlice S2x16384x512 ![0, 0, 1024] (sumTerm m c) slices_S2x16384x1536_S2x16384x512_0_0_1024)
      shapeCasts_S2x16384x512_S32768x512 (ix2 t q) = part (rp m c) (rk m c) (rb m c) 2 t q := by
  refine Eq.trans ?_ (conv_ref m c t ⟨2 * 512 + q.val, by omega⟩)
  generalize sumTerm m c = z
  pointwise

end Cert.Conv

end
-- ==== Proof.Conv.Claims.lean ====
/- The convolution's claims: the frames and the value. -/
module

public import proofs.«01_k».proof.Defs
public import proofs.«01_k».proof.Proof.Gen.Kernel6
public import proofs.«01_k».proof.Proof.Gen.Kernel6.Frame
public import proofs.«01_k».proof.Proof.Conv.Kernel
public import proofs.«01_k».proof.Proof.Conv.Ref
public import Idealize.ShloMosaic.Adequacy
public import Idealize.ShloMosaic.Init

@[expose] public section

set_option maxRecDepth 16384

noncomputable section

namespace Cert.Conv

open Idealize.ShloMosaic Idealize.SL.Sem

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

theorem preserves : Cert.preserves_Kernel6_Kernel6Ideal := trivial

/-- The kernel's three results are the reference's. -/
theorem algebraic : Cert.algebraic_Kernel6Ideal_Reference6Ideal := by
  intro m ρ m' ρ' _ hagree
  refine ⟨_, _, _, Cert.Kernel6Ideal.Value.run_blocks (F := Ideal) m ρ, ?_⟩
  refine (θ_run Cert.Reference6Ideal.defs _ _).mono
    (fun _ h c => ⟨(h c).1.trans ?_, (h c).2.1.trans ?_, (h c).2.2.1.trans ?_, (h c).2.2.2⟩)
    (Cert.Reference6Ideal.Value.run (F := Ideal) m' ρ')
  · obtain ⟨e0, e1, e2⟩ := hagree c
    refine Eq.trans ?_ (first_value m c).symm
    funext i
    have ei : i = ix2 (i 0) (i 1) := by
      funext a
      fin_cases a <;> rfl
    refine (congrArg _ ei).trans ((ref0 m' c (i 0) (i 1)).trans ?_)
    have f0 : rp m' c = ap m c := by
      unfold rp ap
      rw [← e0]
    have f1 : rk m' c = aw m c := by
      unfold rk aw
      rw [← e1]
    have f2 : rb m' c = ab m c := by
      unfold rb ab
      rw [← e2]
    rw [f0, f1, f2]
  · obtain ⟨e0, e1, e2⟩ := hagree c
    refine Eq.trans ?_ (second_value m c).symm
    funext i
    have ei : i = ix2 (i 0) (i 1) := by
      funext a
      fin_cases a <;> rfl
    refine (congrArg _ ei).trans ((ref1 m' c (i 0) (i 1)).trans ?_)
    have f0 : rp m' c = ap m c := by
      unfold rp ap
      rw [← e0]
    have f1 : rk m' c = aw m c := by
      unfold rk aw
      rw [← e1]
    have f2 : rb m' c = ab m c := by
      unfold rb ab
      rw [← e2]
    rw [f0, f1, f2]
  · obtain ⟨e0, e1, e2⟩ := hagree c
    refine Eq.trans ?_ (third_value m c).symm
    funext i
    have ei : i = ix2 (i 0) (i 1) := by
      funext a
      fin_cases a <;> rfl
    refine (congrArg _ ei).trans ((ref2 m' c (i 0) (i 1)).trans ?_)
    have f0 : rp m' c = ap m c := by
      unfold rp ap
      rw [← e0]
    have f1 : rk m' c = aw m c := by
      unfold rk aw
      rw [← e1]
    have f2 : rb m' c = ab m c := by
      unfold rb ab
      rw [← e2]
    rw [f0, f1, f2]

end Cert.Conv

end
-- ==== Proof.lean ====
module

public import proofs.«01_k».proof.Defs
public import proofs.«01_k».proof.Proof.Na.Claims
public import proofs.«01_k».proof.Proof.Proj.Claims
public import proofs.«01_k».proof.Proof.Merge.Claims
public import proofs.«01_k».proof.Proof.Gates.Claims
public import proofs.«01_k».proof.Proof.Router.Claims
public import proofs.«01_k».proof.Proof.Conv.Claims
public import proofs.«01_k».proof.Proof.Gen.Kernel
public import proofs.«01_k».proof.Proof.Gen.KernelIdeal
public import proofs.«01_k».proof.Proof.Gen.ReferenceIdeal
public import proofs.«01_k».proof.Proof.Gen.Kernel2Ideal.Value
public import proofs.«01_k».proof.Proof.Gen.Kernel3Ideal.Value
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Na.preFacts,
    Cert.Na.frame_p, Cert.Na.frame_pi, Cert.Na.frame_pi_pre, Cert.Na.frame_ri, Cert.Na.frame_ri_pre,
    Cert.Proj.frame_p, Cert.Proj.frame_pi, Cert.Proj.frame_ri,
    Cert.Merge.frame_p, Cert.Merge.frame_pi, Cert.Merge.frame_ri,
    Cert.Gates.frame_p, Cert.Gates.frame_pi, Cert.Gates.frame_ri,
    Cert.Router.frame_p, Cert.Router.frame_pi, Cert.Router.frame_ri,
    Cert.Conv.frame_p, Cert.Conv.frame_pi, Cert.Conv.frame_ri,
    Cert.Na.preserves, Cert.Na.algebraic, Cert.Proj.preserves, Cert.Proj.algebraic,
    Cert.Merge.preserves, Cert.Merge.algebraic, Cert.Gates.preserves, Cert.Gates.algebraic,
    Cert.Router.preserves, Cert.Router.algebraic,
    Cert.Conv.preserves, Cert.Conv.algebraic⟩

end Cert.Proof

end
